-- ==== Defs.lean ====
def Pre_Kernel [hPre_in_tables : Cert.Pre_in_tables.Facts] (m : (ℓ : Loc Cert.Kernel.nD Cert.Kernel.τ Cert.Kernel.sig) → Buf (Elt Bits) ℓ) : Prop :=
  ∀ c : Dev Cert.Kernel.nD,
    (Cert.Pre_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_tables : Cert.Pre_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_tables [hPre_in_tables : Cert.Pre_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_tables : Cert.Pre_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_tables [hReferenceIdeal : Cert.ReferenceIdeal.Facts] [hPre_in_tables : Cert.Pre_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_tables : Cert.Pre_in_tables.Facts),
    quiescent_Kernel (hKernel := hKernel) (hPre_in_tables := hPre_in_tables)
    ∧ quiescent_KernelIdeal (hKernelIdeal := hKernelIdeal) (hPre_in_tables := hPre_in_tables)
    ∧ quiescent_ReferenceIdeal (hReferenceIdeal := hReferenceIdeal)
    ∧ quiescent_ReferenceIdeal_pre_in_tables (hReferenceIdeal := hReferenceIdeal) (hPre_in_tables := hPre_in_tables)
    ∧ preserves_Kernel_KernelIdeal
    ∧ algebraic_KernelIdeal_ReferenceIdeal (hKernelIdeal := hKernelIdeal) (hReferenceIdeal := hReferenceIdeal) (hPre_in_tables := hPre_in_tables)
-- ==== Pre_in_tables.lean ====
abbrev S16384x20 : Shape := ⟨2, ![16384, 20]⟩
abbrev S13x128 : Shape := ⟨2, ![13, 128]⟩
abbrev S4x128 : Shape := ⟨2, ![4, 128]⟩
abbrev S52x128 : Shape := ⟨2, ![52, 128]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel

variable [Facts]

def fn_part1 {F : FTy → Type} [FloatOps F] (main_arg2 : IVec S16384x20 32) (main_v12 : IVec S_ 1) (main_v14 : IVec S16384x20 1) (main_v15 : IVec S16384x20 32) : IVec S_ 1 :=
  let main_v16 : IVec S16384x20 1 := cmpi .slt main_arg2 main_v15
  let main_v17 : IVec S16384x20 1 := andi main_v14 main_v16
  let main_c_7 : IVec S_ 1 := constantI S_ 1 1#1
  let main_v18 : IVec S_ 1 := (fun x v => Host.reduce IntOp.andi x v reducesTo_S16384x20_S_d0_1 h_S_) main_v17 main_c_7
  let main_v19 : IVec S_ 1 := andi main_v12 main_v18
  main_v19

def fn {F : FTy → Type} [FloatOps F] (main_arg0 : IVec S16384x20 32) (main_arg1 : IVec S16384x20 32) (main_arg2 : IVec S16384x20 32) (main_arg3 : FVec F S13x128 .f32) (main_arg4 : FVec F S4x128 .f32) (main_arg5 : FVec F S52x128 .f32) : IVec S_ 1 :=
  let main_c : IVec S_ 32 := constantI S_ 32 0#32
  let main_v0 : IVec S16384x20 32 := broadcastInDim S16384x20 ![] bcast_S_S16384x20 main_c
  let main_v1 : IVec S16384x20 1 := cmpi .sge main_arg0 main_v0
  let main_c_0 : IVec S_ 32 := constantI S_ 32 13#32
  let main_v2 : IVec S16384x20 32 := broadcastInDim S16384x20 ![] bcast_S_S16384x20 main_c_0
  let main_v3 : IVec S16384x20 1 := cmpi .slt main_arg0 main_v2
  let main_v4 : IVec S16384x20 1 := andi main_v1 main_v3
  let main_c_1 : IVec S_ 1 := constantI S_ 1 1#1
  let main_v5 : IVec S_ 1 := (fun x v => Host.reduce IntOp.andi x v reducesTo_S16384x20_S_d0_1 h_S_) main_v4 main_c_1
  let main_c_2 : IVec S_ 32 := constantI S_ 32 4294967280#32
  let main_v6 : IVec S16384x20 32 := broadcastInDim S16384x20 ![] bcast_S_S16384x20 main_c_2
  let main_v7 : IVec S16384x20 1 := cmpi .sge main_arg1 main_v6
  let main_c_3 : IVec S_ 32 := constantI S_ 32 4#32
  let main_v8 : IVec S16384x20 32 := broadcastInDim S16384x20 ![] bcast_S_S16384x20 main_c_3
  let main_v9 : IVec S16384x20 1 := cmpi .slt main_arg1 main_v8
  let main_v10 : IVec S16384x20 1 := andi main_v7 main_v9
  let main_c_4 : IVec S_ 1 := constantI S_ 1 1#1
  let main_v11 : IVec S_ 1 := (fun x v => Host.reduce IntOp.andi x v reducesTo_S16384x20_S_d0_1 h_S_) main_v10 main_c_4
  let main_v12 : IVec S_ 1 := andi main_v5 main_v11
  let main_c_5 : IVec S_ 32 := constantI S_ 32 4294967272#32
  let main_v13 : IVec S16384x20 32 := broadcastInDim S16384x20 ![] bcast_S_S16384x20 main_c_5
  let main_v14 : IVec S16384x20 1 := cmpi .sge main_arg2 main_v13
  let main_c_6 : IVec S_ 32 := constantI S_ 32 52#32
  let main_v15 : IVec S16384x20 32 := broadcastInDim S16384x20 ![] bcast_S_S16384x20 main_c_6
  fn_part1 (F := F) main_arg2 main_v12 main_v14 main_v15
-- ==== Kernel.lean ====
abbrev S16384x20 : Shape := ⟨2, ![16384, 20]⟩
abbrev S13x128 : Shape := ⟨2, ![13, 128]⟩
abbrev S4x128 : Shape := ⟨2, ![4, 128]⟩
abbrev S52x128 : Shape := ⟨2, ![52, 128]⟩
abbrev S20x16384 : Shape := ⟨2, ![20, 16384]⟩
abbrev S_ : Shape := ⟨0, ![]⟩
abbrev S60x16384 : Shape := ⟨2, ![60, 16384]⟩
abbrev S80x16384 : Shape := ⟨2, ![80, 16384]⟩
abbrev S60x512 : Shape := ⟨2, ![60, 512]⟩
abbrev S80x512 : Shape := ⟨2, ![80, 512]⟩
abbrev S16 : Shape := ⟨1, ![16]⟩
abbrev S1x16 : Shape := ⟨2, ![1, 16]⟩
abbrev S80x256 : Shape := ⟨2, ![80, 256]⟩
abbrev S16384x128 : Shape := ⟨2, ![16384, 128]⟩
abbrev S80x2048 : Shape := ⟨2, ![80, 2048]⟩
abbrev S2048x128 : Shape := ⟨2, ![2048, 128]⟩
abbrev S80x128 : Shape := ⟨2, ![80, 128]⟩

abbrev nBuf : Table → Nat
  | .hbm => 18
  | .local .tc .vmem => 8
  | .local .scVector .vmem => 2
  | _ => 0

abbrev bufTy : (tb : Table) → Fin (nBuf tb) → BufTy
  | .hbm, ⟨0, _⟩ => ⟨S16384x20, .i32⟩
  | .hbm, ⟨1, _⟩ => ⟨S16384x20, .i32⟩
  | .hbm, ⟨2, _⟩ => ⟨S16384x20, .i32⟩
  | .hbm, ⟨3, _⟩ => ⟨S13x128, .f32⟩
  | .hbm, ⟨4, _⟩ => ⟨S4x128, .f32⟩
  | .hbm, ⟨5, _⟩ => ⟨S52x128, .f32⟩
  | .hbm, ⟨6, _⟩ => ⟨S20x16384, .i32⟩
  | .hbm, ⟨7, _⟩ => ⟨S20x16384, .i32⟩
  | .hbm, ⟨8, _⟩ => ⟨S_, .i32⟩
  | .hbm, ⟨9, _⟩ => ⟨S20x16384, .i32⟩
  | .hbm, ⟨10, _⟩ => ⟨S20x16384, .i32⟩
  | .hbm, ⟨11, _⟩ => ⟨S20x16384, .i32⟩
  | .hbm, ⟨12, _⟩ => ⟨S_, .i32⟩
  | .hbm, ⟨13, _⟩ => ⟨S20x16384, .i32⟩
  | .hbm, ⟨14, _⟩ => ⟨S20x16384, .i32⟩
  | .hbm, ⟨15, _⟩ => ⟨S60x16384, .i32⟩
  | .hbm, ⟨16, _⟩ => ⟨S80x16384, .f32⟩
  | .hbm, ⟨17, _⟩ => ⟨S16384x128, .f32⟩
  | .local .tc .vmem, ⟨0, _⟩ => ⟨S80x2048, .f32⟩
  | .local .tc .vmem, ⟨1, _⟩ => ⟨S80x2048, .f32⟩
  | .local .tc .vmem, ⟨2, _⟩ => ⟨S13x128, .f32⟩
  | .local .tc .vmem, ⟨3, _⟩ => ⟨S4x128, .f32⟩
  | .local .tc .vmem, ⟨4, _⟩ => ⟨S52x128, .f32⟩
  | .local .tc .vmem, ⟨5, _⟩ => ⟨S2048x128, .f32⟩
  | .local .tc .vmem, ⟨6, _⟩ => ⟨S2048x128, .f32⟩
  | .local .tc .vmem, ⟨7, _⟩ => ⟨S80x128, .f32⟩
  | .local .scVector .vmem, ⟨0, _⟩ => ⟨S60x512, .i32⟩
  | .local .scVector .vmem, ⟨1, _⟩ => ⟨S80x512, .f32⟩
  | _, _ => ⟨S16384x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v7_scv : Ref sig .scVector := ⟨.hbm, 15, rfl⟩
abbrev main_v8_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc1_scratch0 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k0_t1_loop : Scf.Loop 32 :=
  let c0_i32_2 : BitVec 32 := 0#32
  let c80_i32 : BitVec 32 := 80#32
  let v6 : BitVec 32 := Scalar.addi c0_i32_2 c80_i32
  let c1_i32 : BitVec 32 := 1#32
  ⟨c0_i32_2, v6, c1_i32⟩
def k0_off2 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v30 : Index := Scalar.indexCast arg9
  let c0 : Index := 0#32
  ![v30.toNat, 0]
def k0_off3 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v32 : Index := Scalar.indexCast arg9
  let c16 : Index := 16#32
  ![v32.toNat, 16]
def k0_off4 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v34 : Index := Scalar.indexCast arg9
  let c32 : Index := 32#32
  ![v34.toNat, 32]
def k0_off5 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v36 : Index := Scalar.indexCast arg9
  let c48 : Index := 48#32
  ![v36.toNat, 48]
def k0_off6 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v38 : Index := Scalar.indexCast arg9
  let c64 : Index := 64#32
  ![v38.toNat, 64]
def k0_off7 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v40 : Index := Scalar.indexCast arg9
  let c80 : Index := 80#32
  ![v40.toNat, 80]
def k0_off8 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v42 : Index := Scalar.indexCast arg9
  let c96 : Index := 96#32
  ![v42.toNat, 96]
def k0_off9 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v44 : Index := Scalar.indexCast arg9
  let c112 : Index := 112#32
  ![v44.toNat, 112]
def k0_off10 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v46 : Index := Scalar.indexCast arg9
  let c128 : Index := 128#32
  ![v46.toNat, 128]
def k0_off11 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v48 : Index := Scalar.indexCast arg9
  let c144 : Index := 144#32
  ![v48.toNat, 144]
def k0_off12 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v50 : Index := Scalar.indexCast arg9
  let c160 : Index := 160#32
  ![v50.toNat, 160]
def k0_off13 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v52 : Index := Scalar.indexCast arg9
  let c176 : Index := 176#32
  ![v52.toNat, 176]
def k0_off14 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v54 : Index := Scalar.indexCast arg9
  let c192 : Index := 192#32
  ![v54.toNat, 192]
def k0_off15 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v56 : Index := Scalar.indexCast arg9
  let c208 : Index := 208#32
  ![v56.toNat, 208]
def k0_off16 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v58 : Index := Scalar.indexCast arg9
  let c224 : Index := 224#32
  ![v58.toNat, 224]
def k0_off17 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v60 : Index := Scalar.indexCast arg9
  let c240 : Index := 240#32
  ![v60.toNat, 240]
def k0_off18 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v62 : Index := Scalar.indexCast arg9
  let c256 : Index := 256#32
  ![v62.toNat, 256]
def k0_off19 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v64 : Index := Scalar.indexCast arg9
  let c272 : Index := 272#32
  ![v64.toNat, 272]
def k0_off20 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v66 : Index := Scalar.indexCast arg9
  let c288 : Index := 288#32
  ![v66.toNat, 288]
def k0_off21 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v68 : Index := Scalar.indexCast arg9
  let c304 : Index := 304#32
  ![v68.toNat, 304]
def k0_off22 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v70 : Index := Scalar.indexCast arg9
  let c320 : Index := 320#32
  ![v70.toNat, 320]
def k0_off23 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v72 : Index := Scalar.indexCast arg9
  let c336 : Index := 336#32
  ![v72.toNat, 336]
def k0_off24 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v74 : Index := Scalar.indexCast arg9
  let c352 : Index := 352#32
  ![v74.toNat, 352]
def k0_off25 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v76 : Index := Scalar.indexCast arg9
  let c368 : Index := 368#32
  ![v76.toNat, 368]
def k0_off26 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v78 : Index := Scalar.indexCast arg9
  let c384 : Index := 384#32
  ![v78.toNat, 384]
def k0_off27 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v80 : Index := Scalar.indexCast arg9
  let c400 : Index := 400#32
  ![v80.toNat, 400]
def k0_off28 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v82 : Index := Scalar.indexCast arg9
  let c416 : Index := 416#32
  ![v82.toNat, 416]
def k0_off29 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v84 : Index := Scalar.indexCast arg9
  let c432 : Index := 432#32
  ![v84.toNat, 432]
def k0_off30 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v86 : Index := Scalar.indexCast arg9
  let c448 : Index := 448#32
  ![v86.toNat, 448]
def k0_off31 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v88 : Index := Scalar.indexCast arg9
  let c464 : Index := 464#32
  ![v88.toNat, 464]
def k0_off32 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v90 : Index := Scalar.indexCast arg9
  let c480 : Index := 480#32
  ![v90.toNat, 480]
def k0_off33 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v92 : Index := Scalar.indexCast arg9
  let c496 : Index := 496#32
  ![v92.toNat, 496]
@[reducible] def k0_t2_loop : Scf.Loop 32 :=
  let c0_i32_8 : BitVec 32 := 0#32
  let c16_i32 : BitVec 32 := 16#32
  let v11 : BitVec 32 := Scalar.addi c0_i32_8 c16_i32
  let c1_i32_9 : BitVec 32 := 1#32
  ⟨c0_i32_8, v11, c1_i32_9⟩
def k0_off34 (k0_t2 : Fin k0_t2_loop.trips) : Fin 2 → Nat :=
  let c0_i32_42 : BitVec 32 := 0#32
  let v34 : Index := Scalar.indexCast c0_i32_42
  let c0_i32_8 : BitVec 32 := 0#32
  let c1_i32_9 : BitVec 32 := 1#32
  let arg9 : BitVec 32 := Scf.iv c0_i32_8 c1_i32_9 k0_t2
  let c16_i32_41 : BitVec 32 := 16#32
  let v33 : BitVec 32 := Scalar.muli arg9 c16_i32_41
  let v35 : Index := Scalar.indexCast v33
  ![0, v35.toNat]
def k0_off35 (k0_t2 : Fin k0_t2_loop.trips) : Fin 2 → Nat :=
  let c1_i32_44 : BitVec 32 := 1#32
  let v38 : Index := Scalar.indexCast c1_i32_44
  let c0_i32_8 : BitVec 32 := 0#32
  let c1_i32_9 : BitVec 32 := 1#32
  let arg9 : BitVec 32 := Scf.iv c0_i32_8 c1_i32_9 k0_t2
  let c16_i32_43 : BitVec 32 := 16#32
  let v37 : BitVec 32 := Scalar.muli arg9 c16_i32_43
  let v39 : Index := Scalar.indexCast v37
  ![1, v39.toNat]
def k0_off36 (k0_t2 : Fin k0_t2_loop.trips) : Fin 2 → Nat :=
  let c2_i32_46 : BitVec 32 := 2#32
  let v42 : Index := Scalar.indexCast c2_i32_46
  let c0_i32_8 : BitVec 32 := 0#32
  let c1_i32_9 : BitVec 32 := 1#32
  let arg9 : BitVec 32 := Scf.iv c0_i32_8 c1_i32_9 k0_t2
  let c16_i32_45 : BitVec 32 := 16#32
  let v41 : BitVec 32 := Scalar.muli arg9 c16_i32_45
  let v43 : Index := Scalar.indexCast v41
  ![2, v43.toNat]
def k0_off37 (k0_t2 : Fin k0_t2_loop.trips) : Fin 2 → Nat :=
  let c3_i32 : BitVec 32 := 3#32
  let v46 : Index := Scalar.indexCast c3_i32
  let c0_i32_8 : BitVec 32 := 0#32
  let c1_i32_9 : BitVec 32 := 1#32
  let arg9 : BitVec 32 := Scf.iv c0_i32_8 c1_i32_9 k0_t2
  let c16_i32_47 : BitVec 32 := 16#32
  let v45 : BitVec 32 := Scalar.muli arg9 c16_i32_47
  let v47 : Index := Scalar.indexCast v45
  ![3, v47.toNat]
def k0_off38 (k0_t2 : Fin k0_t2_loop.trips) : Fin 2 → Nat :=
  let c4_i32 : BitVec 32 := 4#32
  let v50 : Index := Scalar.indexCast c4_i32
  let c0_i32_8 : BitVec 32 := 0#32
  let c1_i32_9 : BitVec 32 := 1#32
  let arg9 : BitVec 32 := Scf.iv c0_i32_8 c1_i32_9 k0_t2
  let c16_i32_48 : BitVec 32 := 16#32
  let v49 : BitVec 32 := Scalar.muli arg9 c16_i32_48
  let v51 : Index := Scalar.indexCast v49
  ![4, v51.toNat]
def k0_off39 (k0_t2 : Fin k0_t2_loop.trips) : Fin 2 → Nat :=
  let c5_i32 : BitVec 32 := 5#32
  let v54 : Index := Scalar.indexCast c5_i32
  let c0_i32_8 : BitVec 32 := 0#32
  let c1_i32_9 : BitVec 32 := 1#32
  let arg9 : BitVec 32 := Scf.iv c0_i32_8 c1_i32_9 k0_t2
  let c16_i32_49 : BitVec 32 := 16#32
  let v53 : BitVec 32 := Scalar.muli arg9 c16_i32_49
  let v55 : Index := Scalar.indexCast v53
  ![5, v55.toNat]
def k0_off40 (k0_t2 : Fin k0_t2_loop.trips) : Fin 2 → Nat :=
  let c6_i32 : BitVec 32 := 6#32
  let v58 : Index := Scalar.indexCast c6_i32
  let c0_i32_8 : BitVec 32 := 0#32
  let c1_i32_9 : BitVec 32 := 1#32
  let arg9 : BitVec 32 := Scf.iv c0_i32_8 c1_i32_9 k0_t2
  let c16_i32_50 : BitVec 32 := 16#32
  let v57 : BitVec 32 := Scalar.muli arg9 c16_i32_50
  let v59 : Index := Scalar.indexCast v57
  ![6, v59.toNat]
def k0_off41 (k0_t2 : Fin k0_t2_loop.trips) : Fin 2 → Nat :=
  let c7_i32 : BitVec 32 := 7#32
  let v62 : Index := Scalar.indexCast c7_i32
  let c0_i32_8 : BitVec 32 := 0#32
  let c1_i32_9 : BitVec 32 := 1#32
  let arg9 : BitVec 32 := Scf.iv c0_i32_8 c1_i32_9 k0_t2
  let c16_i32_51 : BitVec 32 := 16#32
  let v61 : BitVec 32 := Scalar.muli arg9 c16_i32_51
  let v63 : Index := Scalar.indexCast v61
  ![7, v63.toNat]
def k0_off42 (k0_t2 : Fin k0_t2_loop.trips) : Fin 2 → Nat :=
  let c8_i32 : BitVec 32 := 8#32
  let v66 : Index := Scalar.indexCast c8_i32
  let c0_i32_8 : BitVec 32 := 0#32
  let c1_i32_9 : BitVec 32 := 1#32
  let arg9 : BitVec 32 := Scf.iv c0_i32_8 c1_i32_9 k0_t2
  let c16_i32_52 : BitVec 32 := 16#32
  let v65 : BitVec 32 := Scalar.muli arg9 c16_i32_52
  let v67 : Index := Scalar.indexCast v65
  ![8, v67.toNat]
def k0_off43 (k0_t2 : Fin k0_t2_loop.trips) : Fin 2 → Nat :=
  let c9_i32 : BitVec 32 := 9#32
  let v70 : Index := Scalar.indexCast c9_i32
  let c0_i32_8 : BitVec 32 := 0#32
  let c1_i32_9 : BitVec 32 := 1#32
  let arg9 : BitVec 32 := Scf.iv c0_i32_8 c1_i32_9 k0_t2
  let c16_i32_53 : BitVec 32 := 16#32
  let v69 : BitVec 32 := Scalar.muli arg9 c16_i32_53
  let v71 : Index := Scalar.indexCast v69
  ![9, v71.toNat]

def k0_chk1 (v32 : IVec S16 32) (v36 : IVec S16 32) : Prop :=
  (∀ a x, ((![v36, v32] : Fin 2 → IVec S16 32) a x).toNat < S80x512.size a)
theorem k0_idx1_inb : ∀ (v32 : IVec S16 32) (v36 : IVec S16 32) (k0_hw1 : k0_chk1 v32 v36), ∀ a x, ((![v36, v32] : Fin 2 → IVec S16 32) a x).toNat < S80x512.size a := fun v32 v36 k0_hw1 => k0_hw1

def k0_chk2 (v32 : IVec S16 32) (v40 : IVec S16 32) : Prop :=
  (∀ a x, ((![v40, v32] : Fin 2 → IVec S16 32) a x).toNat < S80x512.size a)
theorem k0_idx2_inb : ∀ (v32 : IVec S16 32) (v40 : IVec S16 32) (k0_hw2 : k0_chk2 v32 v40), ∀ a x, ((![v40, v32] : Fin 2 → IVec S16 32) a x).toNat < S80x512.size a := fun v32 v40 k0_hw2 => k0_hw2

def k0_chk3 (v32 : IVec S16 32) (v44 : IVec S16 32) : Prop :=
  (∀ a x, ((![v44, v32] : Fin 2 → IVec S16 32) a x).toNat < S80x512.size a)
theorem k0_idx3_inb : ∀ (v32 : IVec S16 32) (v44 : IVec S16 32) (k0_hw3 : k0_chk3 v32 v44), ∀ a x, ((![v44, v32] : Fin 2 → IVec S16 32) a x).toNat < S80x512.size a := fun v32 v44 k0_hw3 => k0_hw3

def k0_chk4 (v32 : IVec S16 32) (v48 : IVec S16 32) : Prop :=
  (∀ a x, ((![v48, v32] : Fin 2 → IVec S16 32) a x).toNat < S80x512.size a)
theorem k0_idx4_inb : ∀ (v32 : IVec S16 32) (v48 : IVec S16 32) (k0_hw4 : k0_chk4 v32 v48), ∀ a x, ((![v48, v32] : Fin 2 → IVec S16 32) a x).toNat < S80x512.size a := fun v32 v48 k0_hw4 => k0_hw4

def k0_chk5 (v32 : IVec S16 32) (v52 : IVec S16 32) : Prop :=
  (∀ a x, ((![v52, v32] : Fin 2 → IVec S16 32) a x).toNat < S80x512.size a)
theorem k0_idx5_inb : ∀ (v32 : IVec S16 32) (v52 : IVec S16 32) (k0_hw5 : k0_chk5 v32 v52), ∀ a x, ((![v52, v32] : Fin 2 → IVec S16 32) a x).toNat < S80x512.size a := fun v32 v52 k0_hw5 => k0_hw5

def k0_chk6 (v32 : IVec S16 32) (v56 : IVec S16 32) : Prop :=
  (∀ a x, ((![v56, v32] : Fin 2 → IVec S16 32) a x).toNat < S80x512.size a)
theorem k0_idx6_inb : ∀ (v32 : IVec S16 32) (v56 : IVec S16 32) (k0_hw6 : k0_chk6 v32 v56), ∀ a x, ((![v56, v32] : Fin 2 → IVec S16 32) a x).toNat < S80x512.size a := fun v32 v56 k0_hw6 => k0_hw6

def k0_chk7 (v32 : IVec S16 32) (v60 : IVec S16 32) : Prop :=
  (∀ a x, ((![v60, v32] : Fin 2 → IVec S16 32) a x).toNat < S80x512.size a)
theorem k0_idx7_inb : ∀ (v32 : IVec S16 32) (v60 : IVec S16 32) (k0_hw7 : k0_chk7 v32 v60), ∀ a x, ((![v60, v32] : Fin 2 → IVec S16 32) a x).toNat < S80x512.size a := fun v32 v60 k0_hw7 => k0_hw7

def k0_chk8 (v32 : IVec S16 32) (v64 : IVec S16 32) : Prop :=
  (∀ a x, ((![v64, v32] : Fin 2 → IVec S16 32) a x).toNat < S80x512.size a)
theorem k0_idx8_inb : ∀ (v32 : IVec S16 32) (v64 : IVec S16 32) (k0_hw8 : k0_chk8 v32 v64), ∀ a x, ((![v64, v32] : Fin 2 → IVec S16 32) a x).toNat < S80x512.size a := fun v32 v64 k0_hw8 => k0_hw8

def k0_chk9 (v32 : IVec S16 32) (v68 : IVec S16 32) : Prop :=
  (∀ a x, ((![v68, v32] : Fin 2 → IVec S16 32) a x).toNat < S80x512.size a)
theorem k0_idx9_inb : ∀ (v32 : IVec S16 32) (v68 : IVec S16 32) (k0_hw9 : k0_chk9 v32 v68), ∀ a x, ((![v68, v32] : Fin 2 → IVec S16 32) a x).toNat < S80x512.size a := fun v32 v68 k0_hw9 => k0_hw9

def k0_chk10 (v32 : IVec S16 32) (v72 : IVec S16 32) : Prop :=
  (∀ a x, ((![v72, v32] : Fin 2 → IVec S16 32) a x).toNat < S80x512.size a)
theorem k0_idx10_inb : ∀ (v32 : IVec S16 32) (v72 : IVec S16 32) (k0_hw10 : k0_chk10 v32 v72), ∀ a x, ((![v72, v32] : Fin 2 → IVec S16 32) a x).toNat < S80x512.size a := fun v32 v72 k0_hw10 => k0_hw10
def k0_off44 (k0_t2 : Fin k0_t2_loop.trips) : Fin 2 → Nat :=
  let c10_i32 : BitVec 32 := 10#32
  let v94 : Index := Scalar.indexCast c10_i32
  let c0_i32_8 : BitVec 32 := 0#32
  let c1_i32_9 : BitVec 32 := 1#32
  let arg9 : BitVec 32 := Scf.iv c0_i32_8 c1_i32_9 k0_t2
  let c16_i32_64 : BitVec 32 := 16#32
  let v93 : BitVec 32 := Scalar.muli arg9 c16_i32_64
  let v95 : Index := Scalar.indexCast v93
  ![10, v95.toNat]
def k0_off45 (k0_t2 : Fin k0_t2_loop.trips) : Fin 2 → Nat :=
  let c11_i32 : BitVec 32 := 11#32
  let v98 : Index := Scalar.indexCast c11_i32
  let c0_i32_8 : BitVec 32 := 0#32
  let c1_i32_9 : BitVec 32 := 1#32
  let arg9 : BitVec 32 := Scf.iv c0_i32_8 c1_i32_9 k0_t2
  let c16_i32_65 : BitVec 32 := 16#32
  let v97 : BitVec 32 := Scalar.muli arg9 c16_i32_65
  let v99 : Index := Scalar.indexCast v97
  ![11, v99.toNat]
def k0_off46 (k0_t2 : Fin k0_t2_loop.trips) : Fin 2 → Nat :=
  let c12_i32 : BitVec 32 := 12#32
  let v102 : Index := Scalar.indexCast c12_i32
  let c0_i32_8 : BitVec 32 := 0#32
  let c1_i32_9 : BitVec 32 := 1#32
  let arg9 : BitVec 32 := Scf.iv c0_i32_8 c1_i32_9 k0_t2
  let c16_i32_66 : BitVec 32 := 16#32
  let v101 : BitVec 32 := Scalar.muli arg9 c16_i32_66
  let v103 : Index := Scalar.indexCast v101
  ![12, v103.toNat]
def k0_off47 (k0_t2 : Fin k0_t2_loop.trips) : Fin 2 → Nat :=
  let c13_i32 : BitVec 32 := 13#32
  let v106 : Index := Scalar.indexCast c13_i32
  let c0_i32_8 : BitVec 32 := 0#32
  let c1_i32_9 : BitVec 32 := 1#32
  let arg9 : BitVec 32 := Scf.iv c0_i32_8 c1_i32_9 k0_t2
  let c16_i32_67 : BitVec 32 := 16#32
  let v105 : BitVec 32 := Scalar.muli arg9 c16_i32_67
  let v107 : Index := Scalar.indexCast v105
  ![13, v107.toNat]
def k0_off48 (k0_t2 : Fin k0_t2_loop.trips) : Fin 2 → Nat :=
  let c14_i32 : BitVec 32 := 14#32
  let v110 : Index := Scalar.indexCast c14_i32
  let c0_i32_8 : BitVec 32 := 0#32
  let c1_i32_9 : BitVec 32 := 1#32
  let arg9 : BitVec 32 := Scf.iv c0_i32_8 c1_i32_9 k0_t2
  let c16_i32_68 : BitVec 32 := 16#32
  let v109 : BitVec 32 := Scalar.muli arg9 c16_i32_68
  let v111 : Index := Scalar.indexCast v109
  ![14, v111.toNat]
def k0_off49 (k0_t2 : Fin k0_t2_loop.trips) : Fin 2 → Nat :=
  let c15_i32 : BitVec 32 := 15#32
  let v114 : Index := Scalar.indexCast c15_i32
  let c0_i32_8 : BitVec 32 := 0#32
  let c1_i32_9 : BitVec 32 := 1#32
  let arg9 : BitVec 32 := Scf.iv c0_i32_8 c1_i32_9 k0_t2
  let c16_i32_69 : BitVec 32 := 16#32
  let v113 : BitVec 32 := Scalar.muli arg9 c16_i32_69
  let v115 : Index := Scalar.indexCast v113
  ![15, v115.toNat]
def k0_off50 (k0_t2 : Fin k0_t2_loop.trips) : Fin 2 → Nat :=
  let c16_i32_71 : BitVec 32 := 16#32
  let v118 : Index := Scalar.indexCast c16_i32_71
  let c0_i32_8 : BitVec 32 := 0#32
  let c1_i32_9 : BitVec 32 := 1#32
  let arg9 : BitVec 32 := Scf.iv c0_i32_8 c1_i32_9 k0_t2
  let c16_i32_70 : BitVec 32 := 16#32
  let v117 : BitVec 32 := Scalar.muli arg9 c16_i32_70
  let v119 : Index := Scalar.indexCast v117
  ![16, v119.toNat]
def k0_off51 (k0_t2 : Fin k0_t2_loop.trips) : Fin 2 → Nat :=
  let c17_i32 : BitVec 32 := 17#32
  let v122 : Index := Scalar.indexCast c17_i32
  let c0_i32_8 : BitVec 32 := 0#32
  let c1_i32_9 : BitVec 32 := 1#32
  let arg9 : BitVec 32 := Scf.iv c0_i32_8 c1_i32_9 k0_t2
  let c16_i32_72 : BitVec 32 := 16#32
  let v121 : BitVec 32 := Scalar.muli arg9 c16_i32_72
  let v123 : Index := Scalar.indexCast v121
  ![17, v123.toNat]
def k0_off52 (k0_t2 : Fin k0_t2_loop.trips) : Fin 2 → Nat :=
  let c18_i32 : BitVec 32 := 18#32
  let v126 : Index := Scalar.indexCast c18_i32
  let c0_i32_8 : BitVec 32 := 0#32
  let c1_i32_9 : BitVec 32 := 1#32
  let arg9 : BitVec 32 := Scf.iv c0_i32_8 c1_i32_9 k0_t2
  let c16_i32_73 : BitVec 32 := 16#32
  let v125 : BitVec 32 := Scalar.muli arg9 c16_i32_73
  let v127 : Index := Scalar.indexCast v125
  ![18, v127.toNat]
def k0_off53 (k0_t2 : Fin k0_t2_loop.trips) : Fin 2 → Nat :=
  let c19_i32 : BitVec 32 := 19#32
  let v130 : Index := Scalar.indexCast c19_i32
  let c0_i32_8 : BitVec 32 := 0#32
  let c1_i32_9 : BitVec 32 := 1#32
  let arg9 : BitVec 32 := Scf.iv c0_i32_8 c1_i32_9 k0_t2
  let c16_i32_74 : BitVec 32 := 16#32
  let v129 : BitVec 32 := Scalar.muli arg9 c16_i32_74
  let v131 : Index := Scalar.indexCast v129
  ![19, v131.toNat]

def k0_chk11 (v32 : IVec S16 32) (v96 : IVec S16 32) : Prop :=
  (∀ a x, ((![v96, v32] : Fin 2 → IVec S16 32) a x).toNat < S80x512.size a)
theorem k0_idx11_inb : ∀ (v32 : IVec S16 32) (v96 : IVec S16 32) (k0_hw11 : k0_chk11 v32 v96), ∀ a x, ((![v96, v32] : Fin 2 → IVec S16 32) a x).toNat < S80x512.size a := fun v32 v96 k0_hw11 => k0_hw11

def k0_chk12 (v32 : IVec S16 32) (v100 : IVec S16 32) : Prop :=
  (∀ a x, ((![v100, v32] : Fin 2 → IVec S16 32) a x).toNat < S80x512.size a)
theorem k0_idx12_inb : ∀ (v32 : IVec S16 32) (v100 : IVec S16 32) (k0_hw12 : k0_chk12 v32 v100), ∀ a x, ((![v100, v32] : Fin 2 → IVec S16 32) a x).toNat < S80x512.size a := fun v32 v100 k0_hw12 => k0_hw12

def k0_chk13 (v32 : IVec S16 32) (v104 : IVec S16 32) : Prop :=
  (∀ a x, ((![v104, v32] : Fin 2 → IVec S16 32) a x).toNat < S80x512.size a)
theorem k0_idx13_inb : ∀ (v32 : IVec S16 32) (v104 : IVec S16 32) (k0_hw13 : k0_chk13 v32 v104), ∀ a x, ((![v104, v32] : Fin 2 → IVec S16 32) a x).toNat < S80x512.size a := fun v32 v104 k0_hw13 => k0_hw13

def k0_chk14 (v32 : IVec S16 32) (v108 : IVec S16 32) : Prop :=
  (∀ a x, ((![v108, v32] : Fin 2 → IVec S16 32) a x).toNat < S80x512.size a)
theorem k0_idx14_inb : ∀ (v32 : IVec S16 32) (v108 : IVec S16 32) (k0_hw14 : k0_chk14 v32 v108), ∀ a x, ((![v108, v32] : Fin 2 → IVec S16 32) a x).toNat < S80x512.size a := fun v32 v108 k0_hw14 => k0_hw14

def k0_chk15 (v32 : IVec S16 32) (v112 : IVec S16 32) : Prop :=
  (∀ a x, ((![v112, v32] : Fin 2 → IVec S16 32) a x).toNat < S80x512.size a)
theorem k0_idx15_inb : ∀ (v32 : IVec S16 32) (v112 : IVec S16 32) (k0_hw15 : k0_chk15 v32 v112), ∀ a x, ((![v112, v32] : Fin 2 → IVec S16 32) a x).toNat < S80x512.size a := fun v32 v112 k0_hw15 => k0_hw15

def k0_chk16 (v32 : IVec S16 32) (v116 : IVec S16 32) : Prop :=
  (∀ a x, ((![v116, v32] : Fin 2 → IVec S16 32) a x).toNat < S80x512.size a)
theorem k0_idx16_inb : ∀ (v32 : IVec S16 32) (v116 : IVec S16 32) (k0_hw16 : k0_chk16 v32 v116), ∀ a x, ((![v116, v32] : Fin 2 → IVec S16 32) a x).toNat < S80x512.size a := fun v32 v116 k0_hw16 => k0_hw16

def k0_chk17 (v32 : IVec S16 32) (v120 : IVec S16 32) : Prop :=
  (∀ a x, ((![v120, v32] : Fin 2 → IVec S16 32) a x).toNat < S80x512.size a)
theorem k0_idx17_inb : ∀ (v32 : IVec S16 32) (v120 : IVec S16 32) (k0_hw17 : k0_chk17 v32 v120), ∀ a x, ((![v120, v32] : Fin 2 → IVec S16 32) a x).toNat < S80x512.size a := fun v32 v120 k0_hw17 => k0_hw17

def k0_chk18 (v32 : IVec S16 32) (v124 : IVec S16 32) : Prop :=
  (∀ a x, ((![v124, v32] : Fin 2 → IVec S16 32) a x).toNat < S80x512.size a)
theorem k0_idx18_inb : ∀ (v32 : IVec S16 32) (v124 : IVec S16 32) (k0_hw18 : k0_chk18 v32 v124), ∀ a x, ((![v124, v32] : Fin 2 → IVec S16 32) a x).toNat < S80x512.size a := fun v32 v124 k0_hw18 => k0_hw18

def k0_chk19 (v32 : IVec S16 32) (v128 : IVec S16 32) : Prop :=
  (∀ a x, ((![v128, v32] : Fin 2 → IVec S16 32) a x).toNat < S80x512.size a)
theorem k0_idx19_inb : ∀ (v32 : IVec S16 32) (v128 : IVec S16 32) (k0_hw19 : k0_chk19 v32 v128), ∀ a x, ((![v128, v32] : Fin 2 → IVec S16 32) a x).toNat < S80x512.size a := fun v32 v128 k0_hw19 => k0_hw19

def k0_chk20 (v32 : IVec S16 32) (v132 : IVec S16 32) : Prop :=
  (∀ a x, ((![v132, v32] : Fin 2 → IVec S16 32) a x).toNat < S80x512.size a)
theorem k0_idx20_inb : ∀ (v32 : IVec S16 32) (v132 : IVec S16 32) (k0_hw20 : k0_chk20 v32 v132), ∀ a x, ((![v132, v32] : Fin 2 → IVec S16 32) a x).toNat < S80x512.size a := fun v32 v132 k0_hw20 => k0_hw20
def k0_off54 (k0_t2 : Fin k0_t2_loop.trips) : Fin 2 → Nat :=
  let c20_i32 : BitVec 32 := 20#32
  let v154 : Index := Scalar.indexCast c20_i32
  let c0_i32_8 : BitVec 32 := 0#32
  let c1_i32_9 : BitVec 32 := 1#32
  let arg9 : BitVec 32 := Scf.iv c0_i32_8 c1_i32_9 k0_t2
  let c16_i32_85 : BitVec 32 := 16#32
  let v153 : BitVec 32 := Scalar.muli arg9 c16_i32_85
  let v155 : Index := Scalar.indexCast v153
  ![20, v155.toNat]
def k0_off55 (k0_t2 : Fin k0_t2_loop.trips) : Fin 2 → Nat :=
  let c21_i32 : BitVec 32 := 21#32
  let v158 : Index := Scalar.indexCast c21_i32
  let c0_i32_8 : BitVec 32 := 0#32
  let c1_i32_9 : BitVec 32 := 1#32
  let arg9 : BitVec 32 := Scf.iv c0_i32_8 c1_i32_9 k0_t2
  let c16_i32_86 : BitVec 32 := 16#32
  let v157 : BitVec 32 := Scalar.muli arg9 c16_i32_86
  let v159 : Index := Scalar.indexCast v157
  ![21, v159.toNat]
def k0_off56 (k0_t2 : Fin k0_t2_loop.trips) : Fin 2 → Nat :=
  let c22_i32 : BitVec 32 := 22#32
  let v162 : Index := Scalar.indexCast c22_i32
  let c0_i32_8 : BitVec 32 := 0#32
  let c1_i32_9 : BitVec 32 := 1#32
  let arg9 : BitVec 32 := Scf.iv c0_i32_8 c1_i32_9 k0_t2
  let c16_i32_87 : BitVec 32 := 16#32
  let v161 : BitVec 32 := Scalar.muli arg9 c16_i32_87
  let v163 : Index := Scalar.indexCast v161
  ![22, v163.toNat]
def k0_off57 (k0_t2 : Fin k0_t2_loop.trips) : Fin 2 → Nat :=
  let c23_i32 : BitVec 32 := 23#32
  let v166 : Index := Scalar.indexCast c23_i32
  let c0_i32_8 : BitVec 32 := 0#32
  let c1_i32_9 : BitVec 32 := 1#32
  let arg9 : BitVec 32 := Scf.iv c0_i32_8 c1_i32_9 k0_t2
  let c16_i32_88 : BitVec 32 := 16#32
  let v165 : BitVec 32 := Scalar.muli arg9 c16_i32_88
  let v167 : Index := Scalar.indexCast v165
  ![23, v167.toNat]
def k0_off58 (k0_t2 : Fin k0_t2_loop.trips) : Fin 2 → Nat :=
  let c24_i32 : BitVec 32 := 24#32
  let v170 : Index := Scalar.indexCast c24_i32
  let c0_i32_8 : BitVec 32 := 0#32
  let c1_i32_9 : BitVec 32 := 1#32
  let arg9 : BitVec 32 := Scf.iv c0_i32_8 c1_i32_9 k0_t2
  let c16_i32_89 : BitVec 32 := 16#32
  let v169 : BitVec 32 := Scalar.muli arg9 c16_i32_89
  let v171 : Index := Scalar.indexCast v169
  ![24, v171.toNat]
def k0_off59 (k0_t2 : Fin k0_t2_loop.trips) : Fin 2 → Nat :=
  let c25_i32 : BitVec 32 := 25#32
  let v174 : Index := Scalar.indexCast c25_i32
  let c0_i32_8 : BitVec 32 := 0#32
  let c1_i32_9 : BitVec 32 := 1#32
  let arg9 : BitVec 32 := Scf.iv c0_i32_8 c1_i32_9 k0_t2
  let c16_i32_90 : BitVec 32 := 16#32
  let v173 : BitVec 32 := Scalar.muli arg9 c16_i32_90
  let v175 : Index := Scalar.indexCast v173
  ![25, v175.toNat]
def k0_off60 (k0_t2 : Fin k0_t2_loop.trips) : Fin 2 → Nat :=
  let c26_i32 : BitVec 32 := 26#32
  let v178 : Index := Scalar.indexCast c26_i32
  let c0_i32_8 : BitVec 32 := 0#32
  let c1_i32_9 : BitVec 32 := 1#32
  let arg9 : BitVec 32 := Scf.iv c0_i32_8 c1_i32_9 k0_t2
  let c16_i32_91 : BitVec 32 := 16#32
  let v177 : BitVec 32 := Scalar.muli arg9 c16_i32_91
  let v179 : Index := Scalar.indexCast v177
  ![26, v179.toNat]
def k0_off61 (k0_t2 : Fin k0_t2_loop.trips) : Fin 2 → Nat :=
  let c27_i32 : BitVec 32 := 27#32
  let v182 : Index := Scalar.indexCast c27_i32
  let c0_i32_8 : BitVec 32 := 0#32
  let c1_i32_9 : BitVec 32 := 1#32
  let arg9 : BitVec 32 := Scf.iv c0_i32_8 c1_i32_9 k0_t2
  let c16_i32_92 : BitVec 32 := 16#32
  let v181 : BitVec 32 := Scalar.muli arg9 c16_i32_92
  let v183 : Index := Scalar.indexCast v181
  ![27, v183.toNat]
def k0_off62 (k0_t2 : Fin k0_t2_loop.trips) : Fin 2 → Nat :=
  let c28_i32 : BitVec 32 := 28#32
  let v186 : Index := Scalar.indexCast c28_i32
  let c0_i32_8 : BitVec 32 := 0#32
  let c1_i32_9 : BitVec 32 := 1#32
  let arg9 : BitVec 32 := Scf.iv c0_i32_8 c1_i32_9 k0_t2
  let c16_i32_93 : BitVec 32 := 16#32
  let v185 : BitVec 32 := Scalar.muli arg9 c16_i32_93
  let v187 : Index := Scalar.indexCast v185
  ![28, v187.toNat]
def k0_off63 (k0_t2 : Fin k0_t2_loop.trips) : Fin 2 → Nat :=
  let c29_i32 : BitVec 32 := 29#32
  let v190 : Index := Scalar.indexCast c29_i32
  let c0_i32_8 : BitVec 32 := 0#32
  let c1_i32_9 : BitVec 32 := 1#32
  let arg9 : BitVec 32 := Scf.iv c0_i32_8 c1_i32_9 k0_t2
  let c16_i32_94 : BitVec 32 := 16#32
  let v189 : BitVec 32 := Scalar.muli arg9 c16_i32_94
  let v191 : Index := Scalar.indexCast v189
  ![29, v191.toNat]

def k0_chk21 (v32 : IVec S16 32) (v156 : IVec S16 32) : Prop :=
  (∀ a x, ((![v156, v32] : Fin 2 → IVec S16 32) a x).toNat < S80x512.size a)
theorem k0_idx21_inb : ∀ (v32 : IVec S16 32) (v156 : IVec S16 32) (k0_hw21 : k0_chk21 v32 v156), ∀ a x, ((![v156, v32] : Fin 2 → IVec S16 32) a x).toNat < S80x512.size a := fun v32 v156 k0_hw21 => k0_hw21

def k0_chk22 (v32 : IVec S16 32) (v160 : IVec S16 32) : Prop :=
  (∀ a x, ((![v160, v32] : Fin 2 → IVec S16 32) a x).toNat < S80x512.size a)
theorem k0_idx22_inb : ∀ (v32 : IVec S16 32) (v160 : IVec S16 32) (k0_hw22 : k0_chk22 v32 v160), ∀ a x, ((![v160, v32] : Fin 2 → IVec S16 32) a x).toNat < S80x512.size a := fun v32 v160 k0_hw22 => k0_hw22

def k0_chk23 (v32 : IVec S16 32) (v164 : IVec S16 32) : Prop :=
  (∀ a x, ((![v164, v32] : Fin 2 → IVec S16 32) a x).toNat < S80x512.size a)
theorem k0_idx23_inb : ∀ (v32 : IVec S16 32) (v164 : IVec S16 32) (k0_hw23 : k0_chk23 v32 v164), ∀ a x, ((![v164, v32] : Fin 2 → IVec S16 32) a x).toNat < S80x512.size a := fun v32 v164 k0_hw23 => k0_hw23

def k0_chk24 (v32 : IVec S16 32) (v168 : IVec S16 32) : Prop :=
  (∀ a x, ((![v168, v32] : Fin 2 → IVec S16 32) a x).toNat < S80x512.size a)
theorem k0_idx24_inb : ∀ (v32 : IVec S16 32) (v168 : IVec S16 32) (k0_hw24 : k0_chk24 v32 v168), ∀ a x, ((![v168, v32] : Fin 2 → IVec S16 32) a x).toNat < S80x512.size a := fun v32 v168 k0_hw24 => k0_hw24

def k0_chk25 (v32 : IVec S16 32) (v172 : IVec S16 32) : Prop :=
  (∀ a x, ((![v172, v32] : Fin 2 → IVec S16 32) a x).toNat < S80x512.size a)
theorem k0_idx25_inb : ∀ (v32 : IVec S16 32) (v172 : IVec S16 32) (k0_hw25 : k0_chk25 v32 v172), ∀ a x, ((![v172, v32] : Fin 2 → IVec S16 32) a x).toNat < S80x512.size a := fun v32 v172 k0_hw25 => k0_hw25

def k0_chk26 (v32 : IVec S16 32) (v176 : IVec S16 32) : Prop :=
  (∀ a x, ((![v176, v32] : Fin 2 → IVec S16 32) a x).toNat < S80x512.size a)
theorem k0_idx26_inb : ∀ (v32 : IVec S16 32) (v176 : IVec S16 32) (k0_hw26 : k0_chk26 v32 v176), ∀ a x, ((![v176, v32] : Fin 2 → IVec S16 32) a x).toNat < S80x512.size a := fun v32 v176 k0_hw26 => k0_hw26

def k0_chk27 (v32 : IVec S16 32) (v180 : IVec S16 32) : Prop :=
  (∀ a x, ((![v180, v32] : Fin 2 → IVec S16 32) a x).toNat < S80x512.size a)
theorem k0_idx27_inb : ∀ (v32 : IVec S16 32) (v180 : IVec S16 32) (k0_hw27 : k0_chk27 v32 v180), ∀ a x, ((![v180, v32] : Fin 2 → IVec S16 32) a x).toNat < S80x512.size a := fun v32 v180 k0_hw27 => k0_hw27

def k0_chk28 (v32 : IVec S16 32) (v184 : IVec S16 32) : Prop :=
  (∀ a x, ((![v184, v32] : Fin 2 → IVec S16 32) a x).toNat < S80x512.size a)
theorem k0_idx28_inb : ∀ (v32 : IVec S16 32) (v184 : IVec S16 32) (k0_hw28 : k0_chk28 v32 v184), ∀ a x, ((![v184, v32] : Fin 2 → IVec S16 32) a x).toNat < S80x512.size a := fun v32 v184 k0_hw28 => k0_hw28

def k0_chk29 (v32 : IVec S16 32) (v188 : IVec S16 32) : Prop :=
  (∀ a x, ((![v188, v32] : Fin 2 → IVec S16 32) a x).toNat < S80x512.size a)
theorem k0_idx29_inb : ∀ (v32 : IVec S16 32) (v188 : IVec S16 32) (k0_hw29 : k0_chk29 v32 v188), ∀ a x, ((![v188, v32] : Fin 2 → IVec S16 32) a x).toNat < S80x512.size a := fun v32 v188 k0_hw29 => k0_hw29

def k0_chk30 (v32 : IVec S16 32) (v192 : IVec S16 32) : Prop :=
  (∀ a x, ((![v192, v32] : Fin 2 → IVec S16 32) a x).toNat < S80x512.size a)
theorem k0_idx30_inb : ∀ (v32 : IVec S16 32) (v192 : IVec S16 32) (k0_hw30 : k0_chk30 v32 v192), ∀ a x, ((![v192, v32] : Fin 2 → IVec S16 32) a x).toNat < S80x512.size a := fun v32 v192 k0_hw30 => k0_hw30
def k0_off64 (k0_t2 : Fin k0_t2_loop.trips) : Fin 2 → Nat :=
  let c30_i32 : BitVec 32 := 30#32
  let v214 : Index := Scalar.indexCast c30_i32
  let c0_i32_8 : BitVec 32 := 0#32
  let c1_i32_9 : BitVec 32 := 1#32
  let arg9 : BitVec 32 := Scf.iv c0_i32_8 c1_i32_9 k0_t2
  let c16_i32_105 : BitVec 32 := 16#32
  let v213 : BitVec 32 := Scalar.muli arg9 c16_i32_105
  let v215 : Index := Scalar.indexCast v213
  ![30, v215.toNat]
def k0_off65 (k0_t2 : Fin k0_t2_loop.trips) : Fin 2 → Nat :=
  let c31_i32 : BitVec 32 := 31#32
  let v218 : Index := Scalar.indexCast c31_i32
  let c0_i32_8 : BitVec 32 := 0#32
  let c1_i32_9 : BitVec 32 := 1#32
  let arg9 : BitVec 32 := Scf.iv c0_i32_8 c1_i32_9 k0_t2
  let c16_i32_106 : BitVec 32 := 16#32
  let v217 : BitVec 32 := Scalar.muli arg9 c16_i32_106
  let v219 : Index := Scalar.indexCast v217
  ![31, v219.toNat]
def k0_off66 (k0_t2 : Fin k0_t2_loop.trips) : Fin 2 → Nat :=
  let c32_i32 : BitVec 32 := 32#32
  let v222 : Index := Scalar.indexCast c32_i32
  let c0_i32_8 : BitVec 32 := 0#32
  let c1_i32_9 : BitVec 32 := 1#32
  let arg9 : BitVec 32 := Scf.iv c0_i32_8 c1_i32_9 k0_t2
  let c16_i32_107 : BitVec 32 := 16#32
  let v221 : BitVec 32 := Scalar.muli arg9 c16_i32_107
  let v223 : Index := Scalar.indexCast v221
  ![32, v223.toNat]
def k0_off67 (k0_t2 : Fin k0_t2_loop.trips) : Fin 2 → Nat :=
  let c33_i32 : BitVec 32 := 33#32
  let v226 : Index := Scalar.indexCast c33_i32
  let c0_i32_8 : BitVec 32 := 0#32
  let c1_i32_9 : BitVec 32 := 1#32
  let arg9 : BitVec 32 := Scf.iv c0_i32_8 c1_i32_9 k0_t2
  let c16_i32_108 : BitVec 32 := 16#32
  let v225 : BitVec 32 := Scalar.muli arg9 c16_i32_108
  let v227 : Index := Scalar.indexCast v225
  ![33, v227.toNat]
def k0_off68 (k0_t2 : Fin k0_t2_loop.trips) : Fin 2 → Nat :=
  let c34_i32 : BitVec 32 := 34#32
  let v230 : Index := Scalar.indexCast c34_i32
  let c0_i32_8 : BitVec 32 := 0#32
  let c1_i32_9 : BitVec 32 := 1#32
  let arg9 : BitVec 32 := Scf.iv c0_i32_8 c1_i32_9 k0_t2
  let c16_i32_109 : BitVec 32 := 16#32
  let v229 : BitVec 32 := Scalar.muli arg9 c16_i32_109
  let v231 : Index := Scalar.indexCast v229
  ![34, v231.toNat]
def k0_off69 (k0_t2 : Fin k0_t2_loop.trips) : Fin 2 → Nat :=
  let c35_i32 : BitVec 32 := 35#32
  let v234 : Index := Scalar.indexCast c35_i32
  let c0_i32_8 : BitVec 32 := 0#32
  let c1_i32_9 : BitVec 32 := 1#32
  let arg9 : BitVec 32 := Scf.iv c0_i32_8 c1_i32_9 k0_t2
  let c16_i32_110 : BitVec 32 := 16#32
  let v233 : BitVec 32 := Scalar.muli arg9 c16_i32_110
  let v235 : Index := Scalar.indexCast v233
  ![35, v235.toNat]
def k0_off70 (k0_t2 : Fin k0_t2_loop.trips) : Fin 2 → Nat :=
  let c36_i32 : BitVec 32 := 36#32
  let v238 : Index := Scalar.indexCast c36_i32
  let c0_i32_8 : BitVec 32 := 0#32
  let c1_i32_9 : BitVec 32 := 1#32
  let arg9 : BitVec 32 := Scf.iv c0_i32_8 c1_i32_9 k0_t2
  let c16_i32_111 : BitVec 32 := 16#32
  let v237 : BitVec 32 := Scalar.muli arg9 c16_i32_111
  let v239 : Index := Scalar.indexCast v237
  ![36, v239.toNat]
def k0_off71 (k0_t2 : Fin k0_t2_loop.trips) : Fin 2 → Nat :=
  let c37_i32 : BitVec 32 := 37#32
  let v242 : Index := Scalar.indexCast c37_i32
  let c0_i32_8 : BitVec 32 := 0#32
  let c1_i32_9 : BitVec 32 := 1#32
  let arg9 : BitVec 32 := Scf.iv c0_i32_8 c1_i32_9 k0_t2
  let c16_i32_112 : BitVec 32 := 16#32
  let v241 : BitVec 32 := Scalar.muli arg9 c16_i32_112
  let v243 : Index := Scalar.indexCast v241
  ![37, v243.toNat]
def k0_off72 (k0_t2 : Fin k0_t2_loop.trips) : Fin 2 → Nat :=
  let c38_i32 : BitVec 32 := 38#32
  let v246 : Index := Scalar.indexCast c38_i32
  let c0_i32_8 : BitVec 32 := 0#32
  let c1_i32_9 : BitVec 32 := 1#32
  let arg9 : BitVec 32 := Scf.iv c0_i32_8 c1_i32_9 k0_t2
  let c16_i32_113 : BitVec 32 := 16#32
  let v245 : BitVec 32 := Scalar.muli arg9 c16_i32_113
  let v247 : Index := Scalar.indexCast v245
  ![38, v247.toNat]
def k0_off73 (k0_t2 : Fin k0_t2_loop.trips) : Fin 2 → Nat :=
  let c39_i32 : BitVec 32 := 39#32
  let v250 : Index := Scalar.indexCast c39_i32
  let c0_i32_8 : BitVec 32 := 0#32
  let c1_i32_9 : BitVec 32 := 1#32
  let arg9 : BitVec 32 := Scf.iv c0_i32_8 c1_i32_9 k0_t2
  let c16_i32_114 : BitVec 32 := 16#32
  let v249 : BitVec 32 := Scalar.muli arg9 c16_i32_114
  let v251 : Index := Scalar.indexCast v249
  ![39, v251.toNat]

def k0_chk31 (v32 : IVec S16 32) (v216 : IVec S16 32) : Prop :=
  (∀ a x, ((![v216, v32] : Fin 2 → IVec S16 32) a x).toNat < S80x512.size a)
theorem k0_idx31_inb : ∀ (v32 : IVec S16 32) (v216 : IVec S16 32) (k0_hw31 : k0_chk31 v32 v216), ∀ a x, ((![v216, v32] : Fin 2 → IVec S16 32) a x).toNat < S80x512.size a := fun v32 v216 k0_hw31 => k0_hw31

def k0_chk32 (v32 : IVec S16 32) (v220 : IVec S16 32) : Prop :=
  (∀ a x, ((![v220, v32] : Fin 2 → IVec S16 32) a x).toNat < S80x512.size a)
theorem k0_idx32_inb : ∀ (v32 : IVec S16 32) (v220 : IVec S16 32) (k0_hw32 : k0_chk32 v32 v220), ∀ a x, ((![v220, v32] : Fin 2 → IVec S16 32) a x).toNat < S80x512.size a := fun v32 v220 k0_hw32 => k0_hw32

def k0_chk33 (v32 : IVec S16 32) (v224 : IVec S16 32) : Prop :=
  (∀ a x, ((![v224, v32] : Fin 2 → IVec S16 32) a x).toNat < S80x512.size a)
theorem k0_idx33_inb : ∀ (v32 : IVec S16 32) (v224 : IVec S16 32) (k0_hw33 : k0_chk33 v32 v224), ∀ a x, ((![v224, v32] : Fin 2 → IVec S16 32) a x).toNat < S80x512.size a := fun v32 v224 k0_hw33 => k0_hw33

def k0_chk34 (v32 : IVec S16 32) (v228 : IVec S16 32) : Prop :=
  (∀ a x, ((![v228, v32] : Fin 2 → IVec S16 32) a x).toNat < S80x512.size a)
theorem k0_idx34_inb : ∀ (v32 : IVec S16 32) (v228 : IVec S16 32) (k0_hw34 : k0_chk34 v32 v228), ∀ a x, ((![v228, v32] : Fin 2 → IVec S16 32) a x).toNat < S80x512.size a := fun v32 v228 k0_hw34 => k0_hw34

def k0_chk35 (v32 : IVec S16 32) (v232 : IVec S16 32) : Prop :=
  (∀ a x, ((![v232, v32] : Fin 2 → IVec S16 32) a x).toNat < S80x512.size a)
theorem k0_idx35_inb : ∀ (v32 : IVec S16 32) (v232 : IVec S16 32) (k0_hw35 : k0_chk35 v32 v232), ∀ a x, ((![v232, v32] : Fin 2 → IVec S16 32) a x).toNat < S80x512.size a := fun v32 v232 k0_hw35 => k0_hw35

def k0_chk36 (v32 : IVec S16 32) (v236 : IVec S16 32) : Prop :=
  (∀ a x, ((![v236, v32] : Fin 2 → IVec S16 32) a x).toNat < S80x512.size a)
theorem k0_idx36_inb : ∀ (v32 : IVec S16 32) (v236 : IVec S16 32) (k0_hw36 : k0_chk36 v32 v236), ∀ a x, ((![v236, v32] : Fin 2 → IVec S16 32) a x).toNat < S80x512.size a := fun v32 v236 k0_hw36 => k0_hw36

def k0_chk37 (v32 : IVec S16 32) (v240 : IVec S16 32) : Prop :=
  (∀ a x, ((![v240, v32] : Fin 2 → IVec S16 32) a x).toNat < S80x512.size a)
theorem k0_idx37_inb : ∀ (v32 : IVec S16 32) (v240 : IVec S16 32) (k0_hw37 : k0_chk37 v32 v240), ∀ a x, ((![v240, v32] : Fin 2 → IVec S16 32) a x).toNat < S80x512.size a := fun v32 v240 k0_hw37 => k0_hw37

def k0_chk38 (v32 : IVec S16 32) (v244 : IVec S16 32) : Prop :=
  (∀ a x, ((![v244, v32] : Fin 2 → IVec S16 32) a x).toNat < S80x512.size a)
theorem k0_idx38_inb : ∀ (v32 : IVec S16 32) (v244 : IVec S16 32) (k0_hw38 : k0_chk38 v32 v244), ∀ a x, ((![v244, v32] : Fin 2 → IVec S16 32) a x).toNat < S80x512.size a := fun v32 v244 k0_hw38 => k0_hw38

def k0_chk39 (v32 : IVec S16 32) (v248 : IVec S16 32) : Prop :=
  (∀ a x, ((![v248, v32] : Fin 2 → IVec S16 32) a x).toNat < S80x512.size a)
theorem k0_idx39_inb : ∀ (v32 : IVec S16 32) (v248 : IVec S16 32) (k0_hw39 : k0_chk39 v32 v248), ∀ a x, ((![v248, v32] : Fin 2 → IVec S16 32) a x).toNat < S80x512.size a := fun v32 v248 k0_hw39 => k0_hw39

def k0_chk40 (v32 : IVec S16 32) (v252 : IVec S16 32) : Prop :=
  (∀ a x, ((![v252, v32] : Fin 2 → IVec S16 32) a x).toNat < S80x512.size a)
theorem k0_idx40_inb : ∀ (v32 : IVec S16 32) (v252 : IVec S16 32) (k0_hw40 : k0_chk40 v32 v252), ∀ a x, ((![v252, v32] : Fin 2 → IVec S16 32) a x).toNat < S80x512.size a := fun v32 v252 k0_hw40 => k0_hw40
def k0_off74 (k0_t2 : Fin k0_t2_loop.trips) : Fin 2 → Nat :=
  let c40_i32 : BitVec 32 := 40#32
  let v274 : Index := Scalar.indexCast c40_i32
  let c0_i32_8 : BitVec 32 := 0#32
  let c1_i32_9 : BitVec 32 := 1#32
  let arg9 : BitVec 32 := Scf.iv c0_i32_8 c1_i32_9 k0_t2
  let c16_i32_125 : BitVec 32 := 16#32
  let v273 : BitVec 32 := Scalar.muli arg9 c16_i32_125
  let v275 : Index := Scalar.indexCast v273
  ![40, v275.toNat]
def k0_off75 (k0_t2 : Fin k0_t2_loop.trips) : Fin 2 → Nat :=
  let c41_i32 : BitVec 32 := 41#32
  let v278 : Index := Scalar.indexCast c41_i32
  let c0_i32_8 : BitVec 32 := 0#32
  let c1_i32_9 : BitVec 32 := 1#32
  let arg9 : BitVec 32 := Scf.iv c0_i32_8 c1_i32_9 k0_t2
  let c16_i32_126 : BitVec 32 := 16#32
  let v277 : BitVec 32 := Scalar.muli arg9 c16_i32_126
  let v279 : Index := Scalar.indexCast v277
  ![41, v279.toNat]
def k0_off76 (k0_t2 : Fin k0_t2_loop.trips) : Fin 2 → Nat :=
  let c42_i32 : BitVec 32 := 42#32
  let v282 : Index := Scalar.indexCast c42_i32
  let c0_i32_8 : BitVec 32 := 0#32
  let c1_i32_9 : BitVec 32 := 1#32
  let arg9 : BitVec 32 := Scf.iv c0_i32_8 c1_i32_9 k0_t2
  let c16_i32_127 : BitVec 32 := 16#32
  let v281 : BitVec 32 := Scalar.muli arg9 c16_i32_127
  let v283 : Index := Scalar.indexCast v281
  ![42, v283.toNat]
def k0_off77 (k0_t2 : Fin k0_t2_loop.trips) : Fin 2 → Nat :=
  let c43_i32 : BitVec 32 := 43#32
  let v286 : Index := Scalar.indexCast c43_i32
  let c0_i32_8 : BitVec 32 := 0#32
  let c1_i32_9 : BitVec 32 := 1#32
  let arg9 : BitVec 32 := Scf.iv c0_i32_8 c1_i32_9 k0_t2
  let c16_i32_128 : BitVec 32 := 16#32
  let v285 : BitVec 32 := Scalar.muli arg9 c16_i32_128
  let v287 : Index := Scalar.indexCast v285
  ![43, v287.toNat]
def k0_off78 (k0_t2 : Fin k0_t2_loop.trips) : Fin 2 → Nat :=
  let c44_i32 : BitVec 32 := 44#32
  let v290 : Index := Scalar.indexCast c44_i32
  let c0_i32_8 : BitVec 32 := 0#32
  let c1_i32_9 : BitVec 32 := 1#32
  let arg9 : BitVec 32 := Scf.iv c0_i32_8 c1_i32_9 k0_t2
  let c16_i32_129 : BitVec 32 := 16#32
  let v289 : BitVec 32 := Scalar.muli arg9 c16_i32_129
  let v291 : Index := Scalar.indexCast v289
  ![44, v291.toNat]
def k0_off79 (k0_t2 : Fin k0_t2_loop.trips) : Fin 2 → Nat :=
  let c45_i32 : BitVec 32 := 45#32
  let v294 : Index := Scalar.indexCast c45_i32
  let c0_i32_8 : BitVec 32 := 0#32
  let c1_i32_9 : BitVec 32 := 1#32
  let arg9 : BitVec 32 := Scf.iv c0_i32_8 c1_i32_9 k0_t2
  let c16_i32_130 : BitVec 32 := 16#32
  let v293 : BitVec 32 := Scalar.muli arg9 c16_i32_130
  let v295 : Index := Scalar.indexCast v293
  ![45, v295.toNat]
def k0_off80 (k0_t2 : Fin k0_t2_loop.trips) : Fin 2 → Nat :=
  let c46_i32 : BitVec 32 := 46#32
  let v298 : Index := Scalar.indexCast c46_i32
  let c0_i32_8 : BitVec 32 := 0#32
  let c1_i32_9 : BitVec 32 := 1#32
  let arg9 : BitVec 32 := Scf.iv c0_i32_8 c1_i32_9 k0_t2
  let c16_i32_131 : BitVec 32 := 16#32
  let v297 : BitVec 32 := Scalar.muli arg9 c16_i32_131
  let v299 : Index := Scalar.indexCast v297
  ![46, v299.toNat]
def k0_off81 (k0_t2 : Fin k0_t2_loop.trips) : Fin 2 → Nat :=
  let c47_i32 : BitVec 32 := 47#32
  let v302 : Index := Scalar.indexCast c47_i32
  let c0_i32_8 : BitVec 32 := 0#32
  let c1_i32_9 : BitVec 32 := 1#32
  let arg9 : BitVec 32 := Scf.iv c0_i32_8 c1_i32_9 k0_t2
  let c16_i32_132 : BitVec 32 := 16#32
  let v301 : BitVec 32 := Scalar.muli arg9 c16_i32_132
  let v303 : Index := Scalar.indexCast v301
  ![47, v303.toNat]
def k0_off82 (k0_t2 : Fin k0_t2_loop.trips) : Fin 2 → Nat :=
  let c48_i32 : BitVec 32 := 48#32
  let v306 : Index := Scalar.indexCast c48_i32
  let c0_i32_8 : BitVec 32 := 0#32
  let c1_i32_9 : BitVec 32 := 1#32
  let arg9 : BitVec 32 := Scf.iv c0_i32_8 c1_i32_9 k0_t2
  let c16_i32_133 : BitVec 32 := 16#32
  let v305 : BitVec 32 := Scalar.muli arg9 c16_i32_133
  let v307 : Index := Scalar.indexCast v305
  ![48, v307.toNat]
def k0_off83 (k0_t2 : Fin k0_t2_loop.trips) : Fin 2 → Nat :=
  let c49_i32 : BitVec 32 := 49#32
  let v310 : Index := Scalar.indexCast c49_i32
  let c0_i32_8 : BitVec 32 := 0#32
  let c1_i32_9 : BitVec 32 := 1#32
  let arg9 : BitVec 32 := Scf.iv c0_i32_8 c1_i32_9 k0_t2
  let c16_i32_134 : BitVec 32 := 16#32
  let v309 : BitVec 32 := Scalar.muli arg9 c16_i32_134
  let v311 : Index := Scalar.indexCast v309
  ![49, v311.toNat]

def k0_chk41 (v32 : IVec S16 32) (v276 : IVec S16 32) : Prop :=
  (∀ a x, ((![v276, v32] : Fin 2 → IVec S16 32) a x).toNat < S80x512.size a)
theorem k0_idx41_inb : ∀ (v32 : IVec S16 32) (v276 : IVec S16 32) (k0_hw41 : k0_chk41 v32 v276), ∀ a x, ((![v276, v32] : Fin 2 → IVec S16 32) a x).toNat < S80x512.size a := fun v32 v276 k0_hw41 => k0_hw41

def k0_chk42 (v32 : IVec S16 32) (v280 : IVec S16 32) : Prop :=
  (∀ a x, ((![v280, v32] : Fin 2 → IVec S16 32) a x).toNat < S80x512.size a)
theorem k0_idx42_inb : ∀ (v32 : IVec S16 32) (v280 : IVec S16 32) (k0_hw42 : k0_chk42 v32 v280), ∀ a x, ((![v280, v32] : Fin 2 → IVec S16 32) a x).toNat < S80x512.size a := fun v32 v280 k0_hw42 => k0_hw42

def k0_chk43 (v32 : IVec S16 32) (v284 : IVec S16 32) : Prop :=
  (∀ a x, ((![v284, v32] : Fin 2 → IVec S16 32) a x).toNat < S80x512.size a)
theorem k0_idx43_inb : ∀ (v32 : IVec S16 32) (v284 : IVec S16 32) (k0_hw43 : k0_chk43 v32 v284), ∀ a x, ((![v284, v32] : Fin 2 → IVec S16 32) a x).toNat < S80x512.size a := fun v32 v284 k0_hw43 => k0_hw43

def k0_chk44 (v32 : IVec S16 32) (v288 : IVec S16 32) : Prop :=
  (∀ a x, ((![v288, v32] : Fin 2 → IVec S16 32) a x).toNat < S80x512.size a)
theorem k0_idx44_inb : ∀ (v32 : IVec S16 32) (v288 : IVec S16 32) (k0_hw44 : k0_chk44 v32 v288), ∀ a x, ((![v288, v32] : Fin 2 → IVec S16 32) a x).toNat < S80x512.size a := fun v32 v288 k0_hw44 => k0_hw44

def k0_chk45 (v32 : IVec S16 32) (v292 : IVec S16 32) : Prop :=
  (∀ a x, ((![v292, v32] : Fin 2 → IVec S16 32) a x).toNat < S80x512.size a)
theorem k0_idx45_inb : ∀ (v32 : IVec S16 32) (v292 : IVec S16 32) (k0_hw45 : k0_chk45 v32 v292), ∀ a x, ((![v292, v32] : Fin 2 → IVec S16 32) a x).toNat < S80x512.size a := fun v32 v292 k0_hw45 => k0_hw45

def k0_chk46 (v32 : IVec S16 32) (v296 : IVec S16 32) : Prop :=
  (∀ a x, ((![v296, v32] : Fin 2 → IVec S16 32) a x).toNat < S80x512.size a)
theorem k0_idx46_inb : ∀ (v32 : IVec S16 32) (v296 : IVec S16 32) (k0_hw46 : k0_chk46 v32 v296), ∀ a x, ((![v296, v32] : Fin 2 → IVec S16 32) a x).toNat < S80x512.size a := fun v32 v296 k0_hw46 => k0_hw46

def k0_chk47 (v32 : IVec S16 32) (v300 : IVec S16 32) : Prop :=
  (∀ a x, ((![v300, v32] : Fin 2 → IVec S16 32) a x).toNat < S80x512.size a)
theorem k0_idx47_inb : ∀ (v32 : IVec S16 32) (v300 : IVec S16 32) (k0_hw47 : k0_chk47 v32 v300), ∀ a x, ((![v300, v32] : Fin 2 → IVec S16 32) a x).toNat < S80x512.size a := fun v32 v300 k0_hw47 => k0_hw47

def k0_chk48 (v32 : IVec S16 32) (v304 : IVec S16 32) : Prop :=
  (∀ a x, ((![v304, v32] : Fin 2 → IVec S16 32) a x).toNat < S80x512.size a)
theorem k0_idx48_inb : ∀ (v32 : IVec S16 32) (v304 : IVec S16 32) (k0_hw48 : k0_chk48 v32 v304), ∀ a x, ((![v304, v32] : Fin 2 → IVec S16 32) a x).toNat < S80x512.size a := fun v32 v304 k0_hw48 => k0_hw48

def k0_chk49 (v32 : IVec S16 32) (v308 : IVec S16 32) : Prop :=
  (∀ a x, ((![v308, v32] : Fin 2 → IVec S16 32) a x).toNat < S80x512.size a)
theorem k0_idx49_inb : ∀ (v32 : IVec S16 32) (v308 : IVec S16 32) (k0_hw49 : k0_chk49 v32 v308), ∀ a x, ((![v308, v32] : Fin 2 → IVec S16 32) a x).toNat < S80x512.size a := fun v32 v308 k0_hw49 => k0_hw49

def k0_chk50 (v32 : IVec S16 32) (v312 : IVec S16 32) : Prop :=
  (∀ a x, ((![v312, v32] : Fin 2 → IVec S16 32) a x).toNat < S80x512.size a)
theorem k0_idx50_inb : ∀ (v32 : IVec S16 32) (v312 : IVec S16 32) (k0_hw50 : k0_chk50 v32 v312), ∀ a x, ((![v312, v32] : Fin 2 → IVec S16 32) a x).toNat < S80x512.size a := fun v32 v312 k0_hw50 => k0_hw50
def k0_off84 (k0_t2 : Fin k0_t2_loop.trips) : Fin 2 → Nat :=
  let c50_i32 : BitVec 32 := 50#32
  let v334 : Index := Scalar.indexCast c50_i32
  let c0_i32_8 : BitVec 32 := 0#32
  let c1_i32_9 : BitVec 32 := 1#32
  let arg9 : BitVec 32 := Scf.iv c0_i32_8 c1_i32_9 k0_t2
  let c16_i32_145 : BitVec 32 := 16#32
  let v333 : BitVec 32 := Scalar.muli arg9 c16_i32_145
  let v335 : Index := Scalar.indexCast v333
  ![50, v335.toNat]
def k0_off85 (k0_t2 : Fin k0_t2_loop.trips) : Fin 2 → Nat :=
  let c51_i32 : BitVec 32 := 51#32
  let v338 : Index := Scalar.indexCast c51_i32
  let c0_i32_8 : BitVec 32 := 0#32
  let c1_i32_9 : BitVec 32 := 1#32
  let arg9 : BitVec 32 := Scf.iv c0_i32_8 c1_i32_9 k0_t2
  let c16_i32_146 : BitVec 32 := 16#32
  let v337 : BitVec 32 := Scalar.muli arg9 c16_i32_146
  let v339 : Index := Scalar.indexCast v337
  ![51, v339.toNat]
def k0_off86 (k0_t2 : Fin k0_t2_loop.trips) : Fin 2 → Nat :=
  let c52_i32 : BitVec 32 := 52#32
  let v342 : Index := Scalar.indexCast c52_i32
  let c0_i32_8 : BitVec 32 := 0#32
  let c1_i32_9 : BitVec 32 := 1#32
  let arg9 : BitVec 32 := Scf.iv c0_i32_8 c1_i32_9 k0_t2
  let c16_i32_147 : BitVec 32 := 16#32
  let v341 : BitVec 32 := Scalar.muli arg9 c16_i32_147
  let v343 : Index := Scalar.indexCast v341
  ![52, v343.toNat]
def k0_off87 (k0_t2 : Fin k0_t2_loop.trips) : Fin 2 → Nat :=
  let c53_i32 : BitVec 32 := 53#32
  let v346 : Index := Scalar.indexCast c53_i32
  let c0_i32_8 : BitVec 32 := 0#32
  let c1_i32_9 : BitVec 32 := 1#32
  let arg9 : BitVec 32 := Scf.iv c0_i32_8 c1_i32_9 k0_t2
  let c16_i32_148 : BitVec 32 := 16#32
  let v345 : BitVec 32 := Scalar.muli arg9 c16_i32_148
  let v347 : Index := Scalar.indexCast v345
  ![53, v347.toNat]
def k0_off88 (k0_t2 : Fin k0_t2_loop.trips) : Fin 2 → Nat :=
  let c54_i32 : BitVec 32 := 54#32
  let v350 : Index := Scalar.indexCast c54_i32
  let c0_i32_8 : BitVec 32 := 0#32
  let c1_i32_9 : BitVec 32 := 1#32
  let arg9 : BitVec 32 := Scf.iv c0_i32_8 c1_i32_9 k0_t2
  let c16_i32_149 : BitVec 32 := 16#32
  let v349 : BitVec 32 := Scalar.muli arg9 c16_i32_149
  let v351 : Index := Scalar.indexCast v349
  ![54, v351.toNat]
def k0_off89 (k0_t2 : Fin k0_t2_loop.trips) : Fin 2 → Nat :=
  let c55_i32 : BitVec 32 := 55#32
  let v354 : Index := Scalar.indexCast c55_i32
  let c0_i32_8 : BitVec 32 := 0#32
  let c1_i32_9 : BitVec 32 := 1#32
  let arg9 : BitVec 32 := Scf.iv c0_i32_8 c1_i32_9 k0_t2
  let c16_i32_150 : BitVec 32 := 16#32
  let v353 : BitVec 32 := Scalar.muli arg9 c16_i32_150
  let v355 : Index := Scalar.indexCast v353
  ![55, v355.toNat]
def k0_off90 (k0_t2 : Fin k0_t2_loop.trips) : Fin 2 → Nat :=
  let c56_i32 : BitVec 32 := 56#32
  let v358 : Index := Scalar.indexCast c56_i32
  let c0_i32_8 : BitVec 32 := 0#32
  let c1_i32_9 : BitVec 32 := 1#32
  let arg9 : BitVec 32 := Scf.iv c0_i32_8 c1_i32_9 k0_t2
  let c16_i32_151 : BitVec 32 := 16#32
  let v357 : BitVec 32 := Scalar.muli arg9 c16_i32_151
  let v359 : Index := Scalar.indexCast v357
  ![56, v359.toNat]
def k0_off91 (k0_t2 : Fin k0_t2_loop.trips) : Fin 2 → Nat :=
  let c57_i32 : BitVec 32 := 57#32
  let v362 : Index := Scalar.indexCast c57_i32
  let c0_i32_8 : BitVec 32 := 0#32
  let c1_i32_9 : BitVec 32 := 1#32
  let arg9 : BitVec 32 := Scf.iv c0_i32_8 c1_i32_9 k0_t2
  let c16_i32_152 : BitVec 32 := 16#32
  let v361 : BitVec 32 := Scalar.muli arg9 c16_i32_152
  let v363 : Index := Scalar.indexCast v361
  ![57, v363.toNat]
def k0_off92 (k0_t2 : Fin k0_t2_loop.trips) : Fin 2 → Nat :=
  let c58_i32 : BitVec 32 := 58#32
  let v366 : Index := Scalar.indexCast c58_i32
  let c0_i32_8 : BitVec 32 := 0#32
  let c1_i32_9 : BitVec 32 := 1#32
  let arg9 : BitVec 32 := Scf.iv c0_i32_8 c1_i32_9 k0_t2
  let c16_i32_153 : BitVec 32 := 16#32
  let v365 : BitVec 32 := Scalar.muli arg9 c16_i32_153
  let v367 : Index := Scalar.indexCast v365
  ![58, v367.toNat]
def k0_off93 (k0_t2 : Fin k0_t2_loop.trips) : Fin 2 → Nat :=
  let c59_i32 : BitVec 32 := 59#32
  let v370 : Index := Scalar.indexCast c59_i32
  let c0_i32_8 : BitVec 32 := 0#32
  let c1_i32_9 : BitVec 32 := 1#32
  let arg9 : BitVec 32 := Scf.iv c0_i32_8 c1_i32_9 k0_t2
  let c16_i32_154 : BitVec 32 := 16#32
  let v369 : BitVec 32 := Scalar.muli arg9 c16_i32_154
  let v371 : Index := Scalar.indexCast v369
  ![59, v371.toNat]

def k0_chk51 (v32 : IVec S16 32) (v336 : IVec S16 32) : Prop :=
  (∀ a x, ((![v336, v32] : Fin 2 → IVec S16 32) a x).toNat < S80x512.size a)
theorem k0_idx51_inb : ∀ (v32 : IVec S16 32) (v336 : IVec S16 32) (k0_hw51 : k0_chk51 v32 v336), ∀ a x, ((![v336, v32] : Fin 2 → IVec S16 32) a x).toNat < S80x512.size a := fun v32 v336 k0_hw51 => k0_hw51

def k0_chk52 (v32 : IVec S16 32) (v340 : IVec S16 32) : Prop :=
  (∀ a x, ((![v340, v32] : Fin 2 → IVec S16 32) a x).toNat < S80x512.size a)
theorem k0_idx52_inb : ∀ (v32 : IVec S16 32) (v340 : IVec S16 32) (k0_hw52 : k0_chk52 v32 v340), ∀ a x, ((![v340, v32] : Fin 2 → IVec S16 32) a x).toNat < S80x512.size a := fun v32 v340 k0_hw52 => k0_hw52

def k0_chk53 (v32 : IVec S16 32) (v344 : IVec S16 32) : Prop :=
  (∀ a x, ((![v344, v32] : Fin 2 → IVec S16 32) a x).toNat < S80x512.size a)
theorem k0_idx53_inb : ∀ (v32 : IVec S16 32) (v344 : IVec S16 32) (k0_hw53 : k0_chk53 v32 v344), ∀ a x, ((![v344, v32] : Fin 2 → IVec S16 32) a x).toNat < S80x512.size a := fun v32 v344 k0_hw53 => k0_hw53

def k0_chk54 (v32 : IVec S16 32) (v348 : IVec S16 32) : Prop :=
  (∀ a x, ((![v348, v32] : Fin 2 → IVec S16 32) a x).toNat < S80x512.size a)
theorem k0_idx54_inb : ∀ (v32 : IVec S16 32) (v348 : IVec S16 32) (k0_hw54 : k0_chk54 v32 v348), ∀ a x, ((![v348, v32] : Fin 2 → IVec S16 32) a x).toNat < S80x512.size a := fun v32 v348 k0_hw54 => k0_hw54

def k0_chk55 (v32 : IVec S16 32) (v352 : IVec S16 32) : Prop :=
  (∀ a x, ((![v352, v32] : Fin 2 → IVec S16 32) a x).toNat < S80x512.size a)
theorem k0_idx55_inb : ∀ (v32 : IVec S16 32) (v352 : IVec S16 32) (k0_hw55 : k0_chk55 v32 v352), ∀ a x, ((![v352, v32] : Fin 2 → IVec S16 32) a x).toNat < S80x512.size a := fun v32 v352 k0_hw55 => k0_hw55

def k0_chk56 (v32 : IVec S16 32) (v356 : IVec S16 32) : Prop :=
  (∀ a x, ((![v356, v32] : Fin 2 → IVec S16 32) a x).toNat < S80x512.size a)
theorem k0_idx56_inb : ∀ (v32 : IVec S16 32) (v356 : IVec S16 32) (k0_hw56 : k0_chk56 v32 v356), ∀ a x, ((![v356, v32] : Fin 2 → IVec S16 32) a x).toNat < S80x512.size a := fun v32 v356 k0_hw56 => k0_hw56

def k0_chk57 (v32 : IVec S16 32) (v360 : IVec S16 32) : Prop :=
  (∀ a x, ((![v360, v32] : Fin 2 → IVec S16 32) a x).toNat < S80x512.size a)
theorem k0_idx57_inb : ∀ (v32 : IVec S16 32) (v360 : IVec S16 32) (k0_hw57 : k0_chk57 v32 v360), ∀ a x, ((![v360, v32] : Fin 2 → IVec S16 32) a x).toNat < S80x512.size a := fun v32 v360 k0_hw57 => k0_hw57

def k0_chk58 (v32 : IVec S16 32) (v364 : IVec S16 32) : Prop :=
  (∀ a x, ((![v364, v32] : Fin 2 → IVec S16 32) a x).toNat < S80x512.size a)
theorem k0_idx58_inb : ∀ (v32 : IVec S16 32) (v364 : IVec S16 32) (k0_hw58 : k0_chk58 v32 v364), ∀ a x, ((![v364, v32] : Fin 2 → IVec S16 32) a x).toNat < S80x512.size a := fun v32 v364 k0_hw58 => k0_hw58

def k0_chk59 (v32 : IVec S16 32) (v368 : IVec S16 32) : Prop :=
  (∀ a x, ((![v368, v32] : Fin 2 → IVec S16 32) a x).toNat < S80x512.size a)
theorem k0_idx59_inb : ∀ (v32 : IVec S16 32) (v368 : IVec S16 32) (k0_hw59 : k0_chk59 v32 v368), ∀ a x, ((![v368, v32] : Fin 2 → IVec S16 32) a x).toNat < S80x512.size a := fun v32 v368 k0_hw59 => k0_hw59

def k0_chk60 (v32 : IVec S16 32) (v372 : IVec S16 32) : Prop :=
  (∀ a x, ((![v372, v32] : Fin 2 → IVec S16 32) a x).toNat < S80x512.size a)
theorem k0_idx60_inb : ∀ (v32 : IVec S16 32) (v372 : IVec S16 32) (k0_hw60 : k0_chk60 v32 v372), ∀ a x, ((![v372, v32] : Fin 2 → IVec S16 32) a x).toNat < S80x512.size a := fun v32 v372 k0_hw60 => k0_hw60
def k0_off94 (i : grid0.Coords) : Fin 2 → Nat :=
  let c0_i32_13 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k0_t3_loop : Scf.Loop 32 :=
  let c16_i32_18 : BitVec 32 := 16#32
  let c16_i32_19 : BitVec 32 := 16#32
  let v16 : BitVec 32 := Scalar.addi c16_i32_18 c16_i32_19
  let c1_i32_20 : BitVec 32 := 1#32
  ⟨c16_i32_18, v16, c1_i32_20⟩
def k0_off95 (k0_t3 : Fin k0_t3_loop.trips) : Fin 2 → Nat :=
  let c0_i32_42 : BitVec 32 := 0#32
  let v34 : Index := Scalar.indexCast c0_i32_42
  let c16_i32_18 : BitVec 32 := 16#32
  let c1_i32_20 : BitVec 32 := 1#32
  let arg9 : BitVec 32 := Scf.iv c16_i32_18 c1_i32_20 k0_t3
  let c16_i32_41 : BitVec 32 := 16#32
  let v33 : BitVec 32 := Scalar.muli arg9 c16_i32_41
  let v35 : Index := Scalar.indexCast v33
  ![0, v35.toNat]
def k0_off96 (k0_t3 : Fin k0_t3_loop.trips) : Fin 2 → Nat :=
  let c1_i32_44 : BitVec 32 := 1#32
  let v38 : Index := Scalar.indexCast c1_i32_44
  let c16_i32_18 : BitVec 32 := 16#32
  let c1_i32_20 : BitVec 32 := 1#32
  let arg9 : BitVec 32 := Scf.iv c16_i32_18 c1_i32_20 k0_t3
  let c16_i32_43 : BitVec 32 := 16#32
  let v37 : BitVec 32 := Scalar.muli arg9 c16_i32_43
  let v39 : Index := Scalar.indexCast v37
  ![1, v39.toNat]
def k0_off97 (k0_t3 : Fin k0_t3_loop.trips) : Fin 2 → Nat :=
  let c2_i32_46 : BitVec 32 := 2#32
  let v42 : Index := Scalar.indexCast c2_i32_46
  let c16_i32_18 : BitVec 32 := 16#32
  let c1_i32_20 : BitVec 32 := 1#32
  let arg9 : BitVec 32 := Scf.iv c16_i32_18 c1_i32_20 k0_t3
  let c16_i32_45 : BitVec 32 := 16#32
  let v41 : BitVec 32 := Scalar.muli arg9 c16_i32_45
  let v43 : Index := Scalar.indexCast v41
  ![2, v43.toNat]
def k0_off98 (k0_t3 : Fin k0_t3_loop.trips) : Fin 2 → Nat :=
  let c3_i32 : BitVec 32 := 3#32
  let v46 : Index := Scalar.indexCast c3_i32
  let c16_i32_18 : BitVec 32 := 16#32
  let c1_i32_20 : BitVec 32 := 1#32
  let arg9 : BitVec 32 := Scf.iv c16_i32_18 c1_i32_20 k0_t3
  let c16_i32_47 : BitVec 32 := 16#32
  let v45 : BitVec 32 := Scalar.muli arg9 c16_i32_47
  let v47 : Index := Scalar.indexCast v45
  ![3, v47.toNat]
def k0_off99 (k0_t3 : Fin k0_t3_loop.trips) : Fin 2 → Nat :=
  let c4_i32 : BitVec 32 := 4#32
  let v50 : Index := Scalar.indexCast c4_i32
  let c16_i32_18 : BitVec 32 := 16#32
  let c1_i32_20 : BitVec 32 := 1#32
  let arg9 : BitVec 32 := Scf.iv c16_i32_18 c1_i32_20 k0_t3
  let c16_i32_48 : BitVec 32 := 16#32
  let v49 : BitVec 32 := Scalar.muli arg9 c16_i32_48
  let v51 : Index := Scalar.indexCast v49
  ![4, v51.toNat]
def k0_off100 (k0_t3 : Fin k0_t3_loop.trips) : Fin 2 → Nat :=
  let c5_i32 : BitVec 32 := 5#32
  let v54 : Index := Scalar.indexCast c5_i32
  let c16_i32_18 : BitVec 32 := 16#32
  let c1_i32_20 : BitVec 32 := 1#32
  let arg9 : BitVec 32 := Scf.iv c16_i32_18 c1_i32_20 k0_t3
  let c16_i32_49 : BitVec 32 := 16#32
  let v53 : BitVec 32 := Scalar.muli arg9 c16_i32_49
  let v55 : Index := Scalar.indexCast v53
  ![5, v55.toNat]
def k0_off101 (k0_t3 : Fin k0_t3_loop.trips) : Fin 2 → Nat :=
  let c6_i32 : BitVec 32 := 6#32
  let v58 : Index := Scalar.indexCast c6_i32
  let c16_i32_18 : BitVec 32 := 16#32
  let c1_i32_20 : BitVec 32 := 1#32
  let arg9 : BitVec 32 := Scf.iv c16_i32_18 c1_i32_20 k0_t3
  let c16_i32_50 : BitVec 32 := 16#32
  let v57 : BitVec 32 := Scalar.muli arg9 c16_i32_50
  let v59 : Index := Scalar.indexCast v57
  ![6, v59.toNat]
def k0_off102 (k0_t3 : Fin k0_t3_loop.trips) : Fin 2 → Nat :=
  let c7_i32 : BitVec 32 := 7#32
  let v62 : Index := Scalar.indexCast c7_i32
  let c16_i32_18 : BitVec 32 := 16#32
  let c1_i32_20 : BitVec 32 := 1#32
  let arg9 : BitVec 32 := Scf.iv c16_i32_18 c1_i32_20 k0_t3
  let c16_i32_51 : BitVec 32 := 16#32
  let v61 : BitVec 32 := Scalar.muli arg9 c16_i32_51
  let v63 : Index := Scalar.indexCast v61
  ![7, v63.toNat]
def k0_off103 (k0_t3 : Fin k0_t3_loop.trips) : Fin 2 → Nat :=
  let c8_i32 : BitVec 32 := 8#32
  let v66 : Index := Scalar.indexCast c8_i32
  let c16_i32_18 : BitVec 32 := 16#32
  let c1_i32_20 : BitVec 32 := 1#32
  let arg9 : BitVec 32 := Scf.iv c16_i32_18 c1_i32_20 k0_t3
  let c16_i32_52 : BitVec 32 := 16#32
  let v65 : BitVec 32 := Scalar.muli arg9 c16_i32_52
  let v67 : Index := Scalar.indexCast v65
  ![8, v67.toNat]
def k0_off104 (k0_t3 : Fin k0_t3_loop.trips) : Fin 2 → Nat :=
  let c9_i32 : BitVec 32 := 9#32
  let v70 : Index := Scalar.indexCast c9_i32
  let c16_i32_18 : BitVec 32 := 16#32
  let c1_i32_20 : BitVec 32 := 1#32
  let arg9 : BitVec 32 := Scf.iv c16_i32_18 c1_i32_20 k0_t3
  let c16_i32_53 : BitVec 32 := 16#32
  let v69 : BitVec 32 := Scalar.muli arg9 c16_i32_53
  let v71 : Index := Scalar.indexCast v69
  ![9, v71.toNat]

def k0_chk61 (v32 : IVec S16 32) (v36 : IVec S16 32) : Prop :=
  (∀ a x, ((![v36, v32] : Fin 2 → IVec S16 32) a x).toNat < S80x512.size a)
theorem k0_idx61_inb : ∀ (v32 : IVec S16 32) (v36 : IVec S16 32) (k0_hw61 : k0_chk61 v32 v36), ∀ a x, ((![v36, v32] : Fin 2 → IVec S16 32) a x).toNat < S80x512.size a := fun v32 v36 k0_hw61 => k0_hw61

def k0_chk62 (v32 : IVec S16 32) (v40 : IVec S16 32) : Prop :=
  (∀ a x, ((![v40, v32] : Fin 2 → IVec S16 32) a x).toNat < S80x512.size a)
theorem k0_idx62_inb : ∀ (v32 : IVec S16 32) (v40 : IVec S16 32) (k0_hw62 : k0_chk62 v32 v40), ∀ a x, ((![v40, v32] : Fin 2 → IVec S16 32) a x).toNat < S80x512.size a := fun v32 v40 k0_hw62 => k0_hw62

def k0_chk63 (v32 : IVec S16 32) (v44 : IVec S16 32) : Prop :=
  (∀ a x, ((![v44, v32] : Fin 2 → IVec S16 32) a x).toNat < S80x512.size a)
theorem k0_idx63_inb : ∀ (v32 : IVec S16 32) (v44 : IVec S16 32) (k0_hw63 : k0_chk63 v32 v44), ∀ a x, ((![v44, v32] : Fin 2 → IVec S16 32) a x).toNat < S80x512.size a := fun v32 v44 k0_hw63 => k0_hw63

def k0_chk64 (v32 : IVec S16 32) (v48 : IVec S16 32) : Prop :=
  (∀ a x, ((![v48, v32] : Fin 2 → IVec S16 32) a x).toNat < S80x512.size a)
theorem k0_idx64_inb : ∀ (v32 : IVec S16 32) (v48 : IVec S16 32) (k0_hw64 : k0_chk64 v32 v48), ∀ a x, ((![v48, v32] : Fin 2 → IVec S16 32) a x).toNat < S80x512.size a := fun v32 v48 k0_hw64 => k0_hw64

def k0_chk65 (v32 : IVec S16 32) (v52 : IVec S16 32) : Prop :=
  (∀ a x, ((![v52, v32] : Fin 2 → IVec S16 32) a x).toNat < S80x512.size a)
theorem k0_idx65_inb : ∀ (v32 : IVec S16 32) (v52 : IVec S16 32) (k0_hw65 : k0_chk65 v32 v52), ∀ a x, ((![v52, v32] : Fin 2 → IVec S16 32) a x).toNat < S80x512.size a := fun v32 v52 k0_hw65 => k0_hw65

def k0_chk66 (v32 : IVec S16 32) (v56 : IVec S16 32) : Prop :=
  (∀ a x, ((![v56, v32] : Fin 2 → IVec S16 32) a x).toNat < S80x512.size a)
theorem k0_idx66_inb : ∀ (v32 : IVec S16 32) (v56 : IVec S16 32) (k0_hw66 : k0_chk66 v32 v56), ∀ a x, ((![v56, v32] : Fin 2 → IVec S16 32) a x).toNat < S80x512.size a := fun v32 v56 k0_hw66 => k0_hw66

def k0_chk67 (v32 : IVec S16 32) (v60 : IVec S16 32) : Prop :=
  (∀ a x, ((![v60, v32] : Fin 2 → IVec S16 32) a x).toNat < S80x512.size a)
theorem k0_idx67_inb : ∀ (v32 : IVec S16 32) (v60 : IVec S16 32) (k0_hw67 : k0_chk67 v32 v60), ∀ a x, ((![v60, v32] : Fin 2 → IVec S16 32) a x).toNat < S80x512.size a := fun v32 v60 k0_hw67 => k0_hw67

def k0_chk68 (v32 : IVec S16 32) (v64 : IVec S16 32) : Prop :=
  (∀ a x, ((![v64, v32] : Fin 2 → IVec S16 32) a x).toNat < S80x512.size a)
theorem k0_idx68_inb : ∀ (v32 : IVec S16 32) (v64 : IVec S16 32) (k0_hw68 : k0_chk68 v32 v64), ∀ a x, ((![v64, v32] : Fin 2 → IVec S16 32) a x).toNat < S80x512.size a := fun v32 v64 k0_hw68 => k0_hw68

def k0_chk69 (v32 : IVec S16 32) (v68 : IVec S16 32) : Prop :=
  (∀ a x, ((![v68, v32] : Fin 2 → IVec S16 32) a x).toNat < S80x512.size a)
theorem k0_idx69_inb : ∀ (v32 : IVec S16 32) (v68 : IVec S16 32) (k0_hw69 : k0_chk69 v32 v68), ∀ a x, ((![v68, v32] : Fin 2 → IVec S16 32) a x).toNat < S80x512.size a := fun v32 v68 k0_hw69 => k0_hw69

def k0_chk70 (v32 : IVec S16 32) (v72 : IVec S16 32) : Prop :=
  (∀ a x, ((![v72, v32] : Fin 2 → IVec S16 32) a x).toNat < S80x512.size a)
theorem k0_idx70_inb : ∀ (v32 : IVec S16 32) (v72 : IVec S16 32) (k0_hw70 : k0_chk70 v32 v72), ∀ a x, ((![v72, v32] : Fin 2 → IVec S16 32) a x).toNat < S80x512.size a := fun v32 v72 k0_hw70 => k0_hw70
def k0_off105 (k0_t3 : Fin k0_t3_loop.trips) : Fin 2 → Nat :=
  let c10_i32 : BitVec 32 := 10#32
  let v94 : Index := Scalar.indexCast c10_i32
  let c16_i32_18 : BitVec 32 := 16#32
  let c1_i32_20 : BitVec 32 := 1#32
  let arg9 : BitVec 32 := Scf.iv c16_i32_18 c1_i32_20 k0_t3
  let c16_i32_64 : BitVec 32 := 16#32
  let v93 : BitVec 32 := Scalar.muli arg9 c16_i32_64
  let v95 : Index := Scalar.indexCast v93
  ![10, v95.toNat]
def k0_off106 (k0_t3 : Fin k0_t3_loop.trips) : Fin 2 → Nat :=
  let c11_i32 : BitVec 32 := 11#32
  let v98 : Index := Scalar.indexCast c11_i32
  let c16_i32_18 : BitVec 32 := 16#32
  let c1_i32_20 : BitVec 32 := 1#32
  let arg9 : BitVec 32 := Scf.iv c16_i32_18 c1_i32_20 k0_t3
  let c16_i32_65 : BitVec 32 := 16#32
  let v97 : BitVec 32 := Scalar.muli arg9 c16_i32_65
  let v99 : Index := Scalar.indexCast v97
  ![11, v99.toNat]
def k0_off107 (k0_t3 : Fin k0_t3_loop.trips) : Fin 2 → Nat :=
  let c12_i32 : BitVec 32 := 12#32
  let v102 : Index := Scalar.indexCast c12_i32
  let c16_i32_18 : BitVec 32 := 16#32
  let c1_i32_20 : BitVec 32 := 1#32
  let arg9 : BitVec 32 := Scf.iv c16_i32_18 c1_i32_20 k0_t3
  let c16_i32_66 : BitVec 32 := 16#32
  let v101 : BitVec 32 := Scalar.muli arg9 c16_i32_66
  let v103 : Index := Scalar.indexCast v101
  ![12, v103.toNat]
def k0_off108 (k0_t3 : Fin k0_t3_loop.trips) : Fin 2 → Nat :=
  let c13_i32 : BitVec 32 := 13#32
  let v106 : Index := Scalar.indexCast c13_i32
  let c16_i32_18 : BitVec 32 := 16#32
  let c1_i32_20 : BitVec 32 := 1#32
  let arg9 : BitVec 32 := Scf.iv c16_i32_18 c1_i32_20 k0_t3
  let c16_i32_67 : BitVec 32 := 16#32
  let v105 : BitVec 32 := Scalar.muli arg9 c16_i32_67
  let v107 : Index := Scalar.indexCast v105
  ![13, v107.toNat]
def k0_off109 (k0_t3 : Fin k0_t3_loop.trips) : Fin 2 → Nat :=
  let c14_i32 : BitVec 32 := 14#32
  let v110 : Index := Scalar.indexCast c14_i32
  let c16_i32_18 : BitVec 32 := 16#32
  let c1_i32_20 : BitVec 32 := 1#32
  let arg9 : BitVec 32 := Scf.iv c16_i32_18 c1_i32_20 k0_t3
  let c16_i32_68 : BitVec 32 := 16#32
  let v109 : BitVec 32 := Scalar.muli arg9 c16_i32_68
  let v111 : Index := Scalar.indexCast v109
  ![14, v111.toNat]
def k0_off110 (k0_t3 : Fin k0_t3_loop.trips) : Fin 2 → Nat :=
  let c15_i32 : BitVec 32 := 15#32
  let v114 : Index := Scalar.indexCast c15_i32
  let c16_i32_18 : BitVec 32 := 16#32
  let c1_i32_20 : BitVec 32 := 1#32
  let arg9 : BitVec 32 := Scf.iv c16_i32_18 c1_i32_20 k0_t3
  let c16_i32_69 : BitVec 32 := 16#32
  let v113 : BitVec 32 := Scalar.muli arg9 c16_i32_69
  let v115 : Index := Scalar.indexCast v113
  ![15, v115.toNat]
def k0_off111 (k0_t3 : Fin k0_t3_loop.trips) : Fin 2 → Nat :=
  let c16_i32_71 : BitVec 32 := 16#32
  let v118 : Index := Scalar.indexCast c16_i32_71
  let c16_i32_18 : BitVec 32 := 16#32
  let c1_i32_20 : BitVec 32 := 1#32
  let arg9 : BitVec 32 := Scf.iv c16_i32_18 c1_i32_20 k0_t3
  let c16_i32_70 : BitVec 32 := 16#32
  let v117 : BitVec 32 := Scalar.muli arg9 c16_i32_70
  let v119 : Index := Scalar.indexCast v117
  ![16, v119.toNat]
def k0_off112 (k0_t3 : Fin k0_t3_loop.trips) : Fin 2 → Nat :=
  let c17_i32 : BitVec 32 := 17#32
  let v122 : Index := Scalar.indexCast c17_i32
  let c16_i32_18 : BitVec 32 := 16#32
  let c1_i32_20 : BitVec 32 := 1#32
  let arg9 : BitVec 32 := Scf.iv c16_i32_18 c1_i32_20 k0_t3
  let c16_i32_72 : BitVec 32 := 16#32
  let v121 : BitVec 32 := Scalar.muli arg9 c16_i32_72
  let v123 : Index := Scalar.indexCast v121
  ![17, v123.toNat]
def k0_off113 (k0_t3 : Fin k0_t3_loop.trips) : Fin 2 → Nat :=
  let c18_i32 : BitVec 32 := 18#32
  let v126 : Index := Scalar.indexCast c18_i32
  let c16_i32_18 : BitVec 32 := 16#32
  let c1_i32_20 : BitVec 32 := 1#32
  let arg9 : BitVec 32 := Scf.iv c16_i32_18 c1_i32_20 k0_t3
  let c16_i32_73 : BitVec 32 := 16#32
  let v125 : BitVec 32 := Scalar.muli arg9 c16_i32_73
  let v127 : Index := Scalar.indexCast v125
  ![18, v127.toNat]
def k0_off114 (k0_t3 : Fin k0_t3_loop.trips) : Fin 2 → Nat :=
  let c19_i32 : BitVec 32 := 19#32
  let v130 : Index := Scalar.indexCast c19_i32
  let c16_i32_18 : BitVec 32 := 16#32
  let c1_i32_20 : BitVec 32 := 1#32
  let arg9 : BitVec 32 := Scf.iv c16_i32_18 c1_i32_20 k0_t3
  let c16_i32_74 : BitVec 32 := 16#32
  let v129 : BitVec 32 := Scalar.muli arg9 c16_i32_74
  let v131 : Index := Scalar.indexCast v129
  ![19, v131.toNat]

def k0_chk71 (v32 : IVec S16 32) (v96 : IVec S16 32) : Prop :=
  (∀ a x, ((![v96, v32] : Fin 2 → IVec S16 32) a x).toNat < S80x512.size a)
theorem k0_idx71_inb : ∀ (v32 : IVec S16 32) (v96 : IVec S16 32) (k0_hw71 : k0_chk71 v32 v96), ∀ a x, ((![v96, v32] : Fin 2 → IVec S16 32) a x).toNat < S80x512.size a := fun v32 v96 k0_hw71 => k0_hw71

def k0_chk72 (v32 : IVec S16 32) (v100 : IVec S16 32) : Prop :=
  (∀ a x, ((![v100, v32] : Fin 2 → IVec S16 32) a x).toNat < S80x512.size a)
theorem k0_idx72_inb : ∀ (v32 : IVec S16 32) (v100 : IVec S16 32) (k0_hw72 : k0_chk72 v32 v100), ∀ a x, ((![v100, v32] : Fin 2 → IVec S16 32) a x).toNat < S80x512.size a := fun v32 v100 k0_hw72 => k0_hw72

def k0_chk73 (v32 : IVec S16 32) (v104 : IVec S16 32) : Prop :=
  (∀ a x, ((![v104, v32] : Fin 2 → IVec S16 32) a x).toNat < S80x512.size a)
theorem k0_idx73_inb : ∀ (v32 : IVec S16 32) (v104 : IVec S16 32) (k0_hw73 : k0_chk73 v32 v104), ∀ a x, ((![v104, v32] : Fin 2 → IVec S16 32) a x).toNat < S80x512.size a := fun v32 v104 k0_hw73 => k0_hw73

def k0_chk74 (v32 : IVec S16 32) (v108 : IVec S16 32) : Prop :=
  (∀ a x, ((![v108, v32] : Fin 2 → IVec S16 32) a x).toNat < S80x512.size a)
theorem k0_idx74_inb : ∀ (v32 : IVec S16 32) (v108 : IVec S16 32) (k0_hw74 : k0_chk74 v32 v108), ∀ a x, ((![v108, v32] : Fin 2 → IVec S16 32) a x).toNat < S80x512.size a := fun v32 v108 k0_hw74 => k0_hw74

def k0_chk75 (v32 : IVec S16 32) (v112 : IVec S16 32) : Prop :=
  (∀ a x, ((![v112, v32] : Fin 2 → IVec S16 32) a x).toNat < S80x512.size a)
theorem k0_idx75_inb : ∀ (v32 : IVec S16 32) (v112 : IVec S16 32) (k0_hw75 : k0_chk75 v32 v112), ∀ a x, ((![v112, v32] : Fin 2 → IVec S16 32) a x).toNat < S80x512.size a := fun v32 v112 k0_hw75 => k0_hw75

def k0_chk76 (v32 : IVec S16 32) (v116 : IVec S16 32) : Prop :=
  (∀ a x, ((![v116, v32] : Fin 2 → IVec S16 32) a x).toNat < S80x512.size a)
theorem k0_idx76_inb : ∀ (v32 : IVec S16 32) (v116 : IVec S16 32) (k0_hw76 : k0_chk76 v32 v116), ∀ a x, ((![v116, v32] : Fin 2 → IVec S16 32) a x).toNat < S80x512.size a := fun v32 v116 k0_hw76 => k0_hw76

def k0_chk77 (v32 : IVec S16 32) (v120 : IVec S16 32) : Prop :=
  (∀ a x, ((![v120, v32] : Fin 2 → IVec S16 32) a x).toNat < S80x512.size a)
theorem k0_idx77_inb : ∀ (v32 : IVec S16 32) (v120 : IVec S16 32) (k0_hw77 : k0_chk77 v32 v120), ∀ a x, ((![v120, v32] : Fin 2 → IVec S16 32) a x).toNat < S80x512.size a := fun v32 v120 k0_hw77 => k0_hw77

def k0_chk78 (v32 : IVec S16 32) (v124 : IVec S16 32) : Prop :=
  (∀ a x, ((![v124, v32] : Fin 2 → IVec S16 32) a x).toNat < S80x512.size a)
theorem k0_idx78_inb : ∀ (v32 : IVec S16 32) (v124 : IVec S16 32) (k0_hw78 : k0_chk78 v32 v124), ∀ a x, ((![v124, v32] : Fin 2 → IVec S16 32) a x).toNat < S80x512.size a := fun v32 v124 k0_hw78 => k0_hw78

def k0_chk79 (v32 : IVec S16 32) (v128 : IVec S16 32) : Prop :=
  (∀ a x, ((![v128, v32] : Fin 2 → IVec S16 32) a x).toNat < S80x512.size a)
theorem k0_idx79_inb : ∀ (v32 : IVec S16 32) (v128 : IVec S16 32) (k0_hw79 : k0_chk79 v32 v128), ∀ a x, ((![v128, v32] : Fin 2 → IVec S16 32) a x).toNat < S80x512.size a := fun v32 v128 k0_hw79 => k0_hw79

def k0_chk80 (v32 : IVec S16 32) (v132 : IVec S16 32) : Prop :=
  (∀ a x, ((![v132, v32] : Fin 2 → IVec S16 32) a x).toNat < S80x512.size a)
theorem k0_idx80_inb : ∀ (v32 : IVec S16 32) (v132 : IVec S16 32) (k0_hw80 : k0_chk80 v32 v132), ∀ a x, ((![v132, v32] : Fin 2 → IVec S16 32) a x).toNat < S80x512.size a := fun v32 v132 k0_hw80 => k0_hw80
def k0_off115 (k0_t3 : Fin k0_t3_loop.trips) : Fin 2 → Nat :=
  let c20_i32 : BitVec 32 := 20#32
  let v154 : Index := Scalar.indexCast c20_i32
  let c16_i32_18 : BitVec 32 := 16#32
  let c1_i32_20 : BitVec 32 := 1#32
  let arg9 : BitVec 32 := Scf.iv c16_i32_18 c1_i32_20 k0_t3
  let c16_i32_85 : BitVec 32 := 16#32
  let v153 : BitVec 32 := Scalar.muli arg9 c16_i32_85
  let v155 : Index := Scalar.indexCast v153
  ![20, v155.toNat]
def k0_off116 (k0_t3 : Fin k0_t3_loop.trips) : Fin 2 → Nat :=
  let c21_i32 : BitVec 32 := 21#32
  let v158 : Index := Scalar.indexCast c21_i32
  let c16_i32_18 : BitVec 32 := 16#32
  let c1_i32_20 : BitVec 32 := 1#32
  let arg9 : BitVec 32 := Scf.iv c16_i32_18 c1_i32_20 k0_t3
  let c16_i32_86 : BitVec 32 := 16#32
  let v157 : BitVec 32 := Scalar.muli arg9 c16_i32_86
  let v159 : Index := Scalar.indexCast v157
  ![21, v159.toNat]
def k0_off117 (k0_t3 : Fin k0_t3_loop.trips) : Fin 2 → Nat :=
  let c22_i32 : BitVec 32 := 22#32
  let v162 : Index := Scalar.indexCast c22_i32
  let c16_i32_18 : BitVec 32 := 16#32
  let c1_i32_20 : BitVec 32 := 1#32
  let arg9 : BitVec 32 := Scf.iv c16_i32_18 c1_i32_20 k0_t3
  let c16_i32_87 : BitVec 32 := 16#32
  let v161 : BitVec 32 := Scalar.muli arg9 c16_i32_87
  let v163 : Index := Scalar.indexCast v161
  ![22, v163.toNat]
def k0_off118 (k0_t3 : Fin k0_t3_loop.trips) : Fin 2 → Nat :=
  let c23_i32 : BitVec 32 := 23#32
  let v166 : Index := Scalar.indexCast c23_i32
  let c16_i32_18 : BitVec 32 := 16#32
  let c1_i32_20 : BitVec 32 := 1#32
  let arg9 : BitVec 32 := Scf.iv c16_i32_18 c1_i32_20 k0_t3
  let c16_i32_88 : BitVec 32 := 16#32
  let v165 : BitVec 32 := Scalar.muli arg9 c16_i32_88
  let v167 : Index := Scalar.indexCast v165
  ![23, v167.toNat]
def k0_off119 (k0_t3 : Fin k0_t3_loop.trips) : Fin 2 → Nat :=
  let c24_i32 : BitVec 32 := 24#32
  let v170 : Index := Scalar.indexCast c24_i32
  let c16_i32_18 : BitVec 32 := 16#32
  let c1_i32_20 : BitVec 32 := 1#32
  let arg9 : BitVec 32 := Scf.iv c16_i32_18 c1_i32_20 k0_t3
  let c16_i32_89 : BitVec 32 := 16#32
  let v169 : BitVec 32 := Scalar.muli arg9 c16_i32_89
  let v171 : Index := Scalar.indexCast v169
  ![24, v171.toNat]
def k0_off120 (k0_t3 : Fin k0_t3_loop.trips) : Fin 2 → Nat :=
  let c25_i32 : BitVec 32 := 25#32
  let v174 : Index := Scalar.indexCast c25_i32
  let c16_i32_18 : BitVec 32 := 16#32
  let c1_i32_20 : BitVec 32 := 1#32
  let arg9 : BitVec 32 := Scf.iv c16_i32_18 c1_i32_20 k0_t3
  let c16_i32_90 : BitVec 32 := 16#32
  let v173 : BitVec 32 := Scalar.muli arg9 c16_i32_90
  let v175 : Index := Scalar.indexCast v173
  ![25, v175.toNat]
def k0_off121 (k0_t3 : Fin k0_t3_loop.trips) : Fin 2 → Nat :=
  let c26_i32 : BitVec 32 := 26#32
  let v178 : Index := Scalar.indexCast c26_i32
  let c16_i32_18 : BitVec 32 := 16#32
  let c1_i32_20 : BitVec 32 := 1#32
  let arg9 : BitVec 32 := Scf.iv c16_i32_18 c1_i32_20 k0_t3
  let c16_i32_91 : BitVec 32 := 16#32
  let v177 : BitVec 32 := Scalar.muli arg9 c16_i32_91
  let v179 : Index := Scalar.indexCast v177
  ![26, v179.toNat]
def k0_off122 (k0_t3 : Fin k0_t3_loop.trips) : Fin 2 → Nat :=
  let c27_i32 : BitVec 32 := 27#32
  let v182 : Index := Scalar.indexCast c27_i32
  let c16_i32_18 : BitVec 32 := 16#32
  let c1_i32_20 : BitVec 32 := 1#32
  let arg9 : BitVec 32 := Scf.iv c16_i32_18 c1_i32_20 k0_t3
  let c16_i32_92 : BitVec 32 := 16#32
  let v181 : BitVec 32 := Scalar.muli arg9 c16_i32_92
  let v183 : Index := Scalar.indexCast v181
  ![27, v183.toNat]
def k0_off123 (k0_t3 : Fin k0_t3_loop.trips) : Fin 2 → Nat :=
  let c28_i32 : BitVec 32 := 28#32
  let v186 : Index := Scalar.indexCast c28_i32
  let c16_i32_18 : BitVec 32 := 16#32
  let c1_i32_20 : BitVec 32 := 1#32
  let arg9 : BitVec 32 := Scf.iv c16_i32_18 c1_i32_20 k0_t3
  let c16_i32_93 : BitVec 32 := 16#32
  let v185 : BitVec 32 := Scalar.muli arg9 c16_i32_93
  let v187 : Index := Scalar.indexCast v185
  ![28, v187.toNat]
def k0_off124 (k0_t3 : Fin k0_t3_loop.trips) : Fin 2 → Nat :=
  let c29_i32 : BitVec 32 := 29#32
  let v190 : Index := Scalar.indexCast c29_i32
  let c16_i32_18 : BitVec 32 := 16#32
  let c1_i32_20 : BitVec 32 := 1#32
  let arg9 : BitVec 32 := Scf.iv c16_i32_18 c1_i32_20 k0_t3
  let c16_i32_94 : BitVec 32 := 16#32
  let v189 : BitVec 32 := Scalar.muli arg9 c16_i32_94
  let v191 : Index := Scalar.indexCast v189
  ![29, v191.toNat]

def k0_chk81 (v32 : IVec S16 32) (v156 : IVec S16 32) : Prop :=
  (∀ a x, ((![v156, v32] : Fin 2 → IVec S16 32) a x).toNat < S80x512.size a)
theorem k0_idx81_inb : ∀ (v32 : IVec S16 32) (v156 : IVec S16 32) (k0_hw81 : k0_chk81 v32 v156), ∀ a x, ((![v156, v32] : Fin 2 → IVec S16 32) a x).toNat < S80x512.size a := fun v32 v156 k0_hw81 => k0_hw81

def k0_chk82 (v32 : IVec S16 32) (v160 : IVec S16 32) : Prop :=
  (∀ a x, ((![v160, v32] : Fin 2 → IVec S16 32) a x).toNat < S80x512.size a)
theorem k0_idx82_inb : ∀ (v32 : IVec S16 32) (v160 : IVec S16 32) (k0_hw82 : k0_chk82 v32 v160), ∀ a x, ((![v160, v32] : Fin 2 → IVec S16 32) a x).toNat < S80x512.size a := fun v32 v160 k0_hw82 => k0_hw82

def k0_chk83 (v32 : IVec S16 32) (v164 : IVec S16 32) : Prop :=
  (∀ a x, ((![v164, v32] : Fin 2 → IVec S16 32) a x).toNat < S80x512.size a)
theorem k0_idx83_inb : ∀ (v32 : IVec S16 32) (v164 : IVec S16 32) (k0_hw83 : k0_chk83 v32 v164), ∀ a x, ((![v164, v32] : Fin 2 → IVec S16 32) a x).toNat < S80x512.size a := fun v32 v164 k0_hw83 => k0_hw83

def k0_chk84 (v32 : IVec S16 32) (v168 : IVec S16 32) : Prop :=
  (∀ a x, ((![v168, v32] : Fin 2 → IVec S16 32) a x).toNat < S80x512.size a)
theorem k0_idx84_inb : ∀ (v32 : IVec S16 32) (v168 : IVec S16 32) (k0_hw84 : k0_chk84 v32 v168), ∀ a x, ((![v168, v32] : Fin 2 → IVec S16 32) a x).toNat < S80x512.size a := fun v32 v168 k0_hw84 => k0_hw84

def k0_chk85 (v32 : IVec S16 32) (v172 : IVec S16 32) : Prop :=
  (∀ a x, ((![v172, v32] : Fin 2 → IVec S16 32) a x).toNat < S80x512.size a)
theorem k0_idx85_inb : ∀ (v32 : IVec S16 32) (v172 : IVec S16 32) (k0_hw85 : k0_chk85 v32 v172), ∀ a x, ((![v172, v32] : Fin 2 → IVec S16 32) a x).toNat < S80x512.size a := fun v32 v172 k0_hw85 => k0_hw85

def k0_chk86 (v32 : IVec S16 32) (v176 : IVec S16 32) : Prop :=
  (∀ a x, ((![v176, v32] : Fin 2 → IVec S16 32) a x).toNat < S80x512.size a)
theorem k0_idx86_inb : ∀ (v32 : IVec S16 32) (v176 : IVec S16 32) (k0_hw86 : k0_chk86 v32 v176), ∀ a x, ((![v176, v32] : Fin 2 → IVec S16 32) a x).toNat < S80x512.size a := fun v32 v176 k0_hw86 => k0_hw86

def k0_chk87 (v32 : IVec S16 32) (v180 : IVec S16 32) : Prop :=
  (∀ a x, ((![v180, v32] : Fin 2 → IVec S16 32) a x).toNat < S80x512.size a)
theorem k0_idx87_inb : ∀ (v32 : IVec S16 32) (v180 : IVec S16 32) (k0_hw87 : k0_chk87 v32 v180), ∀ a x, ((![v180, v32] : Fin 2 → IVec S16 32) a x).toNat < S80x512.size a := fun v32 v180 k0_hw87 => k0_hw87

def k0_chk88 (v32 : IVec S16 32) (v184 : IVec S16 32) : Prop :=
  (∀ a x, ((![v184, v32] : Fin 2 → IVec S16 32) a x).toNat < S80x512.size a)
theorem k0_idx88_inb : ∀ (v32 : IVec S16 32) (v184 : IVec S16 32) (k0_hw88 : k0_chk88 v32 v184), ∀ a x, ((![v184, v32] : Fin 2 → IVec S16 32) a x).toNat < S80x512.size a := fun v32 v184 k0_hw88 => k0_hw88

def k0_chk89 (v32 : IVec S16 32) (v188 : IVec S16 32) : Prop :=
  (∀ a x, ((![v188, v32] : Fin 2 → IVec S16 32) a x).toNat < S80x512.size a)
theorem k0_idx89_inb : ∀ (v32 : IVec S16 32) (v188 : IVec S16 32) (k0_hw89 : k0_chk89 v32 v188), ∀ a x, ((![v188, v32] : Fin 2 → IVec S16 32) a x).toNat < S80x512.size a := fun v32 v188 k0_hw89 => k0_hw89

def k0_chk90 (v32 : IVec S16 32) (v192 : IVec S16 32) : Prop :=
  (∀ a x, ((![v192, v32] : Fin 2 → IVec S16 32) a x).toNat < S80x512.size a)
theorem k0_idx90_inb : ∀ (v32 : IVec S16 32) (v192 : IVec S16 32) (k0_hw90 : k0_chk90 v32 v192), ∀ a x, ((![v192, v32] : Fin 2 → IVec S16 32) a x).toNat < S80x512.size a := fun v32 v192 k0_hw90 => k0_hw90
def k0_off125 (k0_t3 : Fin k0_t3_loop.trips) : Fin 2 → Nat :=
  let c30_i32 : BitVec 32 := 30#32
  let v214 : Index := Scalar.indexCast c30_i32
  let c16_i32_18 : BitVec 32 := 16#32
  let c1_i32_20 : BitVec 32 := 1#32
  let arg9 : BitVec 32 := Scf.iv c16_i32_18 c1_i32_20 k0_t3
  let c16_i32_105 : BitVec 32 := 16#32
  let v213 : BitVec 32 := Scalar.muli arg9 c16_i32_105
  let v215 : Index := Scalar.indexCast v213
  ![30, v215.toNat]
def k0_off126 (k0_t3 : Fin k0_t3_loop.trips) : Fin 2 → Nat :=
  let c31_i32 : BitVec 32 := 31#32
  let v218 : Index := Scalar.indexCast c31_i32
  let c16_i32_18 : BitVec 32 := 16#32
  let c1_i32_20 : BitVec 32 := 1#32
  let arg9 : BitVec 32 := Scf.iv c16_i32_18 c1_i32_20 k0_t3
  let c16_i32_106 : BitVec 32 := 16#32
  let v217 : BitVec 32 := Scalar.muli arg9 c16_i32_106
  let v219 : Index := Scalar.indexCast v217
  ![31, v219.toNat]
def k0_off127 (k0_t3 : Fin k0_t3_loop.trips) : Fin 2 → Nat :=
  let c32_i32 : BitVec 32 := 32#32
  let v222 : Index := Scalar.indexCast c32_i32
  let c16_i32_18 : BitVec 32 := 16#32
  let c1_i32_20 : BitVec 32 := 1#32
  let arg9 : BitVec 32 := Scf.iv c16_i32_18 c1_i32_20 k0_t3
  let c16_i32_107 : BitVec 32 := 16#32
  let v221 : BitVec 32 := Scalar.muli arg9 c16_i32_107
  let v223 : Index := Scalar.indexCast v221
  ![32, v223.toNat]
def k0_off128 (k0_t3 : Fin k0_t3_loop.trips) : Fin 2 → Nat :=
  let c33_i32 : BitVec 32 := 33#32
  let v226 : Index := Scalar.indexCast c33_i32
  let c16_i32_18 : BitVec 32 := 16#32
  let c1_i32_20 : BitVec 32 := 1#32
  let arg9 : BitVec 32 := Scf.iv c16_i32_18 c1_i32_20 k0_t3
  let c16_i32_108 : BitVec 32 := 16#32
  let v225 : BitVec 32 := Scalar.muli arg9 c16_i32_108
  let v227 : Index := Scalar.indexCast v225
  ![33, v227.toNat]
def k0_off129 (k0_t3 : Fin k0_t3_loop.trips) : Fin 2 → Nat :=
  let c34_i32 : BitVec 32 := 34#32
  let v230 : Index := Scalar.indexCast c34_i32
  let c16_i32_18 : BitVec 32 := 16#32
  let c1_i32_20 : BitVec 32 := 1#32
  let arg9 : BitVec 32 := Scf.iv c16_i32_18 c1_i32_20 k0_t3
  let c16_i32_109 : BitVec 32 := 16#32
  let v229 : BitVec 32 := Scalar.muli arg9 c16_i32_109
  let v231 : Index := Scalar.indexCast v229
  ![34, v231.toNat]
def k0_off130 (k0_t3 : Fin k0_t3_loop.trips) : Fin 2 → Nat :=
  let c35_i32 : BitVec 32 := 35#32
  let v234 : Index := Scalar.indexCast c35_i32
  let c16_i32_18 : BitVec 32 := 16#32
  let c1_i32_20 : BitVec 32 := 1#32
  let arg9 : BitVec 32 := Scf.iv c16_i32_18 c1_i32_20 k0_t3
  let c16_i32_110 : BitVec 32 := 16#32
  let v233 : BitVec 32 := Scalar.muli arg9 c16_i32_110
  let v235 : Index := Scalar.indexCast v233
  ![35, v235.toNat]
def k0_off131 (k0_t3 : Fin k0_t3_loop.trips) : Fin 2 → Nat :=
  let c36_i32 : BitVec 32 := 36#32
  let v238 : Index := Scalar.indexCast c36_i32
  let c16_i32_18 : BitVec 32 := 16#32
  let c1_i32_20 : BitVec 32 := 1#32
  let arg9 : BitVec 32 := Scf.iv c16_i32_18 c1_i32_20 k0_t3
  let c16_i32_111 : BitVec 32 := 16#32
  let v237 : BitVec 32 := Scalar.muli arg9 c16_i32_111
  let v239 : Index := Scalar.indexCast v237
  ![36, v239.toNat]
def k0_off132 (k0_t3 : Fin k0_t3_loop.trips) : Fin 2 → Nat :=
  let c37_i32 : BitVec 32 := 37#32
  let v242 : Index := Scalar.indexCast c37_i32
  let c16_i32_18 : BitVec 32 := 16#32
  let c1_i32_20 : BitVec 32 := 1#32
  let arg9 : BitVec 32 := Scf.iv c16_i32_18 c1_i32_20 k0_t3
  let c16_i32_112 : BitVec 32 := 16#32
  let v241 : BitVec 32 := Scalar.muli arg9 c16_i32_112
  let v243 : Index := Scalar.indexCast v241
  ![37, v243.toNat]
def k0_off133 (k0_t3 : Fin k0_t3_loop.trips) : Fin 2 → Nat :=
  let c38_i32 : BitVec 32 := 38#32
  let v246 : Index := Scalar.indexCast c38_i32
  let c16_i32_18 : BitVec 32 := 16#32
  let c1_i32_20 : BitVec 32 := 1#32
  let arg9 : BitVec 32 := Scf.iv c16_i32_18 c1_i32_20 k0_t3
  let c16_i32_113 : BitVec 32 := 16#32
  let v245 : BitVec 32 := Scalar.muli arg9 c16_i32_113
  let v247 : Index := Scalar.indexCast v245
  ![38, v247.toNat]
def k0_off134 (k0_t3 : Fin k0_t3_loop.trips) : Fin 2 → Nat :=
  let c39_i32 : BitVec 32 := 39#32
  let v250 : Index := Scalar.indexCast c39_i32
  let c16_i32_18 : BitVec 32 := 16#32
  let c1_i32_20 : BitVec 32 := 1#32
  let arg9 : BitVec 32 := Scf.iv c16_i32_18 c1_i32_20 k0_t3
  let c16_i32_114 : BitVec 32 := 16#32
  let v249 : BitVec 32 := Scalar.muli arg9 c16_i32_114
  let v251 : Index := Scalar.indexCast v249
  ![39, v251.toNat]

def k0_chk91 (v32 : IVec S16 32) (v216 : IVec S16 32) : Prop :=
  (∀ a x, ((![v216, v32] : Fin 2 → IVec S16 32) a x).toNat < S80x512.size a)
theorem k0_idx91_inb : ∀ (v32 : IVec S16 32) (v216 : IVec S16 32) (k0_hw91 : k0_chk91 v32 v216), ∀ a x, ((![v216, v32] : Fin 2 → IVec S16 32) a x).toNat < S80x512.size a := fun v32 v216 k0_hw91 => k0_hw91

def k0_chk92 (v32 : IVec S16 32) (v220 : IVec S16 32) : Prop :=
  (∀ a x, ((![v220, v32] : Fin 2 → IVec S16 32) a x).toNat < S80x512.size a)
theorem k0_idx92_inb : ∀ (v32 : IVec S16 32) (v220 : IVec S16 32) (k0_hw92 : k0_chk92 v32 v220), ∀ a x, ((![v220, v32] : Fin 2 → IVec S16 32) a x).toNat < S80x512.size a := fun v32 v220 k0_hw92 => k0_hw92

def k0_chk93 (v32 : IVec S16 32) (v224 : IVec S16 32) : Prop :=
  (∀ a x, ((![v224, v32] : Fin 2 → IVec S16 32) a x).toNat < S80x512.size a)
theorem k0_idx93_inb : ∀ (v32 : IVec S16 32) (v224 : IVec S16 32) (k0_hw93 : k0_chk93 v32 v224), ∀ a x, ((![v224, v32] : Fin 2 → IVec S16 32) a x).toNat < S80x512.size a := fun v32 v224 k0_hw93 => k0_hw93

def k0_chk94 (v32 : IVec S16 32) (v228 : IVec S16 32) : Prop :=
  (∀ a x, ((![v228, v32] : Fin 2 → IVec S16 32) a x).toNat < S80x512.size a)
theorem k0_idx94_inb : ∀ (v32 : IVec S16 32) (v228 : IVec S16 32) (k0_hw94 : k0_chk94 v32 v228), ∀ a x, ((![v228, v32] : Fin 2 → IVec S16 32) a x).toNat < S80x512.size a := fun v32 v228 k0_hw94 => k0_hw94

def k0_chk95 (v32 : IVec S16 32) (v232 : IVec S16 32) : Prop :=
  (∀ a x, ((![v232, v32] : Fin 2 → IVec S16 32) a x).toNat < S80x512.size a)
theorem k0_idx95_inb : ∀ (v32 : IVec S16 32) (v232 : IVec S16 32) (k0_hw95 : k0_chk95 v32 v232), ∀ a x, ((![v232, v32] : Fin 2 → IVec S16 32) a x).toNat < S80x512.size a := fun v32 v232 k0_hw95 => k0_hw95

def k0_chk96 (v32 : IVec S16 32) (v236 : IVec S16 32) : Prop :=
  (∀ a x, ((![v236, v32] : Fin 2 → IVec S16 32) a x).toNat < S80x512.size a)
theorem k0_idx96_inb : ∀ (v32 : IVec S16 32) (v236 : IVec S16 32) (k0_hw96 : k0_chk96 v32 v236), ∀ a x, ((![v236, v32] : Fin 2 → IVec S16 32) a x).toNat < S80x512.size a := fun v32 v236 k0_hw96 => k0_hw96

def k0_chk97 (v32 : IVec S16 32) (v240 : IVec S16 32) : Prop :=
  (∀ a x, ((![v240, v32] : Fin 2 → IVec S16 32) a x).toNat < S80x512.size a)
theorem k0_idx97_inb : ∀ (v32 : IVec S16 32) (v240 : IVec S16 32) (k0_hw97 : k0_chk97 v32 v240), ∀ a x, ((![v240, v32] : Fin 2 → IVec S16 32) a x).toNat < S80x512.size a := fun v32 v240 k0_hw97 => k0_hw97

def k0_chk98 (v32 : IVec S16 32) (v244 : IVec S16 32) : Prop :=
  (∀ a x, ((![v244, v32] : Fin 2 → IVec S16 32) a x).toNat < S80x512.size a)
theorem k0_idx98_inb : ∀ (v32 : IVec S16 32) (v244 : IVec S16 32) (k0_hw98 : k0_chk98 v32 v244), ∀ a x, ((![v244, v32] : Fin 2 → IVec S16 32) a x).toNat < S80x512.size a := fun v32 v244 k0_hw98 => k0_hw98

def k0_chk99 (v32 : IVec S16 32) (v248 : IVec S16 32) : Prop :=
  (∀ a x, ((![v248, v32] : Fin 2 → IVec S16 32) a x).toNat < S80x512.size a)
theorem k0_idx99_inb : ∀ (v32 : IVec S16 32) (v248 : IVec S16 32) (k0_hw99 : k0_chk99 v32 v248), ∀ a x, ((![v248, v32] : Fin 2 → IVec S16 32) a x).toNat < S80x512.size a := fun v32 v248 k0_hw99 => k0_hw99

def k0_chk100 (v32 : IVec S16 32) (v252 : IVec S16 32) : Prop :=
  (∀ a x, ((![v252, v32] : Fin 2 → IVec S16 32) a x).toNat < S80x512.size a)
theorem k0_idx100_inb : ∀ (v32 : IVec S16 32) (v252 : IVec S16 32) (k0_hw100 : k0_chk100 v32 v252), ∀ a x, ((![v252, v32] : Fin 2 → IVec S16 32) a x).toNat < S80x512.size a := fun v32 v252 k0_hw100 => k0_hw100
def k0_off135 (k0_t3 : Fin k0_t3_loop.trips) : Fin 2 → Nat :=
  let c40_i32 : BitVec 32 := 40#32
  let v274 : Index := Scalar.indexCast c40_i32
  let c16_i32_18 : BitVec 32 := 16#32
  let c1_i32_20 : BitVec 32 := 1#32
  let arg9 : BitVec 32 := Scf.iv c16_i32_18 c1_i32_20 k0_t3
  let c16_i32_125 : BitVec 32 := 16#32
  let v273 : BitVec 32 := Scalar.muli arg9 c16_i32_125
  let v275 : Index := Scalar.indexCast v273
  ![40, v275.toNat]
def k0_off136 (k0_t3 : Fin k0_t3_loop.trips) : Fin 2 → Nat :=
  let c41_i32 : BitVec 32 := 41#32
  let v278 : Index := Scalar.indexCast c41_i32
  let c16_i32_18 : BitVec 32 := 16#32
  let c1_i32_20 : BitVec 32 := 1#32
  let arg9 : BitVec 32 := Scf.iv c16_i32_18 c1_i32_20 k0_t3
  let c16_i32_126 : BitVec 32 := 16#32
  let v277 : BitVec 32 := Scalar.muli arg9 c16_i32_126
  let v279 : Index := Scalar.indexCast v277
  ![41, v279.toNat]
def k0_off137 (k0_t3 : Fin k0_t3_loop.trips) : Fin 2 → Nat :=
  let c42_i32 : BitVec 32 := 42#32
  let v282 : Index := Scalar.indexCast c42_i32
  let c16_i32_18 : BitVec 32 := 16#32
  let c1_i32_20 : BitVec 32 := 1#32
  let arg9 : BitVec 32 := Scf.iv c16_i32_18 c1_i32_20 k0_t3
  let c16_i32_127 : BitVec 32 := 16#32
  let v281 : BitVec 32 := Scalar.muli arg9 c16_i32_127
  let v283 : Index := Scalar.indexCast v281
  ![42, v283.toNat]
def k0_off138 (k0_t3 : Fin k0_t3_loop.trips) : Fin 2 → Nat :=
  let c43_i32 : BitVec 32 := 43#32
  let v286 : Index := Scalar.indexCast c43_i32
  let c16_i32_18 : BitVec 32 := 16#32
  let c1_i32_20 : BitVec 32 := 1#32
  let arg9 : BitVec 32 := Scf.iv c16_i32_18 c1_i32_20 k0_t3
  let c16_i32_128 : BitVec 32 := 16#32
  let v285 : BitVec 32 := Scalar.muli arg9 c16_i32_128
  let v287 : Index := Scalar.indexCast v285
  ![43, v287.toNat]
def k0_off139 (k0_t3 : Fin k0_t3_loop.trips) : Fin 2 → Nat :=
  let c44_i32 : BitVec 32 := 44#32
  let v290 : Index := Scalar.indexCast c44_i32
  let c16_i32_18 : BitVec 32 := 16#32
  let c1_i32_20 : BitVec 32 := 1#32
  let arg9 : BitVec 32 := Scf.iv c16_i32_18 c1_i32_20 k0_t3
  let c16_i32_129 : BitVec 32 := 16#32
  let v289 : BitVec 32 := Scalar.muli arg9 c16_i32_129
  let v291 : Index := Scalar.indexCast v289
  ![44, v291.toNat]
def k0_off140 (k0_t3 : Fin k0_t3_loop.trips) : Fin 2 → Nat :=
  let c45_i32 : BitVec 32 := 45#32
  let v294 : Index := Scalar.indexCast c45_i32
  let c16_i32_18 : BitVec 32 := 16#32
  let c1_i32_20 : BitVec 32 := 1#32
  let arg9 : BitVec 32 := Scf.iv c16_i32_18 c1_i32_20 k0_t3
  let c16_i32_130 : BitVec 32 := 16#32
  let v293 : BitVec 32 := Scalar.muli arg9 c16_i32_130
  let v295 : Index := Scalar.indexCast v293
  ![45, v295.toNat]
def k0_off141 (k0_t3 : Fin k0_t3_loop.trips) : Fin 2 → Nat :=
  let c46_i32 : BitVec 32 := 46#32
  let v298 : Index := Scalar.indexCast c46_i32
  let c16_i32_18 : BitVec 32 := 16#32
  let c1_i32_20 : BitVec 32 := 1#32
  let arg9 : BitVec 32 := Scf.iv c16_i32_18 c1_i32_20 k0_t3
  let c16_i32_131 : BitVec 32 := 16#32
  let v297 : BitVec 32 := Scalar.muli arg9 c16_i32_131
  let v299 : Index := Scalar.indexCast v297
  ![46, v299.toNat]
def k0_off142 (k0_t3 : Fin k0_t3_loop.trips) : Fin 2 → Nat :=
  let c47_i32 : BitVec 32 := 47#32
  let v302 : Index := Scalar.indexCast c47_i32
  let c16_i32_18 : BitVec 32 := 16#32
  let c1_i32_20 : BitVec 32 := 1#32
  let arg9 : BitVec 32 := Scf.iv c16_i32_18 c1_i32_20 k0_t3
  let c16_i32_132 : BitVec 32 := 16#32
  let v301 : BitVec 32 := Scalar.muli arg9 c16_i32_132
  let v303 : Index := Scalar.indexCast v301
  ![47, v303.toNat]
def k0_off143 (k0_t3 : Fin k0_t3_loop.trips) : Fin 2 → Nat :=
  let c48_i32 : BitVec 32 := 48#32
  let v306 : Index := Scalar.indexCast c48_i32
  let c16_i32_18 : BitVec 32 := 16#32
  let c1_i32_20 : BitVec 32 := 1#32
  let arg9 : BitVec 32 := Scf.iv c16_i32_18 c1_i32_20 k0_t3
  let c16_i32_133 : BitVec 32 := 16#32
  let v305 : BitVec 32 := Scalar.muli arg9 c16_i32_133
  let v307 : Index := Scalar.indexCast v305
  ![48, v307.toNat]
def k0_off144 (k0_t3 : Fin k0_t3_loop.trips) : Fin 2 → Nat :=
  let c49_i32 : BitVec 32 := 49#32
  let v310 : Index := Scalar.indexCast c49_i32
  let c16_i32_18 : BitVec 32 := 16#32
  let c1_i32_20 : BitVec 32 := 1#32
  let arg9 : BitVec 32 := Scf.iv c16_i32_18 c1_i32_20 k0_t3
  let c16_i32_134 : BitVec 32 := 16#32
  let v309 : BitVec 32 := Scalar.muli arg9 c16_i32_134
  let v311 : Index := Scalar.indexCast v309
  ![49, v311.toNat]

def k0_chk101 (v32 : IVec S16 32) (v276 : IVec S16 32) : Prop :=
  (∀ a x, ((![v276, v32] : Fin 2 → IVec S16 32) a x).toNat < S80x512.size a)
theorem k0_idx101_inb : ∀ (v32 : IVec S16 32) (v276 : IVec S16 32) (k0_hw101 : k0_chk101 v32 v276), ∀ a x, ((![v276, v32] : Fin 2 → IVec S16 32) a x).toNat < S80x512.size a := fun v32 v276 k0_hw101 => k0_hw101

def k0_chk102 (v32 : IVec S16 32) (v280 : IVec S16 32) : Prop :=
  (∀ a x, ((![v280, v32] : Fin 2 → IVec S16 32) a x).toNat < S80x512.size a)
theorem k0_idx102_inb : ∀ (v32 : IVec S16 32) (v280 : IVec S16 32) (k0_hw102 : k0_chk102 v32 v280), ∀ a x, ((![v280, v32] : Fin 2 → IVec S16 32) a x).toNat < S80x512.size a := fun v32 v280 k0_hw102 => k0_hw102

def k0_chk103 (v32 : IVec S16 32) (v284 : IVec S16 32) : Prop :=
  (∀ a x, ((![v284, v32] : Fin 2 → IVec S16 32) a x).toNat < S80x512.size a)
theorem k0_idx103_inb : ∀ (v32 : IVec S16 32) (v284 : IVec S16 32) (k0_hw103 : k0_chk103 v32 v284), ∀ a x, ((![v284, v32] : Fin 2 → IVec S16 32) a x).toNat < S80x512.size a := fun v32 v284 k0_hw103 => k0_hw103

def k0_chk104 (v32 : IVec S16 32) (v288 : IVec S16 32) : Prop :=
  (∀ a x, ((![v288, v32] : Fin 2 → IVec S16 32) a x).toNat < S80x512.size a)
theorem k0_idx104_inb : ∀ (v32 : IVec S16 32) (v288 : IVec S16 32) (k0_hw104 : k0_chk104 v32 v288), ∀ a x, ((![v288, v32] : Fin 2 → IVec S16 32) a x).toNat < S80x512.size a := fun v32 v288 k0_hw104 => k0_hw104

def k0_chk105 (v32 : IVec S16 32) (v292 : IVec S16 32) : Prop :=
  (∀ a x, ((![v292, v32] : Fin 2 → IVec S16 32) a x).toNat < S80x512.size a)
theorem k0_idx105_inb : ∀ (v32 : IVec S16 32) (v292 : IVec S16 32) (k0_hw105 : k0_chk105 v32 v292), ∀ a x, ((![v292, v32] : Fin 2 → IVec S16 32) a x).toNat < S80x512.size a := fun v32 v292 k0_hw105 => k0_hw105

def k0_chk106 (v32 : IVec S16 32) (v296 : IVec S16 32) : Prop :=
  (∀ a x, ((![v296, v32] : Fin 2 → IVec S16 32) a x).toNat < S80x512.size a)
theorem k0_idx106_inb : ∀ (v32 : IVec S16 32) (v296 : IVec S16 32) (k0_hw106 : k0_chk106 v32 v296), ∀ a x, ((![v296, v32] : Fin 2 → IVec S16 32) a x).toNat < S80x512.size a := fun v32 v296 k0_hw106 => k0_hw106

def k0_chk107 (v32 : IVec S16 32) (v300 : IVec S16 32) : Prop :=
  (∀ a x, ((![v300, v32] : Fin 2 → IVec S16 32) a x).toNat < S80x512.size a)
theorem k0_idx107_inb : ∀ (v32 : IVec S16 32) (v300 : IVec S16 32) (k0_hw107 : k0_chk107 v32 v300), ∀ a x, ((![v300, v32] : Fin 2 → IVec S16 32) a x).toNat < S80x512.size a := fun v32 v300 k0_hw107 => k0_hw107

def k0_chk108 (v32 : IVec S16 32) (v304 : IVec S16 32) : Prop :=
  (∀ a x, ((![v304, v32] : Fin 2 → IVec S16 32) a x).toNat < S80x512.size a)
theorem k0_idx108_inb : ∀ (v32 : IVec S16 32) (v304 : IVec S16 32) (k0_hw108 : k0_chk108 v32 v304), ∀ a x, ((![v304, v32] : Fin 2 → IVec S16 32) a x).toNat < S80x512.size a := fun v32 v304 k0_hw108 => k0_hw108

def k0_chk109 (v32 : IVec S16 32) (v308 : IVec S16 32) : Prop :=
  (∀ a x, ((![v308, v32] : Fin 2 → IVec S16 32) a x).toNat < S80x512.size a)
theorem k0_idx109_inb : ∀ (v32 : IVec S16 32) (v308 : IVec S16 32) (k0_hw109 : k0_chk109 v32 v308), ∀ a x, ((![v308, v32] : Fin 2 → IVec S16 32) a x).toNat < S80x512.size a := fun v32 v308 k0_hw109 => k0_hw109

def k0_chk110 (v32 : IVec S16 32) (v312 : IVec S16 32) : Prop :=
  (∀ a x, ((![v312, v32] : Fin 2 → IVec S16 32) a x).toNat < S80x512.size a)
theorem k0_idx110_inb : ∀ (v32 : IVec S16 32) (v312 : IVec S16 32) (k0_hw110 : k0_chk110 v32 v312), ∀ a x, ((![v312, v32] : Fin 2 → IVec S16 32) a x).toNat < S80x512.size a := fun v32 v312 k0_hw110 => k0_hw110
def k0_off145 (k0_t3 : Fin k0_t3_loop.trips) : Fin 2 → Nat :=
  let c50_i32 : BitVec 32 := 50#32
  let v334 : Index := Scalar.indexCast c50_i32
  let c16_i32_18 : BitVec 32 := 16#32
  let c1_i32_20 : BitVec 32 := 1#32
  let arg9 : BitVec 32 := Scf.iv c16_i32_18 c1_i32_20 k0_t3
  let c16_i32_145 : BitVec 32 := 16#32
  let v333 : BitVec 32 := Scalar.muli arg9 c16_i32_145
  let v335 : Index := Scalar.indexCast v333
  ![50, v335.toNat]
def k0_off146 (k0_t3 : Fin k0_t3_loop.trips) : Fin 2 → Nat :=
  let c51_i32 : BitVec 32 := 51#32
  let v338 : Index := Scalar.indexCast c51_i32
  let c16_i32_18 : BitVec 32 := 16#32
  let c1_i32_20 : BitVec 32 := 1#32
  let arg9 : BitVec 32 := Scf.iv c16_i32_18 c1_i32_20 k0_t3
  let c16_i32_146 : BitVec 32 := 16#32
  let v337 : BitVec 32 := Scalar.muli arg9 c16_i32_146
  let v339 : Index := Scalar.indexCast v337
  ![51, v339.toNat]
def k0_off147 (k0_t3 : Fin k0_t3_loop.trips) : Fin 2 → Nat :=
  let c52_i32 : BitVec 32 := 52#32
  let v342 : Index := Scalar.indexCast c52_i32
  let c16_i32_18 : BitVec 32 := 16#32
  let c1_i32_20 : BitVec 32 := 1#32
  let arg9 : BitVec 32 := Scf.iv c16_i32_18 c1_i32_20 k0_t3
  let c16_i32_147 : BitVec 32 := 16#32
  let v341 : BitVec 32 := Scalar.muli arg9 c16_i32_147
  let v343 : Index := Scalar.indexCast v341
  ![52, v343.toNat]
def k0_off148 (k0_t3 : Fin k0_t3_loop.trips) : Fin 2 → Nat :=
  let c53_i32 : BitVec 32 := 53#32
  let v346 : Index := Scalar.indexCast c53_i32
  let c16_i32_18 : BitVec 32 := 16#32
  let c1_i32_20 : BitVec 32 := 1#32
  let arg9 : BitVec 32 := Scf.iv c16_i32_18 c1_i32_20 k0_t3
  let c16_i32_148 : BitVec 32 := 16#32
  let v345 : BitVec 32 := Scalar.muli arg9 c16_i32_148
  let v347 : Index := Scalar.indexCast v345
  ![53, v347.toNat]
def k0_off149 (k0_t3 : Fin k0_t3_loop.trips) : Fin 2 → Nat :=
  let c54_i32 : BitVec 32 := 54#32
  let v350 : Index := Scalar.indexCast c54_i32
  let c16_i32_18 : BitVec 32 := 16#32
  let c1_i32_20 : BitVec 32 := 1#32
  let arg9 : BitVec 32 := Scf.iv c16_i32_18 c1_i32_20 k0_t3
  let c16_i32_149 : BitVec 32 := 16#32
  let v349 : BitVec 32 := Scalar.muli arg9 c16_i32_149
  let v351 : Index := Scalar.indexCast v349
  ![54, v351.toNat]
def k0_off150 (k0_t3 : Fin k0_t3_loop.trips) : Fin 2 → Nat :=
  let c55_i32 : BitVec 32 := 55#32
  let v354 : Index := Scalar.indexCast c55_i32
  let c16_i32_18 : BitVec 32 := 16#32
  let c1_i32_20 : BitVec 32 := 1#32
  let arg9 : BitVec 32 := Scf.iv c16_i32_18 c1_i32_20 k0_t3
  let c16_i32_150 : BitVec 32 := 16#32
  let v353 : BitVec 32 := Scalar.muli arg9 c16_i32_150
  let v355 : Index := Scalar.indexCast v353
  ![55, v355.toNat]
def k0_off151 (k0_t3 : Fin k0_t3_loop.trips) : Fin 2 → Nat :=
  let c56_i32 : BitVec 32 := 56#32
  let v358 : Index := Scalar.indexCast c56_i32
  let c16_i32_18 : BitVec 32 := 16#32
  let c1_i32_20 : BitVec 32 := 1#32
  let arg9 : BitVec 32 := Scf.iv c16_i32_18 c1_i32_20 k0_t3
  let c16_i32_151 : BitVec 32 := 16#32
  let v357 : BitVec 32 := Scalar.muli arg9 c16_i32_151
  let v359 : Index := Scalar.indexCast v357
  ![56, v359.toNat]
def k0_off152 (k0_t3 : Fin k0_t3_loop.trips) : Fin 2 → Nat :=
  let c57_i32 : BitVec 32 := 57#32
  let v362 : Index := Scalar.indexCast c57_i32
  let c16_i32_18 : BitVec 32 := 16#32
  let c1_i32_20 : BitVec 32 := 1#32
  let arg9 : BitVec 32 := Scf.iv c16_i32_18 c1_i32_20 k0_t3
  let c16_i32_152 : BitVec 32 := 16#32
  let v361 : BitVec 32 := Scalar.muli arg9 c16_i32_152
  let v363 : Index := Scalar.indexCast v361
  ![57, v363.toNat]
def k0_off153 (k0_t3 : Fin k0_t3_loop.trips) : Fin 2 → Nat :=
  let c58_i32 : BitVec 32 := 58#32
  let v366 : Index := Scalar.indexCast c58_i32
  let c16_i32_18 : BitVec 32 := 16#32
  let c1_i32_20 : BitVec 32 := 1#32
  let arg9 : BitVec 32 := Scf.iv c16_i32_18 c1_i32_20 k0_t3
  let c16_i32_153 : BitVec 32 := 16#32
  let v365 : BitVec 32 := Scalar.muli arg9 c16_i32_153
  let v367 : Index := Scalar.indexCast v365
  ![58, v367.toNat]
def k0_off154 (k0_t3 : Fin k0_t3_loop.trips) : Fin 2 → Nat :=
  let c59_i32 : BitVec 32 := 59#32
  let v370 : Index := Scalar.indexCast c59_i32
  let c16_i32_18 : BitVec 32 := 16#32
  let c1_i32_20 : BitVec 32 := 1#32
  let arg9 : BitVec 32 := Scf.iv c16_i32_18 c1_i32_20 k0_t3
  let c16_i32_154 : BitVec 32 := 16#32
  let v369 : BitVec 32 := Scalar.muli arg9 c16_i32_154
  let v371 : Index := Scalar.indexCast v369
  ![59, v371.toNat]

def k0_chk111 (v32 : IVec S16 32) (v336 : IVec S16 32) : Prop :=
  (∀ a x, ((![v336, v32] : Fin 2 → IVec S16 32) a x).toNat < S80x512.size a)
theorem k0_idx111_inb : ∀ (v32 : IVec S16 32) (v336 : IVec S16 32) (k0_hw111 : k0_chk111 v32 v336), ∀ a x, ((![v336, v32] : Fin 2 → IVec S16 32) a x).toNat < S80x512.size a := fun v32 v336 k0_hw111 => k0_hw111

def k0_chk112 (v32 : IVec S16 32) (v340 : IVec S16 32) : Prop :=
  (∀ a x, ((![v340, v32] : Fin 2 → IVec S16 32) a x).toNat < S80x512.size a)
theorem k0_idx112_inb : ∀ (v32 : IVec S16 32) (v340 : IVec S16 32) (k0_hw112 : k0_chk112 v32 v340), ∀ a x, ((![v340, v32] : Fin 2 → IVec S16 32) a x).toNat < S80x512.size a := fun v32 v340 k0_hw112 => k0_hw112

def k0_chk113 (v32 : IVec S16 32) (v344 : IVec S16 32) : Prop :=
  (∀ a x, ((![v344, v32] : Fin 2 → IVec S16 32) a x).toNat < S80x512.size a)
theorem k0_idx113_inb : ∀ (v32 : IVec S16 32) (v344 : IVec S16 32) (k0_hw113 : k0_chk113 v32 v344), ∀ a x, ((![v344, v32] : Fin 2 → IVec S16 32) a x).toNat < S80x512.size a := fun v32 v344 k0_hw113 => k0_hw113

def k0_chk114 (v32 : IVec S16 32) (v348 : IVec S16 32) : Prop :=
  (∀ a x, ((![v348, v32] : Fin 2 → IVec S16 32) a x).toNat < S80x512.size a)
theorem k0_idx114_inb : ∀ (v32 : IVec S16 32) (v348 : IVec S16 32) (k0_hw114 : k0_chk114 v32 v348), ∀ a x, ((![v348, v32] : Fin 2 → IVec S16 32) a x).toNat < S80x512.size a := fun v32 v348 k0_hw114 => k0_hw114

def k0_chk115 (v32 : IVec S16 32) (v352 : IVec S16 32) : Prop :=
  (∀ a x, ((![v352, v32] : Fin 2 → IVec S16 32) a x).toNat < S80x512.size a)
theorem k0_idx115_inb : ∀ (v32 : IVec S16 32) (v352 : IVec S16 32) (k0_hw115 : k0_chk115 v32 v352), ∀ a x, ((![v352, v32] : Fin 2 → IVec S16 32) a x).toNat < S80x512.size a := fun v32 v352 k0_hw115 => k0_hw115

def k0_chk116 (v32 : IVec S16 32) (v356 : IVec S16 32) : Prop :=
  (∀ a x, ((![v356, v32] : Fin 2 → IVec S16 32) a x).toNat < S80x512.size a)
theorem k0_idx116_inb : ∀ (v32 : IVec S16 32) (v356 : IVec S16 32) (k0_hw116 : k0_chk116 v32 v356), ∀ a x, ((![v356, v32] : Fin 2 → IVec S16 32) a x).toNat < S80x512.size a := fun v32 v356 k0_hw116 => k0_hw116

def k0_chk117 (v32 : IVec S16 32) (v360 : IVec S16 32) : Prop :=
  (∀ a x, ((![v360, v32] : Fin 2 → IVec S16 32) a x).toNat < S80x512.size a)
theorem k0_idx117_inb : ∀ (v32 : IVec S16 32) (v360 : IVec S16 32) (k0_hw117 : k0_chk117 v32 v360), ∀ a x, ((![v360, v32] : Fin 2 → IVec S16 32) a x).toNat < S80x512.size a := fun v32 v360 k0_hw117 => k0_hw117

def k0_chk118 (v32 : IVec S16 32) (v364 : IVec S16 32) : Prop :=
  (∀ a x, ((![v364, v32] : Fin 2 → IVec S16 32) a x).toNat < S80x512.size a)
theorem k0_idx118_inb : ∀ (v32 : IVec S16 32) (v364 : IVec S16 32) (k0_hw118 : k0_chk118 v32 v364), ∀ a x, ((![v364, v32] : Fin 2 → IVec S16 32) a x).toNat < S80x512.size a := fun v32 v364 k0_hw118 => k0_hw118

def k0_chk119 (v32 : IVec S16 32) (v368 : IVec S16 32) : Prop :=
  (∀ a x, ((![v368, v32] : Fin 2 → IVec S16 32) a x).toNat < S80x512.size a)
theorem k0_idx119_inb : ∀ (v32 : IVec S16 32) (v368 : IVec S16 32) (k0_hw119 : k0_chk119 v32 v368), ∀ a x, ((![v368, v32] : Fin 2 → IVec S16 32) a x).toNat < S80x512.size a := fun v32 v368 k0_hw119 => k0_hw119

def k0_chk120 (v32 : IVec S16 32) (v372 : IVec S16 32) : Prop :=
  (∀ a x, ((![v372, v32] : Fin 2 → IVec S16 32) a x).toNat < S80x512.size a)
theorem k0_idx120_inb : ∀ (v32 : IVec S16 32) (v372 : IVec S16 32) (k0_hw120 : k0_chk120 v32 v372), ∀ a x, ((![v372, v32] : Fin 2 → IVec S16 32) a x).toNat < S80x512.size a := fun v32 v372 k0_hw120 => k0_hw120
def k0_off155 (i : grid0.Coords) : Fin 2 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v17 : BitVec 32 := Scalar.addi v2 c256_i32
  ![0, v17.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S13x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S52x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x20 : Shape := ⟨2, ![16384, 20]⟩
abbrev S13x128 : Shape := ⟨2, ![13, 128]⟩
abbrev S4x128 : Shape := ⟨2, ![4, 128]⟩
abbrev S52x128 : Shape := ⟨2, ![52, 128]⟩
abbrev S327680 : Shape := ⟨1, ![327680]⟩
abbrev S_ : Shape := ⟨0, ![]⟩
abbrev S327680x1 : Shape := ⟨2, ![327680, 1]⟩
abbrev S1 : Shape := ⟨1, ![1]⟩
abbrev S1x1 : Shape := ⟨2, ![1, 1]⟩
abbrev S327680x128 : Shape := ⟨2, ![327680, 128]⟩
abbrev S16384x20x128 : Shape := ⟨3, ![16384, 20, 128]⟩
abbrev S16384x128 : Shape := ⟨2, ![16384, 128]⟩

abbrev nBuf : Space → Nat
  | .hbm => 116
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S16384x20, .i32⟩
  | .hbm, ⟨2, _⟩ => ⟨S16384x20, .i32⟩
  | .hbm, ⟨3, _⟩ => ⟨S13x128, .f32⟩
  | .hbm, ⟨4, _⟩ => ⟨S4x128, .f32⟩
  | .hbm, ⟨5, _⟩ => ⟨S52x128, .f32⟩
  | .hbm, ⟨6, _⟩ => ⟨S327680, .i32⟩
  | .hbm, ⟨7, _⟩ => ⟨S_, .i32⟩
  | .hbm, ⟨8, _⟩ => ⟨S327680, .i32⟩
  | .hbm, ⟨9, _⟩ => ⟨S327680, .i1⟩
  | .hbm, ⟨10, _⟩ => ⟨S327680, .f32⟩
  | .hbm, ⟨11, _⟩ => ⟨S327680x1, .f32⟩
  | .hbm, ⟨12, _⟩ => ⟨S_, .i32⟩
  | .hbm, ⟨13, _⟩ => ⟨S_, .i32⟩
  | .hbm, ⟨14, _⟩ => ⟨S327680, .i32⟩
  | .hbm, ⟨15, _⟩ => ⟨S327680, .i32⟩
  | .hbm, ⟨16, _⟩ => ⟨S_, .i32⟩
  | .hbm, ⟨17, _⟩ => ⟨S327680, .i32⟩
  | .hbm, ⟨18, _⟩ => ⟨S327680, .i1⟩
  | .hbm, ⟨19, _⟩ => ⟨S_, .i32⟩
  | .hbm, ⟨20, _⟩ => ⟨S327680, .i32⟩
  | .hbm, ⟨21, _⟩ => ⟨S327680, .i32⟩
  | .hbm, ⟨22, _⟩ => ⟨S327680, .i32⟩
  | .hbm, ⟨23, _⟩ => ⟨S327680x1, .i32⟩
  | .hbm, ⟨24, _⟩ => ⟨S1, .i32⟩
  | .hbm, ⟨25, _⟩ => ⟨S_, .i32⟩
  | .hbm, ⟨26, _⟩ => ⟨S327680x1, .i32⟩
  | .hbm, ⟨27, _⟩ => ⟨S327680x1, .i1⟩
  | .hbm, ⟨28, _⟩ => ⟨S1x1, .i32⟩
  | .hbm, ⟨29, _⟩ => ⟨S327680x1, .i32⟩
  | .hbm, ⟨30, _⟩ => ⟨S327680x1, .i1⟩
  | .hbm, ⟨31, _⟩ => ⟨S327680x1, .i1⟩
  | .hbm, ⟨32, _⟩ => ⟨S_, .i1⟩
  | .hbm, ⟨33, _⟩ => ⟨S327680, .i1⟩
  | .hbm, ⟨34, _⟩ => ⟨S327680x128, .f32⟩
  | .hbm, ⟨35, _⟩ => ⟨S327680x128, .i1⟩
  | .hbm, ⟨36, _⟩ => ⟨S_, .f32⟩
  | .hbm, ⟨37, _⟩ => ⟨S327680x128, .f32⟩
  | .hbm, ⟨38, _⟩ => ⟨S327680x128, .f32⟩
  | .hbm, ⟨39, _⟩ => ⟨S327680x128, .f32⟩
  | .hbm, ⟨40, _⟩ => ⟨S327680x128, .f32⟩
  | .hbm, ⟨41, _⟩ => ⟨S327680, .i32⟩
  | .hbm, ⟨42, _⟩ => ⟨S327680, .i32⟩
  | .hbm, ⟨43, _⟩ => ⟨S_, .i32⟩
  | .hbm, ⟨44, _⟩ => ⟨S327680, .i32⟩
  | .hbm, ⟨45, _⟩ => ⟨S327680, .i1⟩
  | .hbm, ⟨46, _⟩ => ⟨S327680, .f32⟩
  | .hbm, ⟨47, _⟩ => ⟨S327680x1, .f32⟩
  | .hbm, ⟨48, _⟩ => ⟨S_, .i32⟩
  | .hbm, ⟨49, _⟩ => ⟨S327680, .i32⟩
  | .hbm, ⟨50, _⟩ => ⟨S327680, .i1⟩
  | .hbm, ⟨51, _⟩ => ⟨S327680, .f32⟩
  | .hbm, ⟨52, _⟩ => ⟨S327680x1, .f32⟩
  | .hbm, ⟨53, _⟩ => ⟨S_, .i32⟩
  | .hbm, ⟨54, _⟩ => ⟨S_, .i32⟩
  | .hbm, ⟨55, _⟩ => ⟨S327680, .i32⟩
  | .hbm, ⟨56, _⟩ => ⟨S327680, .i32⟩
  | .hbm, ⟨57, _⟩ => ⟨S_, .i32⟩
  | .hbm, ⟨58, _⟩ => ⟨S_, .i32⟩
  | .hbm, ⟨59, _⟩ => ⟨S327680, .i32⟩
  | .hbm, ⟨60, _⟩ => ⟨S327680, .i32⟩
  | .hbm, ⟨61, _⟩ => ⟨S_, .i32⟩
  | .hbm, ⟨62, _⟩ => ⟨S327680, .i32⟩
  | .hbm, ⟨63, _⟩ => ⟨S327680, .i1⟩
  | .hbm, ⟨64, _⟩ => ⟨S_, .i32⟩
  | .hbm, ⟨65, _⟩ => ⟨S327680, .i32⟩
  | .hbm, ⟨66, _⟩ => ⟨S327680, .i32⟩
  | .hbm, ⟨67, _⟩ => ⟨S327680, .i32⟩
  | .hbm, ⟨68, _⟩ => ⟨S327680x1, .i32⟩
  | .hbm, ⟨69, _⟩ => ⟨S1, .i32⟩
  | .hbm, ⟨70, _⟩ => ⟨S_, .i32⟩
  | .hbm, ⟨71, _⟩ => ⟨S327680x1, .i32⟩
  | .hbm, ⟨72, _⟩ => ⟨S327680x1, .i1⟩
  | .hbm, ⟨73, _⟩ => ⟨S1x1, .i32⟩
  | .hbm, ⟨74, _⟩ => ⟨S327680x1, .i32⟩
  | .hbm, ⟨75, _⟩ => ⟨S327680x1, .i1⟩
  | .hbm, ⟨76, _⟩ => ⟨S327680x1, .i1⟩
  | .hbm, ⟨77, _⟩ => ⟨S_, .i1⟩
  | .hbm, ⟨78, _⟩ => ⟨S327680, .i1⟩
  | .hbm, ⟨79, _⟩ => ⟨S327680x128, .f32⟩
  | .hbm, ⟨80, _⟩ => ⟨S327680x128, .i1⟩
  | .hbm, ⟨81, _⟩ => ⟨S_, .f32⟩
  | .hbm, ⟨82, _⟩ => ⟨S327680x128, .f32⟩
  | .hbm, ⟨83, _⟩ => ⟨S327680x128, .f32⟩
  | .hbm, ⟨84, _⟩ => ⟨S327680x128, .f32⟩
  | .hbm, ⟨85, _⟩ => ⟨S327680x128, .f32⟩
  | .hbm, ⟨86, _⟩ => ⟨S327680x128, .f32⟩
  | .hbm, ⟨87, _⟩ => ⟨S_, .i32⟩
  | .hbm, ⟨88, _⟩ => ⟨S327680, .i32⟩
  | .hbm, ⟨89, _⟩ => ⟨S327680, .i1⟩
  | .hbm, ⟨90, _⟩ => ⟨S_, .i32⟩
  | .hbm, ⟨91, _⟩ => ⟨S327680, .i32⟩
  | .hbm, ⟨92, _⟩ => ⟨S327680, .i32⟩
  | .hbm, ⟨93, _⟩ => ⟨S327680, .i32⟩
  | .hbm, ⟨94, _⟩ => ⟨S327680x1, .i32⟩
  | .hbm, ⟨95, _⟩ => ⟨S1, .i32⟩
  | .hbm, ⟨96, _⟩ => ⟨S_, .i32⟩
  | .hbm, ⟨97, _⟩ => ⟨S327680x1, .i32⟩
  | .hbm, ⟨98, _⟩ => ⟨S327680x1, .i1⟩
  | .hbm, ⟨99, _⟩ => ⟨S1x1, .i32⟩
  | .hbm, ⟨100, _⟩ => ⟨S327680x1, .i32⟩
  | .hbm, ⟨101, _⟩ => ⟨S327680x1, .i1⟩
  | .hbm, ⟨102, _⟩ => ⟨S327680x1, .i1⟩
  | .hbm, ⟨103, _⟩ => ⟨S_, .i1⟩
  | .hbm, ⟨104, _⟩ => ⟨S327680, .i1⟩
  | .hbm, ⟨105, _⟩ => ⟨S327680x128, .f32⟩
  | .hbm, ⟨106, _⟩ => ⟨S327680x128, .i1⟩
  | .hbm, ⟨107, _⟩ => ⟨S_, .f32⟩
  | .hbm, ⟨108, _⟩ => ⟨S327680x128, .f32⟩
  | .hbm, ⟨109, _⟩ => ⟨S327680x128, .f32⟩
  | .hbm, ⟨110, _⟩ => ⟨S327680x128, .f32⟩
  | .hbm, ⟨111, _⟩ => ⟨S327680x128, .f32⟩
  | .hbm, ⟨112, _⟩ => ⟨S327680x128, .f32⟩
  | .hbm, ⟨113, _⟩ => ⟨S16384x20x128, .f32⟩
  | .hbm, ⟨114, _⟩ => ⟨S_, .f32⟩
  | .hbm, ⟨115, _⟩ => ⟨S16384x128, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_c_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_c_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_3 : Ref sig .tc := ⟨.hbm, 53, rfl⟩
abbrev main_call2_v0 : Ref sig .tc := ⟨.hbm, 54, rfl⟩
abbrev main_call2_v1 : Ref sig .tc := ⟨.hbm, 55, rfl⟩
abbrev main_v19 : Ref sig .tc := ⟨.hbm, 56, rfl⟩
abbrev main_c_4 : Ref sig .tc := ⟨.hbm, 57, rfl⟩
abbrev main_call3_v0 : Ref sig .tc := ⟨.hbm, 58, rfl⟩
abbrev main_call3_v1 : Ref sig .tc := ⟨.hbm, 59, rfl⟩
abbrev main_v20 : Ref sig .tc := ⟨.hbm, 60, rfl⟩
abbrev main_call4_c : Ref sig .tc := ⟨.hbm, 61, rfl⟩
abbrev main_call4_v0 : Ref sig .tc := ⟨.hbm, 62, rfl⟩
abbrev main_call4_v1 : Ref sig .tc := ⟨.hbm, 63, rfl⟩
abbrev main_call4_c_0 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_call4_v5 : Ref sig .tc := ⟨.hbm, 68, rfl⟩
abbrev main_call4_c_1 : Ref sig .tc := ⟨.hbm, 69, rfl⟩
abbrev main_call4_c_2 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_v9 : Ref sig .tc := ⟨.hbm, 74, rfl⟩
abbrev main_call4_v10 : Ref sig .tc := ⟨.hbm, 75, rfl⟩
abbrev main_call4_v11 : Ref sig .tc := ⟨.hbm, 76, rfl⟩
abbrev main_call4_c_3 : Ref sig .tc := ⟨.hbm, 77, rfl⟩
abbrev main_call4_v12 : Ref sig .tc := ⟨.hbm, 78, rfl⟩
abbrev main_call4_v13 : Ref sig .tc := ⟨.hbm, 79, rfl⟩
abbrev main_call4_v14 : Ref sig .tc := ⟨.hbm, 80, rfl⟩
abbrev main_call4_cst : Ref sig .tc := ⟨.hbm, 81, rfl⟩
abbrev main_call4_v15 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_call5_c_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_c_1 : Ref sig .tc := ⟨.hbm, 95, rfl⟩
abbrev main_call5_c_2 : Ref sig .tc := ⟨.hbm, 96, rfl⟩
abbrev main_call5_v6 : Ref sig .tc := ⟨.hbm, 97, rfl⟩
abbrev main_call5_v7 : Ref sig .tc := ⟨.hbm, 98, rfl⟩
abbrev main_call5_v8 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_3 : Ref sig .tc := ⟨.hbm, 103, rfl⟩
abbrev main_call5_v12 : Ref sig .tc := ⟨.hbm, 104, rfl⟩
abbrev main_call5_v13 : Ref sig .tc := ⟨.hbm, 105, rfl⟩
abbrev main_call5_v14 : Ref sig .tc := ⟨.hbm, 106, rfl⟩
abbrev main_call5_cst : Ref sig .tc := ⟨.hbm, 107, rfl⟩
abbrev main_call5_v15 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_cst : Ref sig .tc := ⟨.hbm, 114, rfl⟩
abbrev main_v30 : Ref sig .tc := ⟨.hbm, 115, rfl⟩

abbrev nD : Nat := 1
abbrev τ : Topo := Topo.v7x

variable {F : FTy → Type} [FloatOps F]
-- ==== Proof.Narrow.lean ====
/-
  A store that rewrites elements with the values they hold, made narrower.

  `SparseCore.vectorStoreIdx` loads a whole memref and stores all of it back, although the scatter changes few of its
  elements. A proof that must own what is stored cannot follow such a store while a copy is still reading another part of
  the memref. Here a program is compared with one that, in place of the store, loads the memref once more and then stores
  only a part that contains everything that changes. `Narrows p p'` relates the two; `theta_run_of_narrows` carries a run
  of the second back to the first: the two steps of the second, taken with nothing between them, are the one step of the first.
-/
module

public import Idealize.ShloMosaic.Machine.Run

@[expose] public section

noncomputable section

namespace Cert.Narrow

open Idealize.ShloMosaic Idealize.SL.Sem

variable {nD : Nat} {τ : Topo} {sig : RefSig} {Val : EltTy → Type} {Λ : Labels}

/-! ## The relation -/

/-- `p'` is `p` with some stores each replaced by a load of what the store covers followed by a store through a view of
    the same memref that leaves the same contents, given what was loaded. -/
inductive Narrows {pr : Proc τ} : {α : Type} → Prog (TpuEff nD τ sig Val Λ pr) α → Prog (TpuEff nD τ sig Val Λ pr) α → Prop
  | ret {α : Type} (a : α) : Narrows (.ret a) (.ret a)
  | op {α β : Type} (e : TpuEff nD τ sig Val Λ pr β) {k k' : β → Prog (TpuEff nD τ sig Val Λ pr) α}
      (h : ∀ x, Narrows (k x) (k' x)) : Narrows (.op e k) (.op e k')
  | store {α : Type} {cs : CoreSpace} {s : Shape} {e : EltTy} {m : Memref sig pr.kind cs s e} {r : Rect s}
      {w : r.shape.Idx → Val e} {M : Finset r.shape.Idx} {hx : (m.access r).Stores M} {hm : M = Finset.univ ∨ ∀ a, r.stride a = 1}
      {k k' : PUnit → Prog (TpuEff nD τ sig Val Λ pr) α} (l : LoadRect s) (hl : m.view.LoadsAt l)
      (r' : (l.shape.Idx → Val e) → Rect s) (w' : (g : l.shape.Idx → Val e) → (r' g).shape.Idx → Val e)
      (M' : (g : l.shape.Idx → Val e) → Finset (r' g).shape.Idx)
      (hx' : ∀ g, (m.access (r' g)).Stores (M' g)) (hm' : ∀ g, M' g = Finset.univ ∨ ∀ a, (r' g).stride a = 1)
      (same : ∀ f : m.view.ty.Contents Val,
        (m.access (r' (m.view.readAt Val l f))).write Val f (w' (m.view.readAt Val l f)) (M' (m.view.readAt Val l f))
          = (m.access r).write Val f w M)
      (ne : ∀ g, (M' g).Nonempty ↔ M.Nonempty)
      (h : ∀ x, Narrows (k x) (k' x)) :
      Narrows (.op (.store m r w M hx hm) k)
        (.op (.load m l hl) fun g => .op (.store m (r' g) (w' g) (M' g) (hx' g) (hm' g)) k')

namespace Narrows

variable {pr : Proc τ} {α β : Type}

theorem refl (p : Prog (TpuEff nD τ sig Val Λ pr) α) : Narrows p p := by
  induction p with
  | ret a => exact .ret a
  | op e k ih => exact .op e ih

theorem bind {p p' : Prog (TpuEff nD τ sig Val Λ pr) α} (hp : Narrows p p') {k k' : α → Prog (TpuEff nD τ sig Val Λ pr) β}
    (hk : ∀ x, Narrows (k x) (k' x)) : Narrows (p >>= k) (p' >>= k') := by
  induction hp with
  | ret a => exact hk a
  | op e _ ih => exact .op e fun x => ih x
  | store l hl r' w' M' hx' hm' same ne _ ih => exact .store l hl r' w' M' hx' hm' same ne fun x => ih x

end Narrows

/-! ## Running states -/

/-- Two running states with the same interpreted part, every thread's programs related. -/
structure Rel (s s' : RunSt nD τ sig Val Λ) : Prop where
  phys : s.toPhys = s'.toPhys
  prog : ∀ c, (s.prog c = none ∧ s'.prog c = none) ∨ ∃ p p', s.prog c = some p ∧ s'.prog c = some p' ∧ Narrows p p'

theorem Rel.final {s s' : RunSt nD τ sig Val Λ} (h : Rel s s') : Final s ↔ Final s' := by
  refine forall_congr' fun c => ?_
  rcases h.prog c with ⟨h1, h2⟩ | ⟨p, p', h1, h2, _⟩ <;> simp [h1, h2]

theorem Rel.setProg {s s' : RunSt nD τ sig Val Λ} (h : Rel s s') (t : Phys nD τ sig Val) (c : Thread nD τ)
    {q q' : Option (Prog (TpuEff nD τ sig Val Λ c.2) PUnit)}
    (hq : (q = none ∧ q' = none) ∨ ∃ p p', q = some p ∧ q' = some p' ∧ Narrows p p') :
    Rel ((s.withPhys t).setProg c q) ((s'.withPhys t).setProg c q') := by
  refine ⟨rfl, fun d => ?_⟩
  by_cases hd : d = c
  · subst hd
    simpa [RunSt.setProg] using hq
  · simpa [RunSt.setProg, Function.update_of_ne hd] using h.prog d

theorem Rel.withPhys {s s' : RunSt nD τ sig Val Λ} (h : Rel s s') (t : Phys nD τ sig Val) : Rel (s.withPhys t) (s'.withPhys t) :=
  ⟨rfl, h.prog⟩

variable {defs defs' : Defs nD τ sig Val Λ}

/-- One or two steps by one agent, from states that are not final. -/
inductive Steps (defs : Defs nD τ sig Val Λ) (a : Agent nD τ) (s s' : RunSt nD τ sig Val Λ) : Prop
  | one (h : MeshStep defs a s s')
  | two (t : RunSt nD τ sig Val Λ) (h : MeshStep defs a s t) (hn : ¬ Final t) (h' : MeshStep defs a t s')

/-- A step of a thread of the first program is one or two of the same thread of the second. -/
theorem step_core (hd : ∀ pr ℓ a, Narrows (defs pr ℓ a) (defs' pr ℓ a)) {s s' t : RunSt nD τ sig Val Λ} (hR : Rel s s')
    {c : Thread nD τ} {ω : Valuation τ sig Val} {p' : Option (Prog (TpuEff nD τ sig Val Λ c.2) PUnit)}
    (h : coreStep defs c s ω = some (p', t)) :
    ∃ t', Steps defs' (.thread c) s' t' ∧ Rel (t.setProg c p') t' := by
  obtain ⟨s, sp⟩ := s
  obtain ⟨s', sp'⟩ := s'
  obtain rfl : s = s' := hR.phys
  rcases hR.prog c with ⟨h1, h2⟩ | ⟨p, q, h1, h2, hpq⟩
  · simp only at h1; simp [coreStep, h1] at h
  simp only at h1 h2
  simp only [coreStep, h1, Option.bind_some] at h
  cases hpq with
  | ret a =>
    simp only [coreStepInner, Option.some.injEq, Prod.mk.injEq] at h
    obtain ⟨rfl, rfl⟩ := h
    refine ⟨_, .one (.core c ω (p' := none) (m' := ⟨s, sp'⟩) (by simp [coreStep, h2, coreStepInner])), ?_⟩
    exact hR.setProg s c (.inl ⟨rfl, rfl⟩)
  | op e hk =>
    rename_i β k k'
    by_cases hcall : ∃ ℓ, ∃ a : Λ.Args ℓ, ∃ hβ : Λ.Result ℓ = β, hβ ▸ (TpuEff.call ℓ a : TpuEff nD τ sig Val Λ c.2 (Λ.Result ℓ)) = e
    · obtain ⟨ℓ, a, rfl, rfl⟩ := hcall
      simp only [coreStepInner, Option.some.injEq, Prod.mk.injEq] at h
      obtain ⟨rfl, rfl⟩ := h
      refine ⟨_, .one (.core c ω (p' := some (defs' c.2 ℓ a >>= k')) (m' := ⟨s, sp'⟩) (by simp [coreStep, h2, coreStepInner])), ?_⟩
      exact hR.setProg s c (.inr ⟨_, _, rfl, rfl, (hd _ _ _).bind hk⟩)
    by_cases hcust : ∃ ℓ, ∃ a : Λ.Args ℓ, ∃ hβ : Λ.Result ℓ = β, hβ ▸ (TpuEff.customCall ℓ a : TpuEff nD τ sig Val Λ c.2 (Λ.Result ℓ)) = e
    · obtain ⟨ℓ, a, rfl, rfl⟩ := hcust
      simp only [coreStepInner, Option.some.injEq, Prod.mk.injEq] at h
      obtain ⟨rfl, rfl⟩ := h
      refine ⟨_, .one (.core c ω (p' := some (defs' c.2 ℓ a >>= fun r => .op .kernelExit fun _ => k' r)) (m' := ⟨s.forget c ω, sp'⟩)
        (by simp [coreStep, h2, coreStepInner])), ?_⟩
      exact hR.setProg (s.forget c ω) c (.inr ⟨_, _, rfl, rfl, (hd _ _ _).bind fun r => .op _ fun _ => hk r⟩)
    have hgen : ∀ (D : Defs nD τ sig Val Λ) (m : RunSt nD τ sig Val Λ) (k : β → Prog (TpuEff nD τ sig Val Λ c.2) PUnit),
        coreStepInner D c m ω (.op e k) = (effStep c m.toPhys ω e).map fun r => (some (k r.1), m.withPhys r.2) := by
      intro D m k
      cases e <;> first
        | rfl
        | exact absurd ⟨_, _, rfl, rfl⟩ hcall
        | exact absurd ⟨_, _, rfl, rfl⟩ hcust
    rw [hgen] at h
    obtain ⟨⟨x, u⟩, hx, hh⟩ := Option.map_eq_some_iff.1 h
    simp only [Prod.mk.injEq] at hh
    obtain ⟨rfl, rfl⟩ := hh
    refine ⟨_, .one (.core c ω (p' := some (k' x)) (m' := ⟨u, sp'⟩) ?_), ?_⟩
    · simp only [coreStep, h2, Option.bind_some]
      rw [hgen]
      simp only at hx
      simp [hx]
    · exact hR.setProg u c (.inr ⟨_, _, rfl, rfl, hk x⟩)
  | store l hl r' w' M' hx' hm' same ne hk =>
    rename_i cs sh e m r w M hx hm k k'
    simp only [coreStepInner, effStep, Option.map_some, Option.some.injEq, Prod.mk.injEq] at h
    obtain ⟨rfl, rfl⟩ := h
    obtain ⟨g, hg⟩ : ∃ g, g = m.view.readAt Val l (s.mem.mem (m.view.loc c)) := ⟨_, rfl⟩
    have e1 : coreStep defs' c ⟨s, sp'⟩ ω = some (some (.op (.store m (r' g) (w' g) (M' g) (hx' g) (hm' g)) k'), ⟨s, sp'⟩) := by
      simp only [coreStep, h2]
      subst hg
      rfl
    obtain ⟨u, hu⟩ : ∃ u : Phys nD τ sig Val,
        u = { s.writeView c (m.access r) w M with ops := Phys.touch s.ops c.1 (c.2.devRef m.view.ref) M } := ⟨_, rfl⟩
    refine ⟨_, .two _ (.core c ω e1) (fun hf => by simpa [RunSt.setProg] using hf c) (.core c ω (p' := some (k' ⟨⟩))
      (m' := (RunSt.setProg ⟨s, sp'⟩ c (some (.op (.store m (r' g) (w' g) (M' g) (hx' g) (hm' g)) k'))).withPhys u) ?_), ?_⟩
    · have hw : s.writeView c (m.access (r' g)) (w' g) (M' g) = s.writeView c (m.access r) w M := by
        simp only [Phys.writeView, MemSt.writeView]
        have := same (s.mem.mem (m.view.loc c))
        rw [← hg] at this
        exact congrArg (fun z => { s with mem := s.mem.write (m.view.loc c) z }) this
      have ht : Phys.touch s.ops c.1 (c.2.devRef m.view.ref) (M' g) = Phys.touch s.ops c.1 (c.2.devRef m.view.ref) M := by
        funext d
        simp only [Phys.touch, ne g]
      simp only [coreStep, RunSt.setProg, Function.update_self, Option.bind_some, coreStepInner, effStep, Option.map_some, hw, ht, hu]
    · refine ⟨hu.symm ▸ rfl, fun d => ?_⟩
      by_cases hd' : d = c
      · subst hd'
        exact .inr ⟨k ⟨⟩, k' ⟨⟩, by simp [RunSt.setProg], by simp [RunSt.setProg], hk _⟩
      · simpa [RunSt.setProg, Function.update_of_ne hd'] using hR.prog d

/-- A step of the first program is one or two of the same agent of the second. -/
theorem step (hd : ∀ pr ℓ a, Narrows (defs pr ℓ a) (defs' pr ℓ a)) {s s' t : RunSt nD τ sig Val Λ} (hR : Rel s s')
    {a : Agent nD τ} (h : MeshStep defs a s t) : ∃ t', Steps defs' a s' t' ∧ Rel t t' := by
  cases h with
  | core c ω h => exact step_core hd hR h
  | dmaRead i M alt h hM =>
    rw [hR.phys] at h
    exact ⟨_, .one (.dmaRead i M alt h hM), by rw [RunSt.dmaRead, hR.phys]; exact hR.withPhys _⟩
  | dmaWrite i M h hM =>
    rw [hR.phys] at h
    exact ⟨_, .one (.dmaWrite i M h hM), by rw [RunSt.dmaWrite, hR.phys]; exact hR.withPhys _⟩
  | dmaPaySrc i k h hM =>
    rw [hR.phys] at h
    exact ⟨_, .one (.dmaPaySrc i k h hM), by rw [RunSt.dmaPaySrc, hR.phys]; exact hR.withPhys _⟩
  | dmaPayDst i k h hM =>
    rw [hR.phys] at h
    exact ⟨_, .one (.dmaPayDst i k h hM), by rw [RunSt.dmaPayDst, hR.phys]; exact hR.withPhys _⟩
  | dmaRetire i h hM =>
    rw [hR.phys] at h
    exact ⟨_, .one (.dmaRetire i h hM), by rw [RunSt.dmaRetire, hR.phys]; exact hR.withPhys _⟩
  | serve i k alt h hM =>
    rw [hR.phys] at h
    exact ⟨_, .one (.serve i k alt h hM), by rw [RunSt.serve, hR.phys]; exact hR.withPhys _⟩
  | deliver i h =>
    rw [hR.phys] at h
    exact ⟨_, .one (.deliver i h), by rw [RunSt.deliver, hR.phys]; exact hR.withPhys _⟩

/-- An agent that has a step in the second program has one in the first. -/
theorem enabled_back {s s' : RunSt nD τ sig Val Λ} (hR : Rel s s')
    {a : Agent nD τ} (h : Enabled defs' a s') : Enabled defs a s := by
  obtain ⟨t', h⟩ := h
  cases h with
  | @core c ω m p' m' h =>
    obtain ⟨s, sp⟩ := s
    obtain ⟨s', sp'⟩ := s'
    obtain rfl : s = s' := hR.phys
    rcases hR.prog c with ⟨h1, h2⟩ | ⟨p, q, h1, h2, hpq⟩
    · simp only at h2; simp [coreStep, h2] at h
    simp only at h1 h2
    suffices H : ∃ x, coreStep defs c ⟨s, sp⟩ ω = some x from by
      obtain ⟨⟨x, y⟩, H⟩ := H
      exact ⟨_, .core c ω H⟩
    simp only [coreStep, h2, Option.bind_some] at h
    simp only [coreStep, h1, Option.bind_some]
    cases hpq with
    | ret a => exact ⟨_, rfl⟩
    | store => exact ⟨_, rfl⟩
    | op e hk =>
      cases e <;> first
        | exact ⟨_, rfl⟩
        | (simp only [coreStepInner] at h ⊢
           obtain ⟨⟨x, u⟩, hx, -⟩ := Option.map_eq_some_iff.1 h
           exact ⟨_, by rw [hx]; rfl⟩)
  | dmaRead i M alt h hM => rw [← hR.phys] at h; exact ⟨_, .dmaRead i M alt h hM⟩
  | dmaWrite i M h hM => rw [← hR.phys] at h; exact ⟨_, .dmaWrite i M h hM⟩
  | dmaPaySrc i k h hM => rw [← hR.phys] at h; exact ⟨_, .dmaPaySrc i k h hM⟩
  | dmaPayDst i k h hM => rw [← hR.phys] at h; exact ⟨_, .dmaPayDst i k h hM⟩
  | dmaRetire i h hM => rw [← hR.phys] at h; exact ⟨_, .dmaRetire i h hM⟩
  | serve i k alt h hM => rw [← hR.phys] at h; exact ⟨_, .serve i k alt h hM⟩
  | deliver i h => rw [← hR.phys] at h; exact ⟨_, .deliver i h⟩

/-! ## Runs -/

theorem Steps.reaches {a : Agent nD τ} {s s' : RunSt nD τ sig Val Λ} (h : Steps defs' a s s') (hn : ¬ Final s) : Reaches defs' s s' := by
  cases h with
  | one h => exact .single ⟨hn, a, h⟩
  | two t h hn' h' => exact .head ⟨hn, a, h⟩ (.single ⟨hn', a, h'⟩)

theorem reaches (hd : ∀ pr ℓ a, Narrows (defs pr ℓ a) (defs' pr ℓ a)) {s s' t : RunSt nD τ sig Val Λ} (hR : Rel s s')
    (h : Reaches defs s t) : ∃ t', Reaches defs' s' t' ∧ Rel t t' := by
  unfold Reaches at h
  induction h with
  | refl => exact ⟨s', .refl, hR⟩
  | tail _ hst ih =>
    obtain ⟨u', hu, hRu⟩ := ih
    obtain ⟨hn, a, hs⟩ := hst
    obtain ⟨t', ht, hRt⟩ := step hd hRu hs
    exact ⟨t', hu.trans (ht.reaches (hRu.final.not.1 hn)), hRt⟩

/-- The state of the second program beside the `n`-th of an infinite execution of the first. -/
def beside (hd : ∀ pr ℓ a, Narrows (defs pr ℓ a) (defs' pr ℓ a)) {s s' : RunSt nD τ sig Val Λ} (hR : Rel s s') (ρ : InfRun defs s) :
    (n : Nat) → { u : RunSt nD τ sig Val Λ // Rel (ρ.st n) u }
  | 0 => ⟨s', by rw [ρ.head]; exact hR⟩
  | n + 1 => ⟨_, (step hd (beside hd hR ρ n).2 (ρ.step n).2).choose_spec.2⟩

theorem beside_steps (hd : ∀ pr ℓ a, Narrows (defs pr ℓ a) (defs' pr ℓ a)) {s s' : RunSt nD τ sig Val Λ} (hR : Rel s s') (ρ : InfRun defs s) (n : Nat) :
    Steps defs' (ρ.ag n) (beside hd hR ρ n).1 (beside hd hR ρ (n + 1)).1 :=
  (step hd (beside hd hR ρ n).2 (ρ.step n).2).choose_spec.1

section weave
variable {st : Nat → RunSt nD τ sig Val Λ} {ag : Nat → Agent nD τ} (hs : ∀ n, Steps defs' (ag n) (st n) (st (n + 1)))
  (hn : ∀ n, ¬ Final (st n))

/-- Whether the `n`-th pair of states is two steps apart, and then the state between. -/
def between (n : Nat) : Option { t : RunSt nD τ sig Val Λ // MeshStep defs' (ag n) (st n) t ∧ ¬ Final t ∧ MeshStep defs' (ag n) t (st (n + 1)) } :=
  open Classical in
  if h : ∃ t, MeshStep defs' (ag n) (st n) t ∧ ¬ Final t ∧ MeshStep defs' (ag n) t (st (n + 1)) then some ⟨h.choose, h.choose_spec⟩ else none

include hs in
theorem step_of_between_none {n : Nat} (h : between (defs' := defs') (st := st) (ag := ag) n = none) : MeshStep defs' (ag n) (st n) (st (n + 1)) := by
  rcases hs n with h1 | ⟨t, h1, h2, h3⟩
  · exact h1
  · simp only [between] at h
    rw [dif_pos ⟨t, h1, h2, h3⟩] at h
    cases h

/-- Where the woven execution stands at its `k`-th state: at the `n`-th of the given states, or just past it. -/
def pos (defs' : Defs nD τ sig Val Λ) (st : Nat → RunSt nD τ sig Val Λ) (ag : Nat → Agent nD τ) : Nat → Nat × Bool
  | 0 => (0, false)
  | k + 1 => match pos defs' st ag k with
    | (n, false) => if (between (defs' := defs') (st := st) (ag := ag) n).isSome then (n, true) else (n + 1, false)
    | (n, true) => (n + 1, false)

/-- The state at a position. -/
def stAt (defs' : Defs nD τ sig Val Λ) (st : Nat → RunSt nD τ sig Val Λ) (ag : Nat → Agent nD τ) : Nat × Bool → RunSt nD τ sig Val Λ
  | (n, false) => st n
  | (n, true) => match between (defs' := defs') (st := st) (ag := ag) n with
    | some t => t.1
    | none => st n

theorem pos_true {k n : Nat} (h : pos defs' st ag k = (n, true)) : (between (defs' := defs') (st := st) (ag := ag) n).isSome := by
  cases k with
  | zero => simp [pos] at h
  | succ k =>
    rw [pos] at h
    rcases hp : pos defs' st ag k with ⟨i, _ | _⟩
    · rw [hp] at h
      simp only at h
      split at h
      · next hi => simp only [Prod.mk.injEq, and_true] at h; exact h ▸ hi
      · simp at h
    · rw [hp] at h; simp at h

include hs in
theorem weave_step (hn : ∀ n, ¬ Final (st n)) (k : Nat) : ¬ Final (stAt defs' st ag (pos defs' st ag k)) ∧
    MeshStep defs' (ag (pos defs' st ag k).1) (stAt defs' st ag (pos defs' st ag k)) (stAt defs' st ag (pos defs' st ag (k + 1))) := by
  rcases hp : pos defs' st ag k with ⟨n, _ | _⟩
  · rcases hb : between (defs' := defs') (st := st) (ag := ag) n with _ | t
    · have h1 : pos defs' st ag (k + 1) = (n + 1, false) := by rw [pos, hp]; simp [hb]
      rw [h1]
      exact ⟨hn n, step_of_between_none hs hb⟩
    · have h1 : pos defs' st ag (k + 1) = (n, true) := by rw [pos, hp]; simp [hb]
      rw [h1]
      refine ⟨hn n, ?_⟩
      simp only [stAt, hb]
      exact t.2.1
  · have hb := pos_true hp
    obtain ⟨t, hb⟩ := Option.isSome_iff_exists.1 hb
    have h1 : pos defs' st ag (k + 1) = (n + 1, false) := by rw [pos, hp]
    rw [h1]
    simp only [stAt, hb]
    exact ⟨t.2.2.1, t.2.2.2⟩

/-- Every given state is passed through, and late ones late. -/
theorem exists_pos (n : Nat) : ∃ k, n ≤ k ∧ pos defs' st ag k = (n, false) := by
  induction n with
  | zero => exact ⟨0, le_rfl, rfl⟩
  | succ n ih =>
    obtain ⟨k, hk, hp⟩ := ih
    by_cases hb : (between (defs' := defs') (st := st) (ag := ag) n).isSome
    · exact ⟨k + 2, by omega, by rw [pos, pos, hp]; simp [hb]⟩
    · exact ⟨k + 1, by omega, by rw [pos, hp]; simp [hb]⟩

end weave

/-- What holds of every run of the second program holds of every run of the first. -/
theorem meshRun (hd : ∀ pr ℓ a, Narrows (defs pr ℓ a) (defs' pr ℓ a)) {s s' : RunSt nD τ sig Val Λ} (hR : Rel s s')
    {Q : MemSt nD τ sig Val → Prop} (h : MeshRun defs' Q s') : MeshRun defs Q s where
  post t ht hf := by
    obtain ⟨t', ht', hRt⟩ := reaches hd hR ht
    have := h.post t' ht' (hRt.final.1 hf)
    rwa [← congrArg Phys.mem hRt.phys] at this
  progress t ht hf := by
    obtain ⟨t', ht', hRt⟩ := reaches hd hR ht
    obtain ⟨a, u, hu⟩ := h.progress t' ht' (hRt.final.not.1 hf)
    obtain ⟨v, hv⟩ := enabled_back (defs := defs) hRt ⟨u, hu⟩
    exact ⟨a, v, hv⟩
  fair ρ hρ := by
    set st : Nat → RunSt nD τ sig Val Λ := fun n => (beside hd hR ρ n).1 with hst
    have hs : ∀ n, Steps defs' (ρ.ag n) (st n) (st (n + 1)) := beside_steps hd hR ρ
    have hn : ∀ n, ¬ Final (st n) := fun n => (beside hd hR ρ n).2.final.not.1 (ρ.step n).1
    refine h.fair ⟨fun k => stAt defs' st ρ.ag (pos defs' st ρ.ag k), fun k => ρ.ag (pos defs' st ρ.ag k).1, rfl, weave_step hs hn⟩ ?_
    intro a K hen
    obtain ⟨m, hm, ha⟩ := hρ a K fun n hKn => by
      obtain ⟨k, hk, hp⟩ := exists_pos (defs' := defs') (st := st) (ag := ρ.ag) n
      have := hen k (hKn.trans hk)
      simp only [hp, stAt] at this
      exact enabled_back (beside hd hR ρ n).2 this
    obtain ⟨k, hk, hp⟩ := exists_pos (defs' := defs') (st := st) (ag := ρ.ag) m
    exact ⟨k, hm.trans hk, by simp only [hp]; exact ha⟩

/-- A family of programs run under bodies whose stores are made narrower: what that run ends in, the run of the
    programs as they are ends in. -/
theorem theta_run_of_narrows (hd : ∀ pr ℓ a, Narrows (defs pr ℓ a) (defs' pr ℓ a))
    {p p' : (c : Thread nD τ) → Prog (TpuEff nD τ sig Val Λ c.2) PUnit} (hp : ∀ c, Narrows (p c) (p' c))
    (s : MemSt nD τ sig Val) {Q : PUnit × MemSt nD τ sig Val → Prop} (h : θ_run defs' p' s Q) : θ_run defs p s Q :=
  meshRun (Q := fun m' => Q (⟨⟩, m')) hd (s := load p s) (s' := load p' s) ⟨rfl, fun c => .inr ⟨p c, p' c, rfl, rfl, hp c⟩⟩ h

end Cert.Narrow

end
-- ==== Proof.Group.lean ====
/-
  One group of sixteen columns, as the tile counts it.

  The two counting loops of the kernel run the same trip: for each of six runs of ten rows, the ten rows' sixteen words are
  loaded and checked, and then ten masked scatters add ones at them. Here that trip is written once, over the lists of rows,
  with the scatter as a parameter; each loop's printed trip is this program at its own column offset.
-/
module

public import proofs.«01_k».proof.Proof.Gen.KernelIdeal
public import proofs.«01_k».proof.Proof.Gen.KernelIdeal.Skeleton
public import proofs.«01_k».proof.Proof.Narrow

@[expose] public section

noncomputable section

namespace Cert.Hist

open Idealize.ShloMosaic Idealize.SL.Sem
open Cert.KernelIdeal Cert.KernelIdeal.Gen

variable {F : FTy → Type} [FloatOps F]

section program

variable {c : Fin τ.nSC} {s : Fin τ.nSub}

/-- The lanes' bins and columns are inside the counts. -/
def Chk (cols v : IVec S16 32) : Prop := ∀ a x, ((![v, cols] : Fin 2 → IVec S16 32) a x).toNat < S80x512.size a

instance Chk.dec (cols v : IVec S16 32) : Decidable (Chk cols v) := decidable_of_iff' _ (Iff.of_eq (Chk.eq_1 cols v))

/-- Sixteen bins that were checked. -/
abbrev Bins (cols : IVec S16 32) : Type := Σ' v : IVec S16 32, Chk cols v

/-- Where row `r`'s words for the group at word `a` start. -/
def rowOff (r : ℕ) (a : BitVec 32) : Fin 2 → ℕ := ![r, (Scalar.indexCast (Scalar.muli a 16#32)).toNat]

/-- The lanes whose bin is at least the section's first. -/
def sel (bnd : BitVec 32) (v : IVec S16 32) : IVec S16 1 := cmpi .sge v (broadcast S16 bnd)

/-- Load the rows' words, checking each, and go on with them. -/
def loads (arg4 : Memref sig .scVector .vmem S60x512 .i32) (a : BitVec 32) (cols : IVec S16 32)
    (inb : ∀ r : Fin 60, ∀ ax, rowOff r.val a ax + S1x16.size ax ≤ S60x512.size ax) :
    List (Fin 60) → (List (Bins cols) → Prog (TpuEff nD τ sig (Elt F) Λ₀ (.scVector c s)) Unit) →
      Prog (TpuEff nD τ sig (Elt F) Λ₀ (.scVector c s)) Unit
  | [], k => k []
  | r :: rs, k =>
    .op (.load arg4 (Rect.unit (s := S60x512) (rowOff r.val a) S1x16.size (inb r)).toLoadRect (View.loadsAt_vmem h_S1x16)) fun (ld : Vec F S1x16 .i32) =>
    .op (TpuEff.assume (Chk cols (shapeCast S16 ld shapeCasts_S1x16_S16)) (Chk.dec _ _)) fun hw =>
      loads arg4 a cols inb rs fun l => k (⟨shapeCast S16 ld shapeCasts_S1x16_S16, hw.down⟩ :: l)

/-- The scatters, one for each row, in order. -/
def scatters {cols : IVec S16 32} (st : Bins cols → Prog (TpuEff nD τ sig (Elt F) Λ₀ (.scVector c s)) PUnit) :
    List (Bins cols) → Prog (TpuEff nD τ sig (Elt F) Λ₀ (.scVector c s)) Unit → Prog (TpuEff nD τ sig (Elt F) Λ₀ (.scVector c s)) Unit
  | [], k => k
  | v :: vs, k => st v >>= fun _ => scatters st vs k

/-- One run of rows: loads, then scatters. -/
def chunk (arg4 : Memref sig .scVector .vmem S60x512 .i32) (a : BitVec 32) (cols : IVec S16 32)
    (inb : ∀ r : Fin 60, ∀ ax, rowOff r.val a ax + S1x16.size ax ≤ S60x512.size ax)
    (st : BitVec 32 → Bins cols → Prog (TpuEff nD τ sig (Elt F) Λ₀ (.scVector c s)) PUnit)
    (bnd : BitVec 32) (rows : List (Fin 60)) (k : Prog (TpuEff nD τ sig (Elt F) Λ₀ (.scVector c s)) Unit) :
    Prog (TpuEff nD τ sig (Elt F) Λ₀ (.scVector c s)) Unit :=
  loads arg4 a cols inb rows fun l => scatters (st bnd) l k

/-- The six runs of rows, each with the first bin of its section. -/
def runs : List (BitVec 32 × List (Fin 60)) :=
  [(0#32, [0, 1, 2, 3, 4, 5, 6, 7, 8, 9]), (0#32, [10, 11, 12, 13, 14, 15, 16, 17, 18, 19]),
   (16#32, [20, 21, 22, 23, 24, 25, 26, 27, 28, 29]), (16#32, [30, 31, 32, 33, 34, 35, 36, 37, 38, 39]),
   (24#32, [40, 41, 42, 43, 44, 45, 46, 47, 48, 49]), (24#32, [50, 51, 52, 53, 54, 55, 56, 57, 58, 59])]

/-- Several runs of rows, one after the other. -/
def chunks (arg4 : Memref sig .scVector .vmem S60x512 .i32) (a : BitVec 32) (cols : IVec S16 32)
    (inb : ∀ r : Fin 60, ∀ ax, rowOff r.val a ax + S1x16.size ax ≤ S60x512.size ax)
    (st : BitVec 32 → Bins cols → Prog (TpuEff nD τ sig (Elt F) Λ₀ (.scVector c s)) PUnit) :
    List (BitVec 32 × List (Fin 60)) → Prog (TpuEff nD τ sig (Elt F) Λ₀ (.scVector c s)) Unit
  | [] => .ret ()
  | p :: ps => chunk arg4 a cols inb st p.1 p.2 (chunks arg4 a cols inb st ps)

/-- The scatter as the kernel has it: the whole counts are loaded, and stored with the ones added. -/
def wholeSt (arg5 : Memref sig .scVector .vmem S80x512 .f32) {cols : IVec S16 32} (bnd : BitVec 32) (v : Bins cols) :
    Prog (TpuEff nD τ sig (Elt F) Λ₀ (.scVector c s)) PUnit :=
  SparseCore.vectorStoreIdx (s := S80x512) (e := .f32) (d := ![16]) arg5 ![v.1, cols] (k0_pay136 (F := F)) (sel bnd v.1) true v.2 (View.stores_vmem_bits_univ h_S80x512 rfl)

/-- Where the `j`-th sixteen words of row `t` start. -/
def zOff (t : Fin k0_t1_loop.trips) (j : ℕ) : Fin 2 → ℕ := ![(Scalar.indexCast (Scf.iv 0#32 1#32 t)).toNat, 16 * j]

/-- One row of the counts cleared, sixteen words at a time. -/
def zeros (arg5 : Memref sig .scVector .vmem S80x512 .f32) (t : Fin k0_t1_loop.trips)
    (inb : ∀ j : Fin 32, ∀ ax, zOff t j.val ax + S1x16.size ax ≤ S80x512.size ax) :
    List (Fin 32) → Prog (TpuEff nD τ sig (Elt F) Λ₀ (.scVector c s)) Unit
  | [] => .ret ()
  | j :: js =>
    .op (.load arg5 (Rect.unit (s := S80x512) (zOff t j.val) S1x16.size (inb j)).toLoadRect (View.loadsAt_vmem h_S1x16)) fun (_ : Vec F S1x16 .f32) =>
    .op (.store arg5 (Rect.unit (s := S80x512) (zOff t j.val) S1x16.size (inb j)) (shapeCast S1x16 (k0_pay135 (F := F)) shapeCasts_S16_S1x16) Finset.univ
        (View.stores_vmem_bits_univ h_S1x16 rfl) (.inl rfl)) fun _ => zeros arg5 t inb js

/-- The thirty-two pieces of a row. -/
def pieces : List (Fin 32) :=
  [0, 1, 2, 3, 4, 5, 6, 7, 8, 9, 10, 11, 12, 13, 14, 15, 16, 17, 18, 19, 20, 21, 22, 23, 24, 25, 26, 27, 28, 29, 30, 31]

end program

/-! ## The printed trips -/

section printed

variable (i : grid0.Coords) (arg2 : Memref sig .scVector .hbm S60x16384 .i32) (harg2 : arg2.IsWhole) (arg3 : Memref sig .scVector .hbm S80x16384 .f32)
  (harg3 : arg3.IsWhole) (arg4 : Memref sig .scVector .vmem S60x512 .i32) (harg4 : arg4.IsWhole) (arg5 : Memref sig .scVector .vmem S80x512 .f32)
  (harg5 : arg5.IsWhole) (arg6 arg7 arg8 : DmaSems sig S_) (v9 : IVec S16 32)

theorem inb2 (t : Fin k0_t2_loop.trips) (r : Fin 60) (ax : Fin 2) :
    rowOff r.val (Scf.iv 0#32 1#32 t) ax + S1x16.size ax ≤ S60x512.size ax := by
  revert ax r; revert t; decide

theorem inb3 (t : Fin k0_t3_loop.trips) (r : Fin 60) (ax : Fin 2) :
    rowOff r.val (Scf.iv 16#32 1#32 t) ax + S1x16.size ax ≤ S60x512.size ax := by
  revert ax r; revert t; decide

theorem inb1 (t : Fin k0_t1_loop.trips) (j : Fin 32) (ax : Fin 2) :
    zOff t j.val ax + S1x16.size ax ≤ S80x512.size ax := by
  revert ax j; revert t; decide +kernel

set_option maxRecDepth 65536 in
theorem t1_eq (t : Fin k0_t1_loop.trips) (u : Unit) :
    k0_t1_body (F := F) i arg2 harg2 arg3 harg3 arg4 harg4 arg5 harg5 arg6 arg7 arg8 t u = zeros arg5 t (inb1 t) pieces := rfl

set_option maxRecDepth 65536 in
theorem t2_eq (t : Fin k0_t2_loop.trips) (u : Unit) :
    k0_t2_body (F := F) i arg2 harg2 arg3 harg3 arg4 harg4 arg5 harg5 arg6 arg7 arg8 v9 t u
      = chunks arg4 (Scf.iv 0#32 1#32 t) (k0_pay1 v9 0#32 1#32 t) (inb2 t) (wholeSt arg5) runs := rfl

set_option maxRecDepth 65536 in
theorem t3_eq (t : Fin k0_t3_loop.trips) (u : Unit) :
    k0_t3_body (F := F) i arg2 harg2 arg3 harg3 arg4 harg4 arg5 harg5 arg6 arg7 arg8 v9 t u
      = chunks arg4 (Scf.iv 16#32 1#32 t) (k0_pay68 v9 16#32 1#32 t) (inb3 t) (wholeSt arg5) runs := rfl

end printed

end Cert.Hist

end
-- ==== Proof.NarrowBody.lean ====
/-
  The tile's program with its later scatters made narrower.

  While the second half of the counts is being counted, the first half is already being copied out; a scatter there stores
  all of the counts, the first half with the values it holds. Here the tile's program is compared with one whose scatters
  of the second loop store the second half alone whenever nothing else changes.
-/
module

public import proofs.«01_k».proof.Proof.Group

@[expose] public section

noncomputable section

namespace Cert.Hist

open Idealize.ShloMosaic Idealize.SL.Sem
open Cert.KernelIdeal Cert.KernelIdeal.Gen
open Cert.Narrow

variable {F : FTy → Type} [FloatOps F]

/-! ## A scatter with a narrowed store -/

section general

variable {pr : Proc τ} {s : Shape} {e : EltTy} {d : Fin 1 → ℕ}

/-- The scatter's loads, and a store of the part of the result that `R` picks from it and from what was loaded last. -/
def partStoreIdx (base : Memref sig pr.kind .vmem s e) (idxs : Fin s.rank → IVec ⟨1, d⟩ 32) (v : Vec F ⟨1, d⟩ e) (mask : IVec ⟨1, d⟩ 1)
    (h : ∀ a x, (idxs a x).toNat < s.size a) (hl : base.view.LoadsAt (Rect.whole s).toLoadRect) (R : Vec F s e → Vec F s e → Rect s)
    (hR : ∀ w g, (base.access (R w g)).Stores Finset.univ) : Prog (TpuEff nD τ sig (Elt F) Λ₀ pr) PUnit :=
  .op (.load base (Rect.whole s).toLoadRect hl) fun f =>
  .op (.load base (Rect.whole s).toLoadRect hl) fun g =>
  .op (.store base (R (storeIdx f idxs v mask true h) g) (fun j => storeIdx f idxs v mask true h ((R (storeIdx f idxs v mask true h) g).emb j))
    Finset.univ (hR _ _) (.inl rfl)) .ret

/-- The part and the elements held already make up the result. -/
def PartSame {κ : Kind} (base : Memref sig κ .vmem s e) (R : Vec F s e → Vec F s e → Rect s) : Prop :=
  ∀ (w : Vec F s e) (f : base.view.ty.Contents (Elt F)),
    (base.access (R w (base.view.readAt (Elt F) (Rect.whole s).toLoadRect f))).write (Elt F) f
        (fun j => w ((R w (base.view.readAt (Elt F) (Rect.whole s).toLoadRect f)).emb j)) Finset.univ
      = (base.access (Rect.whole s)).write (Elt F) f w Finset.univ

/-- That is so when the result holds what was loaded, off the part. -/
theorem partSame_of {κ : Kind} (base : Memref sig κ .vmem s e) (R : Vec F s e → Vec F s e → Rect s)
    (hR : ∀ w f x, x ∉ (R w f).set → w x = f x) : PartSame base R := by
  intro w f
  have hf : base.view.readAt (Elt F) (Rect.whole s).toLoadRect f = base.view.read (Elt F) f := by
    funext x
    rw [View.readAt_apply]
    exact congrArg (base.view.read (Elt F) f) (Rect.emb_whole_apply s x)
  rw [hf]
  generalize hr : R w (base.view.read (Elt F) f) = r
  have hoff : ∀ x, x ∉ r.set → w x = base.view.read (Elt F) f x := by subst hr; exact hR _ _
  funext j
  by_cases hj : j ∈ base.view.set
  · obtain ⟨x, -, rfl⟩ := Finset.mem_map.mp hj
    have hw : (base.access (Rect.whole s)).write (Elt F) f w Finset.univ (base.view.emb x) = _root_.cast (congrArg (Elt F) base.view.elt_eq.symm) (w x) := by
      have h := View.write_emb_of_mem (v := base.access (Rect.whole s)) (Val := Elt F) f w (M := Finset.univ) (x := x) (Finset.mem_univ _)
      have he : (base.access (Rect.whole s)).emb x = base.view.emb x := congrArg base.view.emb (Rect.emb_whole_apply s x)
      rw [he] at h
      exact h
    rw [hw]
    by_cases hx : x ∈ r.set
    · rw [← Rect.map_emb_univ] at hx
      obtain ⟨y, -, rfl⟩ := Finset.mem_map.mp hx
      exact View.write_emb_of_mem (v := base.access r) (Val := Elt F) f (fun j => w (r.emb j)) (M := Finset.univ) (x := y) (Finset.mem_univ _)
    · have hn : base.view.emb x ∉ (base.access r).setOn Finset.univ := by
        intro h
        have h' : base.view.emb x ∈ (base.view.slice r).set := h
        rw [View.set_slice, Finset.mem_map] at h'
        obtain ⟨y, hy, hxy⟩ := h'
        exact hx (base.view.emb.injective hxy ▸ hy)
      rw [View.write_of_not_mem (v := base.access r) (Val := Elt F) f _ Finset.univ hn, hoff x hx]
      unfold View.read
      simp
  · have hn : ∀ q : Rect s, j ∉ (base.access q).setOn Finset.univ := fun q h => by
      have h' : j ∈ (base.view.slice q).set := h
      rw [View.set_slice, Finset.mem_map] at h'
      obtain ⟨y, -, hxy⟩ := h'
      exact hj (Finset.mem_map.mpr ⟨y, Finset.mem_univ _, hxy⟩)
    rw [View.write_of_not_mem (v := base.access r) (Val := Elt F) f _ Finset.univ (hn _),
      View.write_of_not_mem (v := base.access (Rect.whole s)) (Val := Elt F) f _ Finset.univ (hn _)]

/-- It narrows the scatter, when the part and the elements held already make up the result. -/
theorem partStoreIdx_narrows (base : Memref sig pr.kind .vmem s e) (idxs : Fin s.rank → IVec ⟨1, d⟩ 32) (v : Vec F ⟨1, d⟩ e)
    (mask : IVec ⟨1, d⟩ 1) (h : ∀ a x, (idxs a x).toNat < s.size a) (hs : (base.access (.whole s)).Stores Finset.univ)
    (hl : base.view.LoadsAt (Rect.whole s).toLoadRect) (R : Vec F s e → Vec F s e → Rect s)
    (hR : ∀ w g, (base.access (R w g)).Stores Finset.univ) (h0 : 0 < s.numel) (hR0 : ∀ w g, 0 < (R w g).shape.numel)
    (same : PartSame base R) :
    Narrows (SparseCore.vectorStoreIdx (Λ := Λ₀) (nD := nD) base idxs v mask true h hs) (partStoreIdx base idxs v mask h hl R hR) := by
  refine Narrows.op _ fun f => ?_
  refine Narrows.store (Rect.whole s).toLoadRect hl (fun g => R (storeIdx f idxs v mask true h) g)
    (fun g j => storeIdx f idxs v mask true h ((R (storeIdx f idxs v mask true h) g).emb j)) (fun _ => Finset.univ) (fun g => hR _ g)
    (fun _ => .inl rfl) (fun f₀ => same _ f₀) (fun g => ?_) fun _ => Narrows.ret _
  have h1 : (Finset.univ : Finset (R (storeIdx f idxs v mask true h) g).shape.Idx).Nonempty :=
    Finset.card_pos.mp (by rw [Finset.card_univ, Shape.card_idx]; exact hR0 _ _)
  have h2 : (Finset.univ : Finset (Rect.whole s).shape.Idx).Nonempty :=
    Finset.card_pos.mp (by rw [Finset.card_univ, Shape.card_idx]; exact h0)
  exact ⟨fun _ => h2, fun _ => h1⟩

end general

/-! ## The narrowed scatter -/

/-- The tile's copy of the words, and its counts. -/
abbrev idxM : Memref sig .scVector .vmem S60x512 .i32 := Memref.whole cc0_scratch0
abbrev cntM : Memref sig .scVector .vmem S80x512 .f32 := Memref.whole cc0_scratch1

/-- The second half of the counts' columns. -/
def halfR : Rect S80x512 := Rect.unit (s := S80x512) ![0, 256] S80x256.size inb_S80x512_S80x256_0_256

open Classical in
/-- The second half if `w` agrees with `g` off it, else everything. -/
def pickR (w g : Vec F S80x512 .f32) : Rect S80x512 := if ∀ x, x ∉ halfR.set → w x = g x then halfR else Rect.whole S80x512

theorem pickR_pos (w g : Vec F S80x512 .f32) : 0 < (pickR w g).shape.numel := by
  unfold pickR; split
  · show 0 < S80x256.numel; decide
  · show 0 < S80x512.numel; decide

theorem pickR_stores (w g : Vec F S80x512 .f32) : (cntM.access (pickR w g)).Stores Finset.univ :=
  View.stores_vmem_bits_univ (pickR_pos w g) rfl

section st

variable {c : Fin τ.nSC} {s : Fin τ.nSub}

/-- The counts after the ones are added at the selected lanes' bins. -/
def added {cols : IVec S16 32} (bnd : BitVec 32) (v : Bins cols) (f : Vec F S80x512 .f32) : Vec F S80x512 .f32 :=
  storeIdx (F := F) (s := S80x512) (e := .f32) (d := ![16]) f ![v.1, cols] (k0_pay136 (F := F)) (sel bnd v.1) true v.2

/-- The scatter with the narrowed store. -/
def narrowSt {cols : IVec S16 32} (bnd : BitVec 32) (v : Bins cols) : Prog (TpuEff nD τ sig (Elt F) Λ₀ (.scVector c s)) PUnit :=
  partStoreIdx (s := S80x512) (e := .f32) (d := ![16]) cntM ![v.1, cols] (k0_pay136 (F := F)) (sel bnd v.1) v.2 (View.loadsAt_vmem h_S80x512) pickR pickR_stores

theorem pickR_off (w f : Vec F S80x512 .f32) : ∀ x, x ∉ (pickR w f).set → w x = f x := by
  unfold pickR
  split
  · assumption
  · intro x hx
    exact absurd (by rw [Rect.set_whole]; exact Finset.mem_univ _) hx

theorem pick_same : PartSame (F := F) cntM pickR := partSame_of cntM pickR pickR_off

theorem narrowSt_narrows {cols : IVec S16 32} (bnd : BitVec 32) (v : Bins cols) :
    Narrows (wholeSt (F := F) (c := c) (s := s) cntM bnd v) (narrowSt bnd v) :=
  partStoreIdx_narrows (pr := .scVector c s) cntM ![v.1, cols] _ _ v.2 _ _ pickR pickR_stores h_S80x512 pickR_pos pick_same

/-! ## Groups with it -/

theorem loads_narrows (arg4 : Memref sig .scVector .vmem S60x512 .i32) (a : BitVec 32) (cols : IVec S16 32)
    (inb : ∀ r : Fin 60, ∀ ax, rowOff r.val a ax + S1x16.size ax ≤ S60x512.size ax) (rows : List (Fin 60))
    {k k' : List (Bins cols) → Prog (TpuEff nD τ sig (Elt F) Λ₀ (.scVector c s)) Unit} (h : ∀ l, Narrows (k l) (k' l)) :
    Narrows (loads arg4 a cols inb rows k) (loads arg4 a cols inb rows k') := by
  induction rows generalizing k k' with
  | nil => exact h []
  | cons r rs ih => exact .op _ fun ld => .op _ fun hw => ih fun l => h _

theorem scatters_narrows {cols : IVec S16 32} {st st' : Bins cols → Prog (TpuEff nD τ sig (Elt F) Λ₀ (.scVector c s)) PUnit}
    (hst : ∀ v, Narrows (st v) (st' v)) (vs : List (Bins cols)) {k k' : Prog (TpuEff nD τ sig (Elt F) Λ₀ (.scVector c s)) Unit}
    (h : Narrows k k') : Narrows (scatters st vs k) (scatters st' vs k') := by
  induction vs with
  | nil => exact h
  | cons v vs ih => exact Narrows.bind (hst v) fun _ => ih

theorem chunks_narrows (arg4 : Memref sig .scVector .vmem S60x512 .i32) (a : BitVec 32) (cols : IVec S16 32)
    (inb : ∀ r : Fin 60, ∀ ax, rowOff r.val a ax + S1x16.size ax ≤ S60x512.size ax)
    {st st' : BitVec 32 → Bins cols → Prog (TpuEff nD τ sig (Elt F) Λ₀ (.scVector c s)) PUnit}
    (hst : ∀ b v, Narrows (st b v) (st' b v)) (ps : List (BitVec 32 × List (Fin 60))) :
    Narrows (chunks arg4 a cols inb st ps) (chunks arg4 a cols inb st' ps) := by
  induction ps with
  | nil => exact .ret _
  | cons p ps ih => exact loads_narrows arg4 a cols inb _ fun l => scatters_narrows (hst p.1) l ih

end st

/-! ## Loops, and procedures of an extended table -/

theorem for_narrows {pr : Proc τ} {w : ℕ} {σ : Type} {Λ : Labels} (lb ub st : BitVec w) (hok : Scf.OK lb ub st) (init : σ)
    {body body' : Fin (Scf.trips lb ub st) → σ → Prog (TpuEff nD τ sig (Elt F) Λ pr) σ} (h : ∀ t x, Narrows (body t x) (body' t x)) :
    Narrows (Scf.for lb ub st hok init body) (Scf.for lb ub st hok init body') := by
  rw [Scf.for_eq, Scf.for_eq]
  generalize List.finRange (Scf.trips lb ub st) = l
  induction l generalizing init with
  | nil => exact .ret _
  | cons t ts ih => exact Narrows.bind (h t init) fun x => ih x

theorem inl_narrows {pr : Proc τ} {Λ Λ' : Labels} {α : Type} {p p' : Prog (TpuEff nD τ sig (Elt F) Λ pr) α} (h : Narrows p p') :
    Narrows (TpuEff.inlProg (Λ' := Λ') p) (TpuEff.inlProg p') := by
  induction h with
  | ret a => exact .ret a
  | op e _ ih => exact .op _ fun x => ih x
  | store l hl r' w' M' hx' hm' same ne _ ih => exact .store l hl r' w' M' hx' hm' same ne fun x => ih x

end Cert.Hist

end
-- ==== Proof.NarrowTable.lean ====
/-
  The tile's whole program with the narrowed scatters, and the table of procedures that has it in the kernel's place.
-/
module

public import proofs.«01_k».proof.Proof.NarrowBody

@[expose] public section

noncomputable section

namespace Cert.Hist

open Idealize.ShloMosaic Idealize.SL.Sem
open Cert.KernelIdeal Cert.KernelIdeal.Gen
open Cert.Narrow

variable {F : FTy → Type} [FloatOps F]

/-! ## The tile's program -/

/-- The words and the counts in the chip's memory, as a tile names them. -/
abbrev idxH : Memref sig .scVector .hbm S60x16384 .i32 := Memref.whole main_v7_scv
abbrev outH : Memref sig .scVector .hbm S80x16384 .f32 := Memref.whole main_v8_scv

/-- The tile's columns of the words; its first and second 256 columns of the counts; the two halves of its own counts. -/
abbrev idxS (i : grid0.Coords) : Memref sig .scVector .hbm S60x512 .i32 :=
  idxH.slice (Rect.unit (s := S60x16384) (k0_off1 i) S60x512.size (k0_off1_inb i)) (fun _ => rfl)
abbrev outA (i : grid0.Coords) : Memref sig .scVector .hbm S80x256 .f32 :=
  outH.slice (Rect.unit (s := S80x16384) (k0_off94 i) S80x256.size (k0_off94_inb i)) (fun _ => rfl)
abbrev outB (i : grid0.Coords) : Memref sig .scVector .hbm S80x256 .f32 :=
  outH.slice (Rect.unit (s := S80x16384) (k0_off155 i) S80x256.size (k0_off155_inb i)) (fun _ => rfl)
abbrev cntA : Memref sig .scVector .vmem S80x256 .f32 :=
  cntM.slice (Rect.unit (s := S80x512) ![0, 0] S80x256.size inb_S80x512_S80x256_0_0) (fun _ => rfl)
abbrev cntB : Memref sig .scVector .vmem S80x256 .f32 :=
  cntM.slice (Rect.unit (s := S80x512) ![0, 256] S80x256.size inb_S80x512_S80x256_0_256) (fun _ => rfl)

/-- The lanes' numbers. -/
abbrev lanes : IVec S16 32 := iota .scVector S16 32 [0] iota_S16_d0_w32_scVector

section trips

variable {c : Fin τ.nSC} {s : Fin τ.nSub}

/-- The three loops' trips. -/
def trip1 (t : Fin k0_t1_loop.trips) (_ : Unit) : Prog (TpuEff nD τ sig (Elt F) Λ₀ (.scVector c s)) Unit := zeros cntM t (inb1 t) pieces
def trip2 (t : Fin k0_t2_loop.trips) (_ : Unit) : Prog (TpuEff nD τ sig (Elt F) Λ₀ (.scVector c s)) Unit :=
  chunks idxM (Scf.iv 0#32 1#32 t) (k0_pay1 lanes 0#32 1#32 t) (inb2 t) (wholeSt cntM) runs
def trip3 (t : Fin k0_t3_loop.trips) (_ : Unit) : Prog (TpuEff nD τ sig (Elt F) Λ₀ (.scVector c s)) Unit :=
  chunks idxM (Scf.iv 16#32 1#32 t) (k0_pay68 lanes 16#32 1#32 t) (inb3 t) narrowSt runs

end trips

/-- Staging, clearing, and the two loops. -/
def narrow27 (i : grid0.Coords) : Prog (TpuEff nD τ sig (Elt F) Λ₀ (.scVector ((i 0).castLE hcore0) ((i 1).castLE hsub0))) PUnit := do
  Prog.lift (.enqueueDma (idxS i) (.here idxM) (.dma cc0_scratch2.sem) (View.wordExact_bits rfl) (Memref.isWhole_whole cc0_scratch0).wordExact ⟨Or.inl rfl, trivial⟩)
  Scf.Loop.for k0_t1_loop k0_t1_ok ⟨⟩ trip1
  Prog.lift (.waitDma2 cc0_scratch2.sem (idxS i) idxM (View.wordExact_bits rfl) (Memref.isWhole_whole cc0_scratch0).wordExact)
  Scf.Loop.for k0_t2_loop k0_t2_ok ⟨⟩ trip2
  Prog.lift (.enqueueDma cntA (.here (outA i)) (.dma cc0_scratch3.sem) (View.wordExact_bits rfl) (View.wordExact_bits rfl) ⟨Or.inl rfl, trivial⟩)
  Scf.Loop.for k0_t3_loop k0_t3_ok ⟨⟩ trip3
  pure ⟨⟩

/-- The whole of it. -/
def narrowBody (i : grid0.Coords) : Prog (TpuEff nD τ sig (Elt F) Λ₀ (.scVector ((i 0).castLE hcore0) ((i 1).castLE hsub0))) PUnit := do
  narrow27 i
  Prog.lift (.enqueueDma cntB (.here (outB i)) (.dma cc0_scratch4.sem) (View.wordExact_bits rfl) (View.wordExact_bits rfl) ⟨Or.inl rfl, trivial⟩)
  Prog.lift (.waitDma2 cc0_scratch3.sem cntA (outA i) (View.wordExact_bits rfl) (View.wordExact_bits rfl))
  Prog.lift (.waitDma2 cc0_scratch4.sem cntB (outB i) (View.wordExact_bits rfl) (View.wordExact_bits rfl))
  pure ⟨⟩

theorem part27_narrows (i : grid0.Coords) :
    Narrows (k0_part27 (F := F) i idxH (Memref.isWhole_whole _) outH (Memref.isWhole_whole _) idxM (Memref.isWhole_whole _) cntM (Memref.isWhole_whole _)
      cc0_scratch2 cc0_scratch3 cc0_scratch4) (narrow27 i) := by
  rw [k0_part27_eq_skeleton]
  unfold k0_part27_skel narrow27
  refine Narrows.bind (Narrows.refl _) fun _ => Narrows.bind (for_narrows _ _ _ _ _ fun t u => ?_) fun _ => Narrows.bind (Narrows.refl _) fun _ =>
    Narrows.bind (for_narrows _ _ _ _ _ fun t u => ?_) fun _ => Narrows.bind (Narrows.refl _) fun _ =>
    Narrows.bind (for_narrows _ _ _ _ _ fun t u => ?_) fun _ => Narrows.refl _
  · rw [t1_eq]; exact Narrows.refl _
  · rw [t2_eq]; exact Narrows.refl _
  · rw [t3_eq]; exact chunks_narrows _ _ _ _ narrowSt_narrows _

theorem body_narrows (i : grid0.Coords) :
    Narrows (cc0__sc_hist_body (F := F) i idxH (Memref.isWhole_whole _) outH (Memref.isWhole_whole _) idxM (Memref.isWhole_whole _) cntM (Memref.isWhole_whole _)
      cc0_scratch2 cc0_scratch3 cc0_scratch4) (narrowBody i) := by
  rw [cc0__sc_hist_body_eq_skeleton]
  unfold cc0__sc_hist_body_skel narrowBody
  exact Narrows.bind (part27_narrows i) fun _ => Narrows.refl _

/-! ## The tables -/

/-- The point of the grid for a SparseCore and a tile. -/
def tileC (c : Fin (grid0.bound 0)) (s : Fin (grid0.bound 1)) : grid0.Coords :=
  fun | 0 => c | 1 => s | ⟨_ + 2, h⟩ => absurd h (Nat.not_lt.2 (Nat.le_add_left _ _))

/-- The kernels' table, with the narrowed tile's program. -/
def defs₀' : Defs nD τ sig (Elt F) Λ₀
  | .scVector c s, 0, _ => SparseCore.onTile hcore0 hsub0 (fun c s => narrowBody (tileC c s)) ⟨⟩ c s
  | pr, ℓ, a => defs₀ pr ℓ a

theorem onTile_narrows {α : Type} {n m : ℕ} (hn : n ≤ τ.nSC) (hm : m ≤ τ.nSub)
    {body body' : (c : Fin n) → (s : Fin m) → Prog (TpuEff nD τ sig (Elt F) Λ₀ (.scVector (c.castLE hn) (s.castLE hm))) α}
    (h : ∀ c s, Narrows (body c s) (body' c s)) (x : α) (c : Fin τ.nSC) (s : Fin τ.nSub) :
    Narrows (SparseCore.onTile hn hm body x c s) (SparseCore.onTile hn hm body' x c s) := by
  unfold SparseCore.onTile
  by_cases hc : c.val < n ∧ s.val < m
  · rw [dif_pos hc, dif_pos hc]; exact h _ _
  · rw [dif_neg hc, dif_neg hc]; exact Narrows.refl _

theorem defs₀_narrows (pr : Proc τ) (ℓ : Λ₀.Label) (a : Λ₀.Args ℓ) : Narrows (defs₀ (F := F) pr ℓ a) (defs₀' pr ℓ a) := by
  unfold defs₀'
  split
  · exact onTile_narrows hcore0 hsub0 (fun c s => body_narrows (tileC c s)) _ _ _
  · exact Narrows.refl _

/-- The whole program's table, with the narrowed tile's program. -/
def defs' : Defs nD τ sig (Elt F) (SparseCore.Sig (Pipeline.Sig Λ₀ (Fin 1) fun p => (pcfgs (F := F) p).Adm) 1) :=
  sc.defs (Pipeline.defs pcfgs defs₀')

theorem defs_narrows : ∀ (pr : Proc τ) (ℓ : (SparseCore.Sig (Pipeline.Sig Λ₀ (Fin 1) fun p => (pcfgs (F := F) p).Adm) 1).Label)
    (a : (SparseCore.Sig (Pipeline.Sig Λ₀ (Fin 1) fun p => (pcfgs (F := F) p).Adm) 1).Args ℓ), Narrows (defs (F := F) pr ℓ a) (defs' pr ℓ a)
  | pr, .inl (.inl ℓ), a => inl_narrows (inl_narrows (defs₀_narrows pr ℓ a))
  | .tc, .inl (.inr (.entry p)), a => Narrows.refl _
  | .tc, .inl (.inr (.pipe p)), a => Narrows.refl _
  | .scScalar _, .inl (.inr (.entry p)), a => Narrows.refl _
  | .scScalar _, .inl (.inr (.pipe p)), a => Narrows.refl _
  | .scVector _ _, .inl (.inr (.entry p)), a => Narrows.refl _
  | .scVector _ _, .inl (.inr (.pipe p)), a => Narrows.refl _
  | .tc, .inr q, a => Narrows.refl _
  | .scScalar _, .inr q, a => Narrows.refl _
  | .scVector _ _, .inr q, a => Narrows.refl _

/-- What the narrowed program's runs come to, the kernel's runs come to. -/
theorem θ_run_of_narrowed (x : MemSt nD τ sig (Elt F)) {Q : PUnit × MemSt nD τ sig (Elt F) → Prop}
    (h : θ_run (defs' (F := F)) threads x Q) : θ_run (defs (F := F)) threads x Q :=
  theta_run_of_narrows defs_narrows (fun _ => Narrows.refl _) x h

end Cert.Hist

end
-- ==== Proof.Tally.lean ====
/-
  What the scatters count.

  A scatter whose sixteen lanes go to sixteen different columns changes, at each column, at most the bin that its lane
  names. So a group's scatters are, at every bin and column, a fold over the rows: one more for each row whose word is at
  least its section's first bin and names this bin.
-/
module

public import proofs.«01_k».proof.Proof.NarrowBody
public import Idealize.ShloMosaic.Lib.ValueIdxCore
public import Idealize.ShloMosaic.Lib.LaneScatter.Casts

@[expose] public section

noncomputable section

namespace Cert.Hist

open Idealize.ShloMosaic Idealize.SL.Sem
open Cert.KernelIdeal Cert.KernelIdeal.Gen
open Idealize.ShloMosaic.ValueIdx (ix1 ix2)

variable {F : FTy → Type} [FloatOps F]

/-! ## One bin of one column -/

/-- The count after one row's word `w`: one more if the word is at least the section's first bin and names bin `b`. -/
def bump (bnd w : BitVec 32) (b : ℕ) (x : F .f32) : F .f32 :=
  if Scalar.cmpi .sge w bnd = 1#1 ∧ w.toNat = b then FloatOps.idxAddf x (Scalar.ofBits .f32 0x3F800000#32) else x

/-- The same over several runs of rows, `w r` row `r`'s word. -/
def tallyOn (ps : List (BitVec 32 × List (Fin 60))) (w : Fin 60 → BitVec 32) (b : ℕ) (x : F .f32) : F .f32 :=
  ps.foldl (fun x p => p.2.foldl (fun x r => bump p.1 (w r) b x) x) x

/-- A column's count of bin `b`, from the sixty words of the column. -/
def tally (w : Fin 60 → BitVec 32) (b : ℕ) : F .f32 := tallyOn runs w b (Scalar.ofBits .f32 0x00000000#32)

/-! ## Folds over lanes -/

/-- A fold whose step changes a function only where it says, read at one point. -/
theorem foldl_at {α β γ : Type} (l : List α) (step : (β → γ) → α → β → γ) (one : γ → α → γ) (j : β)
    (h : ∀ g a, step g a j = one (g j) a) (f : β → γ) : l.foldl step f j = l.foldl one (f j) := by
  induction l generalizing f with
  | nil => rfl
  | cons a l ih => rw [List.foldl_cons, List.foldl_cons, ih, h]

/-- A fold whose step acts only at one element of the list. -/
theorem foldl_once {α γ : Type} (l : List α) (hl : l.Nodup) (one : γ → α → γ) (a₀ : α) (ha : a₀ ∈ l)
    (h : ∀ y a, a ≠ a₀ → one y a = y) (x : γ) : l.foldl one x = one x a₀ := by
  have idle : ∀ (l : List α), a₀ ∉ l → ∀ x, l.foldl one x = x := by
    intro l
    induction l with
    | nil => intro _ x; rfl
    | cons a l ih =>
      intro hn x
      rw [List.mem_cons, not_or] at hn
      rw [List.foldl_cons, h _ _ (Ne.symm hn.1), ih hn.2]
  induction l generalizing x with
  | nil => exact absurd ha List.not_mem_nil
  | cons a l ih =>
    rw [List.nodup_cons] at hl
    rw [List.foldl_cons]
    by_cases hc : a = a₀
    · subst hc; rw [idle l hl.1]
    · rw [h _ _ hc]
      exact ih hl.2 ((List.mem_cons.mp ha).resolve_left (Ne.symm hc)) x

/-- An adding scatter read at one element: a fold over the lanes. -/
theorem storeIdx_at {s : Shape} {e : EltTy} {d : Fin 1 → ℕ} (f : Vec F s e) (idxs : Fin s.rank → IVec ⟨1, d⟩ 32) (v : Vec F ⟨1, d⟩ e)
    (mask : IVec ⟨1, d⟩ 1) (h : ∀ a x, (idxs a x).toNat < s.size a) (j : s.Idx) :
    storeIdx f idxs v mask true h j = (List.finRange (d 0)).foldl (fun y k =>
      if mask (Shape.ofLane k) = 1 ∧ ∀ a, (j a).val = (idxs a (Shape.ofLane k)).toNat then Elt.idxAdd e y (v (Shape.ofLane k)) else y) (f j) := by
  unfold storeIdx
  refine foldl_at (List.finRange (d 0)) _ _ j (fun g k => ?_) f
  by_cases hm : mask (Shape.ofLane k) = 1
  · simp only [hm, if_true, true_and]
    by_cases hj : ∀ a, (j a).val = (idxAt idxs h (Shape.ofLane k) a).val
    · have hji : j = idxAt idxs h (Shape.ofLane k) := funext fun a => Fin.ext (hj a)
      rw [if_pos hj, ← hji]
      exact (if_pos hj).symm
    · rw [if_neg hj]
      exact (if_neg hj).symm
  · simp only [hm, if_false, false_and]

/-! ## One scatter -/

/-- The group's columns: lane `l` is at column `16 g + l`. -/
def ColsOf (g : ℕ) (cols : IVec S16 32) : Prop := ∀ l : Fin 16, (cols (ix1 l)).toNat = 16 * g + l.val

/-- The lane of a column. -/
def laneOf (j : S80x512.Idx) : Fin 16 := ⟨(j 1).val % 16, Nat.mod_lt _ (by decide)⟩

theorem added_apply {cols : IVec S16 32} {g : ℕ} (hg : ColsOf g cols) (bnd : BitVec 32) (v : Bins cols) (f : Vec F S80x512 .f32) (j : S80x512.Idx) :
    added bnd v f j = if (j 1).val / 16 = g then bump bnd (v.1 (ix1 (laneOf j))) (j 0).val (f j) else f j := by
  have hof : ∀ k : Fin 16, (Shape.ofLane (d := ![16]) k : S16.Idx) = ix1 k := fun k => by
    funext a; match a with | ⟨0, _⟩ => rfl
  refine (storeIdx_at (F := F) (s := S80x512) (e := .f32) (d := ![16]) f ![v.1, cols] (k0_pay136 (F := F)) (sel bnd v.1) v.2 j).trans ?_
  have hiff : ∀ k : Fin 16, (∀ a, (j a).val = ((![v.1, cols] : Fin 2 → IVec S16 32) a (ix1 k)).toNat) ↔
      ((v.1 (ix1 k)).toNat = (j 0).val ∧ (cols (ix1 k)).toNat = (j 1).val) := fun k => by
    constructor
    · intro h; exact ⟨(h 0).symm, (h 1).symm⟩
    · rintro ⟨h0, h1⟩ a
      match a with
      | ⟨0, _⟩ => exact h0.symm
      | ⟨1, _⟩ => exact h1.symm
  rw [foldl_once (List.finRange ((![16] : Fin 1 → ℕ) 0)) (List.nodup_finRange _) _ (laneOf j) (List.mem_finRange _) (fun y a ha => ?_)]
  · rw [hof]
    have hc : (cols (ix1 (laneOf j))).toNat = (j 1).val ↔ (j 1).val / 16 = g := by
      rw [hg]
      show 16 * g + (j 1).val % 16 = (j 1).val ↔ _
      omega
    by_cases hjg : (j 1).val / 16 = g
    · rw [if_pos hjg]
      unfold bump
      refine if_congr ?_ rfl rfl
      refine and_congr Iff.rfl ((hiff _).trans ?_)
      rw [hc]
      exact ⟨fun h => h.1, fun h => ⟨h, hjg⟩⟩
    · rw [if_neg hjg, if_neg]
      intro h
      exact hjg (hc.mp ((hiff _).mp h.2).2)
  · rw [if_neg]
    rintro ⟨-, h⟩
    have h' : ∀ b, (j b).val = ((![v.1, cols] : Fin 2 → IVec S16 32) b (ix1 a)).toNat := by rw [← hof a]; exact h
    have h1 := (hg a).symm.trans ((hiff a).mp h').2
    refine ha (Fin.ext ?_)
    show a.val = (j 1).val % 16
    have hlt : a.val < 16 := a.isLt
    omega

/-! ## A group -/

/-- Row `r`'s sixteen words, as the trip at word `a` loads them. -/
def rowVec (ix : Vec F S60x512 .i32) (a : BitVec 32) (inb : ∀ r : Fin 60, ∀ ax, rowOff r.val a ax + S1x16.size ax ≤ S60x512.size ax) (r : Fin 60) :
    IVec S16 32 :=
  shapeCast S16 (idxM.view.readAt (Elt F) (Rect.unit (s := S60x512) (rowOff r.val a) S1x16.size (inb r)).toLoadRect ix) shapeCasts_S1x16_S16

/-- The words of one column. -/
def colW (ix : Vec F S60x512 .i32) (k : Fin 512) : Fin 60 → BitVec 32 := fun r => ix (ix2 r k)

theorem rowVec_apply (ix : Vec F S60x512 .i32) {a : BitVec 32} {g : ℕ} (ha : (Scalar.indexCast (Scalar.muli a 16#32)).toNat = 16 * g)
    (inb : ∀ r : Fin 60, ∀ ax, rowOff r.val a ax + S1x16.size ax ≤ S60x512.size ax) (r : Fin 60) (l : Fin 16) (k : Fin 512) (hk : k.val = 16 * g + l.val) :
    rowVec ix a inb r (ix1 l) = ix (ix2 r k) := by
  unfold rowVec
  refine (LaneScatter.cast_vec_apply (Ln := 16) _ shapeCasts_S1x16_S16 (ix1 l)).trans ?_
  rw [View.readAt_apply]
  refine congrArg ix ?_
  funext ax
  apply Fin.ext
  match ax with
  | ⟨0, _⟩ =>
    show r.val + 1 * 0 = r.val
    omega
  | ⟨1, _⟩ =>
    show (Scalar.indexCast (Scalar.muli a 16#32)).toNat + 1 * l.val = k.val
    omega

/-- The contents after runs of rows' scatters in group `g`. -/
def grouped (g : ℕ) (ps : List (BitVec 32 × List (Fin 60))) (ix : Vec F S60x512 .i32) (f : Vec F S80x512 .f32) : Vec F S80x512 .f32 :=
  fun j => if (j 1).val / 16 = g then tallyOn ps (colW ix (j 1)) (j 0).val (f j) else f j

/-- The bins that a list of rows loads. -/
def binsOf (ix : Vec F S60x512 .i32) (a : BitVec 32) (inb : ∀ r : Fin 60, ∀ ax, rowOff r.val a ax + S1x16.size ax ≤ S60x512.size ax)
    {cols : IVec S16 32} (hc : ∀ r, Chk cols (rowVec ix a inb r)) (rows : List (Fin 60)) : List (Bins cols) :=
  rows.map fun r => ⟨rowVec ix a inb r, hc r⟩

theorem grouped_nil (g : ℕ) (ix : Vec F S60x512 .i32) (f : Vec F S80x512 .f32) : grouped g [] ix f = f := by
  funext j; unfold grouped tallyOn; rw [List.foldl_nil]; split <;> rfl

theorem grouped_cons (g : ℕ) (p : BitVec 32 × List (Fin 60)) (ps : List (BitVec 32 × List (Fin 60))) (ix : Vec F S60x512 .i32) (f : Vec F S80x512 .f32) :
    grouped g (p :: ps) ix f = grouped g ps ix (grouped g [p] ix f) := by
  funext j
  unfold grouped tallyOn
  by_cases h : (j 1).val / 16 = g
  · simp only [if_pos h, List.foldl_cons, List.foldl_nil]
  · simp only [if_neg h]

/-- One run's scatters, in order, are the fold over its rows. -/
theorem foldl_added {a : BitVec 32} {g : ℕ} (ha : (Scalar.indexCast (Scalar.muli a 16#32)).toNat = 16 * g)
    (inb : ∀ r : Fin 60, ∀ ax, rowOff r.val a ax + S1x16.size ax ≤ S60x512.size ax) {cols : IVec S16 32} (hg : ColsOf g cols)
    (ix : Vec F S60x512 .i32) (hc : ∀ r, Chk cols (rowVec ix a inb r)) (bnd : BitVec 32) (rows : List (Fin 60)) (f : Vec F S80x512 .f32) :
    (binsOf ix a inb hc rows).foldl (fun f v => added bnd v f) f = grouped g [(bnd, rows)] ix f := by
  induction rows generalizing f with
  | nil =>
    funext j
    unfold grouped tallyOn
    simp only [List.foldl_cons, List.foldl_nil, binsOf, List.map_nil, ite_self]
  | cons r rs ih =>
    show (binsOf ix a inb hc rs).foldl (fun f v => added bnd v f) (added bnd ⟨rowVec ix a inb r, hc r⟩ f) = _
    rw [ih]
    funext j
    unfold grouped tallyOn
    rw [added_apply hg]
    by_cases h : (j 1).val / 16 = g
    · simp only [if_pos h, List.foldl_cons, List.foldl_nil]
      rw [rowVec_apply ix ha inb r (laneOf j) (j 1) (by show (j 1).val = 16 * g + (j 1).val % 16; omega)]
      rfl
    · simp only [if_neg h]

/-- The counts when the groups below `n` are done: a column's tally there, zero elsewhere. -/
def upTo (n : ℕ) (ix : Vec F S60x512 .i32) : Vec F S80x512 .f32 :=
  fun j => if (j 1).val < 16 * n then tally (colW ix (j 1)) (j 0).val else Scalar.ofBits .f32 0x00000000#32

theorem grouped_upTo (n : ℕ) (ix : Vec F S60x512 .i32) : grouped n runs ix (upTo n ix) = upTo (n + 1) ix := by
  funext j
  unfold grouped upTo tally
  by_cases h : (j 1).val / 16 = n
  · rw [if_pos h, if_neg (by omega), if_pos (by omega)]
  · rw [if_neg h]
    by_cases h' : (j 1).val < 16 * n
    · rw [if_pos h', if_pos (by omega)]
    · rw [if_neg h', if_neg (by omega)]

/-! ## The two loops' columns and words -/

theorem cols2 (t : Fin k0_t2_loop.trips) : ColsOf t.val (k0_pay1 (iota .scVector S16 32 [0] iota_S16_d0_w32_scVector) 0#32 1#32 t) := by
  intro l; revert l; revert t; decide +kernel
theorem cols3 (t : Fin k0_t3_loop.trips) : ColsOf (16 + t.val) (k0_pay68 (iota .scVector S16 32 [0] iota_S16_d0_w32_scVector) 16#32 1#32 t) := by
  intro l; revert l; revert t; decide +kernel
theorem word2 (t : Fin k0_t2_loop.trips) : (Scalar.indexCast (Scalar.muli (Scf.iv 0#32 1#32 t) 16#32)).toNat = 16 * t.val := by
  revert t; decide +kernel
theorem word3 (t : Fin k0_t3_loop.trips) : (Scalar.indexCast (Scalar.muli (Scf.iv 16#32 1#32 t) 16#32)).toNat = 16 * (16 + t.val) := by
  revert t; decide +kernel

/-- Words below 80 pass the check. -/
theorem chk_of {a : BitVec 32} {g : ℕ} (ha : (Scalar.indexCast (Scalar.muli a 16#32)).toNat = 16 * g) (hg32 : g < 32)
    (inb : ∀ r : Fin 60, ∀ ax, rowOff r.val a ax + S1x16.size ax ≤ S60x512.size ax) {cols : IVec S16 32} (hg : ColsOf g cols)
    (ix : Vec F S60x512 .i32) (hix : ∀ j, (ix j : BitVec 32).toNat < 80) (r : Fin 60) : Chk cols (rowVec ix a inb r) := by
  intro ax x
  obtain ⟨l, rfl⟩ : ∃ l : Fin 16, x = ix1 l := ⟨x 0, ValueIdx.eq_ix1 x⟩
  have hl := l.isLt
  match ax with
  | ⟨0, _⟩ =>
    show (rowVec ix a inb r (ix1 l)).toNat < 80
    rw [rowVec_apply ix ha inb r l ⟨16 * g + l.val, by omega⟩ rfl]
    exact hix _
  | ⟨1, _⟩ =>
    show (cols (ix1 l)).toNat < 512
    rw [hg]
    omega

end Cert.Hist

end
-- ==== Proof.Trips.lean ====
/-
  The three loops' trips, with the contents of the counts.

  The counting trips are proved once, over a description `R` of the counts and a rule for one scatter there: the first loop
  holds all of the counts outright; the second holds the first half at a read share, the other read share being lent to the
  copy that is under way.
-/
module

public import proofs.«01_k».proof.Proof.NarrowTable
public import proofs.«01_k».proof.Proof.Tally
public import Idealize.ShloMosaic.Lib.SparseCore.Ops
public import Idealize.ShloMosaic.Lib.Scf

@[expose] public section

noncomputable section

namespace Cert.Hist

open Idealize.ShloMosaic
open Idealize.ShloMosaic.SparseCore (S V T)
open Cert.KernelIdeal Cert.KernelIdeal.Gen
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Generic facts about writes and shares -/

section general

variable {sig' : RefSig} {κ : Kind} {sp : Space} {s : Shape} {e : EltTy} {Val : EltTy → Type}

/-- A write leaves an element as it was or makes it one of the values written. -/
theorem write_or (v : View sig' κ sp s e) (f : v.ty.Contents Val) (w : s.Idx → Val e) (j : v.ty.Idx) :
    (∃ x, j = v.emb x ∧ v.write Val f w Finset.univ j = _root_.cast (congrArg Val v.elt_eq.symm) (w x)) ∨ (j ∉ v.set ∧ v.write Val f w Finset.univ j = f j) := by
  by_cases hj : j ∈ v.set
  · obtain ⟨x, -, rfl⟩ := Finset.mem_map.mp hj
    exact .inl ⟨x, rfl, View.write_emb_of_mem (v := v) (Val := Val) f w (M := Finset.univ) (x := x) (Finset.mem_univ _)⟩
  · exact .inr ⟨hj, View.write_of_not_mem (v := v) (Val := Val) f w Finset.univ hj⟩

end general

section scatter

variable {pr : Proc τ} {s : Shape} {e : EltTy} {dd : Fin 1 → ℕ}

/-- The narrowed scatter, with the elements off the part held at a share: the contents become the scatter's result, which is
    what they were off the part. -/
theorem wp_partStoreIdx (defs : Defs nD τ sig (Elt F) Λ₀) (𝒱 : Variants) (d : Dev nD) (bd : Option 𝒱.V) (E : Set Name)
    (base : Memref sig pr.kind .vmem s e) (idxs : Fin s.rank → IVec ⟨1, dd⟩ 32) (v : Vec F ⟨1, dd⟩ e)
    (mask : IVec ⟨1, dd⟩ 1) (h : ∀ a x, (idxs a x).toNat < s.size a) (hl : base.view.LoadsAt (Rect.whole s).toLoadRect)
    (R : Vec F s e → Vec F s e → Rect s) (hR : ∀ w g, (base.access (R w g)).Stores Finset.univ) (same : PartSame (F := F) base R)
    (A H : Finset (Idx (base.view.loc (d, pr)))) (hd : Disjoint A H) (hu : A ∪ H = Finset.univ) (f : Buf (Elt F) (base.view.loc (d, pr)))
    (w g : Vec F s e) (hg : g = base.view.readAt (Elt F) (Rect.whole s).toLoadRect f)
    (hw : w = storeIdx g idxs v mask true h)
    (hH : (base.access (R w g)).setOn Finset.univ ⊆ H)
    (f' : Buf (Elt F) (base.view.loc (d, pr))) (hf' : f' = (base.access (Rect.whole s)).write (Elt F) f w Finset.univ)
    (hA : ∀ i ∈ A, f i = f' i) {α : Type} (k : PUnit → Prog (TpuEff nD τ sig (Elt F) Λ₀ pr) α) (Q : α → sProp 𝕄) :
    iprop((base.view.loc (d, pr) ↦[A]{fullShare.left} f) ∗ (base.view.loc (d, pr) ↦[H]{fullShare} f))
      ⊢ iprop((iprop((base.view.loc (d, pr) ↦[A]{fullShare.left} f') ∗ (base.view.loc (d, pr) ↦[H]{fullShare} f'))
            -∗ wp frame (wpE defs 𝒱 (d, pr) bd) E (k ⟨⟩) Q)
          -∗ wp frame (wpE defs 𝒱 (d, pr) bd) E (partStoreIdx base idxs v mask h hl R hR >>= k) Q) := by
  show _ ⊢ iprop(_ -∗ wp frame (wpE defs 𝒱 (d, pr) bd) E (.op (.load base (Rect.whole s).toLoadRect hl) fun f =>
    .op (.load base (Rect.whole s).toLoadRect hl) fun g =>
    .op (.store base (R (storeIdx f idxs v mask true h) g) (fun j => storeIdx f idxs v mask true h ((R (storeIdx f idxs v mask true h) g).emb j))
      Finset.univ (hR _ _) (.inl rfl)) k) Q)
  iintro ⟨HA, HH⟩ Hk
  ihave HH := (pointsTo_share (PosShare.mem_left_op_right fullShare)).1 $$ HH
  icases HH with ⟨HL, HR⟩
  ihave HAL := (pointsTo_union hd).2 $$ [HA HL]
  · isplitl [HA] <;> iassumption
  rw [hu]
  iapply (wp_load 𝒱 ((d, pr) : Thread nD τ) bd E (m := base) (S := Finset.univ) (Finset.subset_univ _)) $$ HAL
  iintro HAL
  iapply (wp_load 𝒱 ((d, pr) : Thread nD τ) bd E (m := base) (S := Finset.univ) (Finset.subset_univ _)) $$ HAL
  iintro HAL
  rw [← hg, ← hw, ← hu]
  ihave HAL := (pointsTo_union hd).1 $$ HAL
  icases HAL with ⟨HA, HL⟩
  ihave HH := (pointsTo_share (PosShare.mem_left_op_right fullShare)).2 $$ [HL HR]
  · isplitl [HL] <;> iassumption
  iapply (wp_store 𝒱 ((d, pr) : Thread nD τ) bd E (m := base) (r := R w g) (Mk := Finset.univ) (S := H) hH) $$ HH
  iintro HH
  iapply Hk
  have hs : (base.access (R w g)).write (Elt F) f (fun j => w ((R w g).emb j)) Finset.univ = f' := by
    subst hg
    rw [hf']
    exact same w f
  isplitl [HA]
  · iapply (Entails.of_eq (pointsTo_congr hA)); iexact HA
  · iapply (Entails.of_eq (congrArg (fun x => (base.view.loc (d, pr) ↦[H]{fullShare} x : sProp 𝕄)) hs)); iexact HH

end scatter

section trips

variable (defs : Defs nD τ sig (Elt F) Λ₀) (𝒱 : Variants) (d : Dev nD) (c : Fin τ.nSC) (s : Fin τ.nSub) (bd : Option 𝒱.V) (E : Set Name)

/-- The tile's words at a share, and its counts. -/
abbrev idxPts (q : PosShare TreeShare) (ix : Vec F S60x512 .i32) : sProp 𝕄 := (idxM.view.loc (V d c s) ↦{q} ix)
abbrev cntPts (f : Vec F S80x512 .f32) : sProp 𝕄 := (cntM.view.loc (V d c s) ↦{fullShare} f)

/-! ## Loads and scatters of a run of rows -/

theorem wp_loads {a : BitVec 32} {cols : IVec S16 32} {inb : ∀ r : Fin 60, ∀ ax, rowOff r.val a ax + S1x16.size ax ≤ S60x512.size ax}
    {q : PosShare TreeShare} {ix : Vec F S60x512 .i32} (hc : ∀ r, Chk cols (rowVec ix a inb r)) (rows : List (Fin 60))
    {k : List (Bins cols) → Prog (TpuEff nD τ sig (Elt F) Λ₀ (.scVector c s)) Unit} {Q : Unit → sProp 𝕄} :
    idxPts d c s q ix ⊢ iprop((idxPts d c s q ix -∗ wp frame (wpE defs 𝒱 (V d c s) bd) E (k (binsOf ix a inb hc rows)) Q)
      -∗ wp frame (wpE defs 𝒱 (V d c s) bd) E (loads idxM a cols inb rows k) Q) := by
  induction rows generalizing k with
  | nil =>
    iintro H Hk
    iapply Hk; iexact H
  | cons r rs ih =>
    iintro H Hk
    unfold loads
    iapply (wp_load 𝒱 (V d c s) bd E (m := idxM) (S := Finset.univ) (Finset.subset_univ _)) $$ H
    iintro H
    have h := hc r
    unfold rowVec at h
    rw [wp_assume_of _ _ _ _ h]
    iapply ih $$ H
    iexact Hk

theorem wp_scatters {cols : IVec S16 32} (R : Vec F S80x512 .f32 → sProp 𝕄) (bnd : BitVec 32)
    (st : Bins cols → Prog (TpuEff nD τ sig (Elt F) Λ₀ (.scVector c s)) PUnit)
    (hst : ∀ v f (k : PUnit → Prog (TpuEff nD τ sig (Elt F) Λ₀ (.scVector c s)) Unit) (Q : Unit → sProp 𝕄),
      R f ⊢ iprop((R (added bnd v f) -∗ wp frame (wpE defs 𝒱 (V d c s) bd) E (k ⟨⟩) Q) -∗ wp frame (wpE defs 𝒱 (V d c s) bd) E (st v >>= k) Q))
    (vs : List (Bins cols)) (f : Vec F S80x512 .f32)
    {k : Prog (TpuEff nD τ sig (Elt F) Λ₀ (.scVector c s)) Unit} {Q : Unit → sProp 𝕄} :
    R f ⊢ iprop((R (vs.foldl (fun f v => added bnd v f) f) -∗ wp frame (wpE defs 𝒱 (V d c s) bd) E k Q)
      -∗ wp frame (wpE defs 𝒱 (V d c s) bd) E (scatters st vs k) Q) := by
  induction vs generalizing f with
  | nil =>
    rw [List.foldl_nil]
    iintro H Hk
    iapply Hk; iexact H
  | cons v vs ih =>
    rw [List.foldl_cons]
    iintro H Hk
    unfold scatters
    iapply (hst v f (fun _ => scatters st vs k) Q) $$ H
    iintro H
    iapply ih $$ H
    iexact Hk

/-- A trip's runs, over any description of the counts that a scatter takes to the counts with the ones added. -/
theorem wp_chunks {a : BitVec 32} {g : ℕ} (ha : (Scalar.indexCast (Scalar.muli a 16#32)).toNat = 16 * g) {cols : IVec S16 32} (hg : ColsOf g cols)
    {inb : ∀ r : Fin 60, ∀ ax, rowOff r.val a ax + S1x16.size ax ≤ S60x512.size ax}
    {q : PosShare TreeShare} {ix : Vec F S60x512 .i32} (hc : ∀ r, Chk cols (rowVec ix a inb r))
    (R : Vec F S80x512 .f32 → sProp 𝕄) (st : BitVec 32 → Bins cols → Prog (TpuEff nD τ sig (Elt F) Λ₀ (.scVector c s)) PUnit)
    (hst : ∀ bnd v f (k : PUnit → Prog (TpuEff nD τ sig (Elt F) Λ₀ (.scVector c s)) Unit) (Q : Unit → sProp 𝕄),
      R f ⊢ iprop((R (added bnd v f) -∗ wp frame (wpE defs 𝒱 (V d c s) bd) E (k ⟨⟩) Q) -∗ wp frame (wpE defs 𝒱 (V d c s) bd) E (st bnd v >>= k) Q))
    (ps : List (BitVec 32 × List (Fin 60))) (f : Vec F S80x512 .f32) :
    iprop(idxPts d c s q ix ∗ R f) ⊢ wp frame (wpE defs 𝒱 (V d c s) bd) E (chunks idxM a cols inb st ps)
      fun _ => iprop(idxPts d c s q ix ∗ R (grouped g ps ix f)) := by
  induction ps generalizing f with
  | nil =>
    unfold chunks
    rw [grouped_nil, wp_ret]
    iintro H; imodintro; iexact H
  | cons p ps ih =>
    unfold chunks chunk
    iintro ⟨Hi, HR⟩
    iapply (wp_loads defs 𝒱 d c s bd E hc p.2) $$ Hi
    iintro Hi
    iapply (wp_scatters defs 𝒱 d c s bd E R p.1 (st p.1) (hst p.1) (binsOf ix a inb hc p.2) f) $$ HR
    rw [foldl_added ha inb hg ix hc p.1 p.2 f, grouped_cons g p ps]
    iintro HR
    iapply (ih (grouped g [p] ix f))
    isplitl [Hi]; · iexact Hi
    iexact HR

/-! ## The scatters -/

theorem cnt_write (f w : Vec F S80x512 .f32) :
    (cntM.access (Rect.whole S80x512)).write (Elt F) f w Finset.univ = w := Memref.write_access_whole_univ (Elt F) cc0_scratch1 f w
theorem cnt_read (f : Vec F S80x512 .f32) :
    (cntM.access (Rect.whole S80x512)).read (Elt F) f = f := Memref.read_access_whole (Elt F) cc0_scratch1 f
theorem cnt_readAt (f : Vec F S80x512 .f32) :
    cntM.view.readAt (Elt F) (Rect.whole S80x512).toLoadRect f = f := Memref.read_access_whole (Elt F) cc0_scratch1 f
theorem cnt_set : (cntM.access (Rect.whole S80x512)).set = Finset.univ := Memref.set_access_whole cc0_scratch1

theorem mem_cntA (j : S80x512.Idx) : j ∈ cntA.view.set ↔ (j 1).val < 256 := by
  have h : cntA.view.set = _ := View.set_slice_whole cc0_scratch1 _
  rw [h, Rect.mem_set_unit]
  have h0 : (j 0).val < 80 := (j 0).isLt
  constructor
  · intro h; have := (h 1).2; simpa using this
  · intro h a
    match a with
    | ⟨0, _⟩ => exact ⟨Nat.zero_le _, by show (j 0).val < 0 + 80; omega⟩
    | ⟨1, _⟩ => exact ⟨Nat.zero_le _, by show (j 1).val < 0 + 256; omega⟩
theorem mem_cntB (j : S80x512.Idx) : j ∈ cntB.view.set ↔ 256 ≤ (j 1).val := by
  have h : cntB.view.set = _ := View.set_slice_whole cc0_scratch1 _
  rw [h, Rect.mem_set_unit]
  have h0 : (j 0).val < 80 := (j 0).isLt
  have h1 : (j 1).val < 512 := (j 1).isLt
  constructor
  · intro h; have := (h 1).1; simpa using this
  · intro h a
    match a with
    | ⟨0, _⟩ => exact ⟨Nat.zero_le _, by show (j 0).val < 0 + 80; omega⟩
    | ⟨1, _⟩ => exact ⟨h, by show (j 1).val < 256 + 256; omega⟩

/-- The counts in the second loop: the first half at a read share, the second outright. -/
abbrev halfPts (f : Vec F S80x512 .f32) : sProp 𝕄 :=
  iprop((cntM.view.loc (V d c s) ↦[cntA.view.set]{fullShare.left} f) ∗ (cntM.view.loc (V d c s) ↦[cntB.view.set]{fullShare} f))

theorem half_disjoint : Disjoint (cntA.view.set : Finset S80x512.Idx) cntB.view.set :=
  Finset.disjoint_left.mpr fun j h h' => by rw [mem_cntA] at h; rw [mem_cntB] at h'; omega
theorem half_union : (cntA.view.set : Finset S80x512.Idx) ∪ cntB.view.set = Finset.univ := by
  ext j; rw [Finset.mem_union, mem_cntA, mem_cntB]; simp only [Finset.mem_univ, iff_true]; omega

theorem pickR_half {w g : Vec F S80x512 .f32} (h : ∀ x, x ∉ halfR.set → w x = g x) : pickR w g = halfR := if_pos h

theorem access_half (r : Rect S80x512) (h : r = halfR) : (cntM.access r).setOn Finset.univ ⊆ cntB.view.set := by
  subst h; exact subset_rfl

theorem wp_whole {cols : IVec S16 32} (bnd : BitVec 32) (v : Bins cols) (f : Vec F S80x512 .f32)
    (k : PUnit → Prog (TpuEff nD τ sig (Elt F) Λ₀ (.scVector c s)) Unit) (Q : Unit → sProp 𝕄) :
    cntPts d c s f ⊢ iprop((cntPts d c s (added bnd v f) -∗ wp frame (wpE defs 𝒱 (V d c s) bd) E (k ⟨⟩) Q)
      -∗ wp frame (wpE defs 𝒱 (V d c s) bd) E (wholeSt cntM bnd v >>= k) Q) := by
  have h := SparseCore.wp_vectorStoreIdx (defs := defs) (Q := Q) 𝒱 (V d c s) bd E (s := S80x512) (e := .f32) (d := ![16]) (base := cntM)
    (idxs := ![v.1, cols]) (v := k0_pay136 (F := F)) (mask := sel bnd v.1) (add := true) (h := v.2) (hs := View.stores_vmem_bits_univ h_S80x512 rfl)
    (k := k) (f := f)
  rw [cnt_set, cnt_read, cnt_write] at h
  exact h

theorem wp_narrow {cols : IVec S16 32} {g : ℕ} (hg : ColsOf g cols) (h16 : 16 ≤ g) (bnd : BitVec 32) (v : Bins cols) (f : Vec F S80x512 .f32)
    (k : PUnit → Prog (TpuEff nD τ sig (Elt F) Λ₀ (.scVector c s)) Unit) (Q : Unit → sProp 𝕄) :
    halfPts d c s f ⊢ iprop((halfPts d c s (added bnd v f) -∗ wp frame (wpE defs 𝒱 (V d c s) bd) E (k ⟨⟩) Q)
      -∗ wp frame (wpE defs 𝒱 (V d c s) bd) E (narrowSt bnd v >>= k) Q) := by
  have hlow : ∀ j : S80x512.Idx, (j 1).val < 256 → f j = added bnd v f j := fun j hj => by
    rw [added_apply hg, if_neg (by omega)]
  have hoff : ∀ x, x ∉ halfR.set → added bnd v f x = f x := by
    intro x hx
    refine (hlow x ?_).symm
    by_contra hn
    refine hx ?_
    unfold halfR
    rw [Rect.mem_set_unit]
    have h0 : (x 0).val < 80 := (x 0).isLt
    have h1 : (x 1).val < 512 := (x 1).isLt
    intro a
    match a with
    | ⟨0, _⟩ => exact ⟨Nat.zero_le _, by show (x 0).val < 0 + 80; omega⟩
    | ⟨1, _⟩ => exact ⟨by show 256 ≤ (x 1).val; omega, by show (x 1).val < 256 + 256; omega⟩
  have e1 := (cnt_readAt f).symm
  have e2 := access_half _ (pickR_half hoff)
  have e3 := (cnt_write f (added bnd v f)).symm
  have e4 : ∀ i ∈ cntA.view.set, f i = added bnd v f i := fun i hi => hlow i ((mem_cntA i).mp hi)
  have key := wp_partStoreIdx (F := F) (Ix := Ix) (Name := Name) (U := U) (Lvl := Lvl) (pr := .scVector c s) (s := S80x512) (e := .f32) (dd := ![16])
    defs 𝒱 d bd E cntM ![v.1, cols] (k0_pay136 (F := F)) (sel bnd v.1) v.2 (View.loadsAt_vmem h_S80x512) pickR pickR_stores pick_same
    cntA.view.set cntB.view.set half_disjoint half_union f (added bnd v f) f e1 rfl e2 (added bnd v f) e3 e4 k Q
  have e : (narrowSt (F := F) (c := c) (s := s) bnd v) = partStoreIdx (F := F) (pr := .scVector c s) (s := S80x512) (e := .f32) (d := ![16]) cntM
      ![v.1, cols] (k0_pay136 (F := F)) (sel bnd v.1) v.2 (View.loadsAt_vmem h_S80x512) pickR pickR_stores := by
    with_reducible unfold narrowSt
    with_reducible rfl
  rw [← e] at key
  exact key

/-! ## The trips -/

theorem wp_trip2 {q : PosShare TreeShare} {ix : Vec F S60x512 .i32} (hix : ∀ j, (ix j : BitVec 32).toNat < 80) (t : Fin k0_t2_loop.trips) (u : Unit) :
    iprop(idxPts d c s q ix ∗ cntPts d c s (upTo t.val ix)) ⊢ wp (M := 𝕄) frame (wpE defs 𝒱 (V d c s) bd) E (trip2 t u)
      fun _ => iprop(idxPts d c s q ix ∗ cntPts d c s (upTo (t.val + 1) ix)) := by
  have ht : t.val < 16 := t.isLt
  have h := wp_chunks (F := F) (Ix := Ix) (Name := Name) (U := U) (Lvl := Lvl) defs 𝒱 d c s bd E (word2 t) (cols2 t) (inb := inb2 t) (q := q) (ix := ix) (chk_of (word2 t) (by omega) (inb2 t) (cols2 t) ix hix)
    (cntPts d c s) (wholeSt cntM) (fun bnd v f k Q => wp_whole defs 𝒱 d c s bd E bnd v f k Q) runs (upTo t.val ix)
  rw [grouped_upTo] at h
  exact h

theorem wp_chunks_narrow {a : BitVec 32} {g : ℕ} (ha : (Scalar.indexCast (Scalar.muli a 16#32)).toNat = 16 * g) {cols : IVec S16 32} (hg : ColsOf g cols)
    (h16 : 16 ≤ g) (h32 : g < 32) (inb : ∀ r : Fin 60, ∀ ax, rowOff r.val a ax + S1x16.size ax ≤ S60x512.size ax)
    {q : PosShare TreeShare} {ix : Vec F S60x512 .i32} (hix : ∀ j, (ix j : BitVec 32).toNat < 80) :
    iprop(idxPts d c s q ix ∗ halfPts d c s (upTo g ix)) ⊢ wp (M := 𝕄) frame (wpE defs 𝒱 (V d c s) bd) E (chunks idxM a cols inb narrowSt runs)
      fun _ => iprop(idxPts d c s q ix ∗ halfPts d c s (upTo (g + 1) ix)) := by
  have h := wp_chunks (F := F) (Ix := Ix) (Name := Name) (U := U) (Lvl := Lvl) defs 𝒱 d c s bd E ha hg (inb := inb) (q := q) (ix := ix)
    (chk_of ha h32 inb hg ix hix)
    (halfPts d c s) narrowSt (fun bnd v f k Q => wp_narrow defs 𝒱 d c s bd E hg h16 bnd v f k Q) runs (upTo g ix)
  rw [grouped_upTo] at h
  exact h

theorem trip3_eq (t : Fin k0_t3_loop.trips) (u : Unit) : (trip3 (F := F) (c := c) (s := s) t u) = chunks idxM (Scf.iv 16#32 1#32 t) (k0_pay68 lanes 16#32 1#32 t) (inb3 t) narrowSt runs := rfl

theorem wp_trip3 {q : PosShare TreeShare} {ix : Vec F S60x512 .i32} (hix : ∀ j, (ix j : BitVec 32).toNat < 80) (t : Fin k0_t3_loop.trips) (u : Unit) (n n' : ℕ)
    (hn : 16 + t.val = n) (hn' : n + 1 = n') :
    iprop(idxPts d c s q ix ∗ halfPts d c s (upTo n ix)) ⊢ wp (M := 𝕄) frame (wpE defs 𝒱 (V d c s) bd) E (trip3 t u)
      fun _ => iprop(idxPts d c s q ix ∗ halfPts d c s (upTo n' ix)) := by
  have ht : t.val < 16 := t.isLt
  have hw := word3 t
  have hc := cols3 t
  rw [hn] at hw hc
  subst hn'
  rw [trip3_eq]
  have h16 : 16 ≤ n := by omega
  have h32 : n < 32 := by omega
  clear hn ht
  generalize hI : inb3 t = I
  clear hI
  generalize k0_pay68 lanes 16#32 1#32 t = cols at *
  generalize Scf.iv 16#32 1#32 t = a at *
  exact wp_chunks_narrow defs 𝒱 d c s bd E hw hc h16 h32 I hix

/-- The words that are written over a row's piece are zero. -/
theorem zero_piece (x : S1x16.Idx) : shapeCast S1x16 (k0_pay135 (F := F)) shapeCasts_S16_S1x16 x = Scalar.ofBits .f32 0x00000000#32 := rfl

theorem zOff_row (t : Fin k0_t1_loop.trips) : (Scalar.indexCast (Scf.iv 0#32 1#32 t)).toNat = t.val := by
  revert t; decide +kernel

/-- The contents are zero at the elements that `C` describes. -/
def ZeroOn (C : S80x512.Idx → Prop) (f : Vec F S80x512 .f32) : Prop := ∀ j, C j → f j = Scalar.ofBits .f32 0x00000000#32

theorem zeroOn_write {C : S80x512.Idx → Prop} {f : Vec F S80x512 .f32} (t : Fin k0_t1_loop.trips) (p : Fin 32)
    (h : ZeroOn C f) : ZeroOn (fun j => C j ∨ ((j 0).val = t.val ∧ (j 1).val / 16 = p.val))
      ((cntM.access (Rect.unit (s := S80x512) (zOff t p.val) S1x16.size (inb1 t p))).write (Elt F) f
        (shapeCast S1x16 (k0_pay135 (F := F)) shapeCasts_S16_S1x16) Finset.univ) := by
  intro j hj
  rcases write_or (cntM.access (Rect.unit (s := S80x512) (zOff t p.val) S1x16.size (inb1 t p))) f
    (shapeCast S1x16 (k0_pay135 (F := F)) shapeCasts_S16_S1x16) j with ⟨x, -, hw⟩ | ⟨hn, hw⟩
  · rw [hw]; exact zero_piece x
  · rw [hw]
    rcases hj with hj | ⟨h0, h1⟩
    · exact h j hj
    · refine absurd ?_ hn
      have hs : (cntM.access (Rect.unit (s := S80x512) (zOff t p.val) S1x16.size (inb1 t p))).set = _ := View.set_slice_whole cc0_scratch1 _
      rw [hs, Rect.mem_set_unit]
      intro a
      match a with
      | ⟨0, _⟩ =>
        show (Scalar.indexCast (Scf.iv 0#32 1#32 t)).toNat ≤ (j 0).val ∧ (j 0).val < (Scalar.indexCast (Scf.iv 0#32 1#32 t)).toNat + 1
        rw [zOff_row]; omega
      | ⟨1, _⟩ =>
        show 16 * p.val ≤ (j 1).val ∧ (j 1).val < 16 * p.val + 16
        omega

/-- Elements whose row is `t` and whose piece is among `js`. -/
def InPieces (t : ℕ) (js : List (Fin 32)) (j : S80x512.Idx) : Prop := (j 0).val = t ∧ ∃ p ∈ js, (j 1).val / 16 = p.val

theorem wp_zeros (t : Fin k0_t1_loop.trips) (js : List (Fin 32)) (C : S80x512.Idx → Prop) (f : Vec F S80x512 .f32) (hf : ZeroOn C f)
    {Q : Unit → sProp 𝕄} :
    cntPts d c s f ⊢ iprop((∀ f', ⌜ZeroOn (fun j => C j ∨ InPieces t.val js j) f'⌝ -∗ cntPts d c s f' -∗ Q ())
      -∗ wp frame (wpE defs 𝒱 (V d c s) bd) E (zeros cntM t (inb1 t) js) Q) := by
  induction js generalizing C f with
  | nil =>
    unfold zeros
    rw [wp_ret]
    iintro H Hk
    imodintro
    iapply Hk $$ %f [] H
    ipureintro
    rintro j (h | ⟨-, p, hp, -⟩)
    · exact hf j h
    · exact absurd hp List.not_mem_nil
  | cons p ps ih =>
    unfold zeros
    iintro H Hk
    iapply (wp_load 𝒱 (V d c s) bd E (m := cntM) (S := Finset.univ) (Finset.subset_univ _)) $$ H
    iintro H
    iapply (wp_store 𝒱 (V d c s) bd E (m := cntM) (r := Rect.unit (s := S80x512) (zOff t p.val) S1x16.size (inb1 t p)) (Mk := Finset.univ)
      (S := Finset.univ) (Finset.subset_univ _)) $$ H
    iintro H
    iapply (ih _ _ (zeroOn_write t p hf)) $$ H
    iintro %f' %hf' H
    iapply Hk $$ %f' [] H
    ipureintro
    rintro j (h | ⟨h0, p', hp', h1⟩)
    · exact hf' j (.inl (.inl h))
    · rcases List.mem_cons.mp hp' with rfl | hp'
      · exact hf' j (.inl (.inr ⟨h0, h1⟩))
      · exact hf' j (.inr ⟨h0, p', hp', h1⟩)

/-- The counts whose first `n` rows are cleared. -/
def clearedPts (n : ℕ) : sProp 𝕄 := iprop(∃ f, ⌜ZeroOn (fun j => (j 0).val < n) f⌝ ∗ cntPts d c s f)

theorem mem_pieces (p : Fin 32) : p ∈ pieces := by revert p; decide

theorem wp_trip1 (t : Fin k0_t1_loop.trips) (u : Unit) :
    clearedPts d c s t.val ⊢ wp (M := 𝕄) frame (wpE defs 𝒱 (V d c s) bd) E (trip1 t u) fun _ => clearedPts d c s (t.val + 1) := by
  unfold clearedPts trip1
  iintro ⟨%f, %hf, H⟩
  iapply (wp_zeros defs 𝒱 d c s bd E t pieces _ f hf) $$ H
  iintro %f' %hf' H
  iexists f'
  isplitr
  · ipureintro
    intro j hj
    by_cases h : (j 0).val < t.val
    · exact hf' j (.inl h)
    · have hj' : (j 0).val < t.val + 1 := hj
      have h1 : (j 1).val < 512 := (j 1).isLt
      exact hf' j (.inr ⟨by omega, ⟨(j 1).val / 16, by omega⟩, mem_pieces _, rfl⟩)
  · iexact H

theorem cleared_all (ix : Vec F S60x512 .i32) : clearedPts d c s 80 ⊢ (cntPts d c s (upTo 0 ix) : sProp 𝕄) := by
  unfold clearedPts
  iintro ⟨%f, %hf, H⟩
  have e : f = upTo 0 ix := by
    funext j
    unfold upTo
    rw [if_neg (by omega)]
    exact hf j (j 0).isLt
  rw [← e]
  iexact H

end trips

end Cert.Hist
-- ==== Proof.Columns.lean ====
/-
  Which columns a tile has, and what it leaves there: of the words it stages its own 512 columns, of the counts it fills the
  same 512 columns, in two copies of 256, each column at the tallies of the sixty words above it.
-/
module

public import proofs.«01_k».proof.Proof.Trips

@[expose] public section

noncomputable section

namespace Cert.Hist

open Idealize.ShloMosaic Idealize.SL.Sem
open Cert.KernelIdeal Cert.KernelIdeal.Gen
open Idealize.ShloMosaic.ValueIdx (ix1 ix2)

variable {F : FTy → Type} [FloatOps F]

/-- A tile's first column. -/
def base (i : grid0.Coords) : ℕ := ((i 1).val * 2 + (i 0).val) * 512

theorem base_le (i : grid0.Coords) : base i + 512 ≤ 16384 := by
  have h0 : (i 0).val < 2 := (i 0).isLt
  have h1 : (i 1).val < 16 := (i 1).isLt
  unfold base; omega

theorem tileC_eta (i : grid0.Coords) : tileC (i 0) (i 1) = i := by
  funext a
  match a with
  | 0 => rfl
  | 1 => rfl

theorem off1_at : ∀ (c : Fin (grid0.bound 0)) (s : Fin (grid0.bound 1)), k0_off1 (tileC c s) = ![0, (s.val * 2 + c.val) * 512] := by decide +kernel
theorem off94_at : ∀ (c : Fin (grid0.bound 0)) (s : Fin (grid0.bound 1)), k0_off94 (tileC c s) = ![0, (s.val * 2 + c.val) * 512] := by decide +kernel
theorem off155_at : ∀ (c : Fin (grid0.bound 0)) (s : Fin (grid0.bound 1)), k0_off155 (tileC c s) = ![0, (s.val * 2 + c.val) * 512 + 256] := by decide +kernel

theorem off1_eq (i : grid0.Coords) : k0_off1 i = ![0, base i] := by
  have h := off1_at (i 0) (i 1); rwa [tileC_eta] at h
theorem off94_eq (i : grid0.Coords) : k0_off94 i = ![0, base i] := by
  have h := off94_at (i 0) (i 1); rwa [tileC_eta] at h
theorem off155_eq (i : grid0.Coords) : k0_off155 i = ![0, base i + 256] := by
  have h := off155_at (i 0) (i 1); rwa [tileC_eta] at h

/-! ## The elements of the slices -/

theorem mem_idxS (i : grid0.Coords) (j : S60x16384.Idx) : j ∈ (idxS i).view.set ↔ base i ≤ (j 1).val ∧ (j 1).val < base i + 512 := by
  have h : (idxS i).view.set = _ := View.set_slice_whole main_v7_scv _
  rw [h, Rect.mem_set_unit, off1_eq]
  have h0 : (j 0).val < 60 := (j 0).isLt
  constructor
  · intro h; exact h 1
  · intro h a
    match a with
    | ⟨0, _⟩ => exact ⟨Nat.zero_le _, by show (j 0).val < 0 + 60; omega⟩
    | ⟨1, _⟩ => exact h
theorem mem_outA (i : grid0.Coords) (j : S80x16384.Idx) : j ∈ (outA i).view.set ↔ base i ≤ (j 1).val ∧ (j 1).val < base i + 256 := by
  have h : (outA i).view.set = _ := View.set_slice_whole main_v8_scv _
  rw [h, Rect.mem_set_unit, off94_eq]
  have h0 : (j 0).val < 80 := (j 0).isLt
  constructor
  · intro h; exact h 1
  · intro h a
    match a with
    | ⟨0, _⟩ => exact ⟨Nat.zero_le _, by show (j 0).val < 0 + 80; omega⟩
    | ⟨1, _⟩ => exact h
theorem mem_outB (i : grid0.Coords) (j : S80x16384.Idx) : j ∈ (outB i).view.set ↔ base i + 256 ≤ (j 1).val ∧ (j 1).val < base i + 256 + 256 := by
  have h : (outB i).view.set = _ := View.set_slice_whole main_v8_scv _
  rw [h, Rect.mem_set_unit, off155_eq]
  have h0 : (j 0).val < 80 := (j 0).isLt
  constructor
  · intro h; exact h 1
  · intro h a
    match a with
    | ⟨0, _⟩ => exact ⟨Nat.zero_le _, by show (j 0).val < 0 + 80; omega⟩
    | ⟨1, _⟩ => exact h

/-! ## The staged words -/

/-- The counts of every column. -/
def histOf (I : Vec F S60x16384 .i32) : Vec F S80x16384 .f32 := fun j => tally (fun r => I (ix2 r (j 1))) (j 0).val

/-- What a tile stages. -/
def staged (i : grid0.Coords) (I : Vec F S60x16384 .i32) : Vec F S60x512 .i32 := (idxS i).view.read (Elt F) I

theorem staged_apply (i : grid0.Coords) (I : Vec F S60x16384 .i32) (j : S60x512.Idx) (k : S60x16384.Idx) (h0 : (k 0).val = (j 0).val)
    (h1 : (k 1).val = base i + (j 1).val) : staged i I j = I k := by
  unfold staged
  rw [View.read_apply]
  refine (cast_eq _ _).trans (congrArg I ?_)
  funext a
  apply Fin.ext
  match a with
  | ⟨0, _⟩ =>
    show k0_off1 i 0 + 1 * (j 0).val = (k 0).val
    rw [off1_eq, h0]; show 0 + 1 * (j 0).val = _; omega
  | ⟨1, _⟩ =>
    show k0_off1 i 1 + 1 * (j 1).val = (k 1).val
    rw [off1_eq, h1]; show base i + 1 * (j 1).val = _; omega

theorem staged_lt (i : grid0.Coords) (I : Vec F S60x16384 .i32) (hI : ∀ j, (I j : BitVec 32).toNat < 80) (j : S60x512.Idx) :
    (staged i I j : BitVec 32).toNat < 80 := by
  have hb := base_le i
  have h1 : (j 1).val < 512 := (j 1).isLt
  rw [staged_apply i I j (ix2 (j 0) ⟨base i + (j 1).val, by omega⟩) rfl rfl]
  exact hI _

theorem upTo_staged (i : grid0.Coords) (I : Vec F S60x16384 .i32) (n : ℕ) (q : S80x512.Idx) (j : S80x16384.Idx) (h0 : (j 0).val = (q 0).val)
    (h1 : (j 1).val = base i + (q 1).val) (hn : (q 1).val < 16 * n) : upTo n (staged i I) q = histOf I j := by
  unfold upTo histOf
  rw [if_pos hn, h0]
  refine congrArg (fun w => tally w (q 0).val) ?_
  funext r
  exact staged_apply i I _ _ rfl h1

/-! ## The two copies out -/

theorem outA_holds (i : grid0.Coords) (I : Vec F S60x16384 .i32) (n : ℕ) (hn : 16 ≤ n) (f : Vec F S80x16384 .f32) (j : S80x16384.Idx) (hj : j ∈ (outA i).view.set) :
    (outA i).view.write (Elt F) f (cntA.view.read (Elt F) (upTo n (staged i I))) Finset.univ j = histOf I j := by
  obtain ⟨p, -, rfl⟩ := Finset.mem_map.mp hj
  rw [View.write_emb_of_mem (Val := Elt F) _ _ (Finset.mem_univ p), View.read_apply]
  refine (cast_eq _ _).trans ((cast_eq _ _).trans ?_)
  have hp : (p 1).val < 256 := (p 1).isLt
  refine upTo_staged i I n _ _ ?_ ?_ ?_
  · show k0_off94 i 0 + 1 * (p 0).val = 0 + 1 * (p 0).val
    rw [off94_eq]; rfl
  · show k0_off94 i 1 + 1 * (p 1).val = base i + (0 + 1 * (p 1).val)
    rw [off94_eq]; show base i + 1 * (p 1).val = _; omega
  · show 0 + 1 * (p 1).val < 16 * n
    omega

theorem outB_holds (i : grid0.Coords) (I : Vec F S60x16384 .i32) (n : ℕ) (hn : 32 ≤ n) (f : Vec F S80x16384 .f32) (j : S80x16384.Idx) (hj : j ∈ (outB i).view.set) :
    (outB i).view.write (Elt F) f (cntB.view.read (Elt F) (upTo n (staged i I))) Finset.univ j = histOf I j := by
  obtain ⟨p, -, rfl⟩ := Finset.mem_map.mp hj
  rw [View.write_emb_of_mem (Val := Elt F) _ _ (Finset.mem_univ p), View.read_apply]
  refine (cast_eq _ _).trans ((cast_eq _ _).trans ?_)
  have hp : (p 1).val < 256 := (p 1).isLt
  refine upTo_staged i I n _ _ ?_ ?_ ?_
  · show k0_off155 i 0 + 1 * (p 0).val = 0 + 1 * (p 0).val
    rw [off155_eq]; rfl
  · show k0_off155 i 1 + 1 * (p 1).val = base i + (256 + 1 * (p 1).val)
    rw [off155_eq]; show base i + 256 + 1 * (p 1).val = _; omega
  · show 256 + 1 * (p 1).val < 16 * n
    omega

theorem idx_lands (f : Vec F S60x512 .i32) (i : grid0.Coords) (I : Vec F S60x16384 .i32) :
    idxM.view.write (Elt F) f ((idxS i).view.read (Elt F) I) Finset.univ = staged i I := View.write_whole_univ _ _ _

/-- Counts that agree on the first half up to group 16. -/
theorem upTo_low (ix : Vec F S60x512 .i32) (n m : ℕ) (hn : 16 ≤ n) (hm : 16 ≤ m) (j : S80x512.Idx) (hj : (j 1).val < 256) : upTo n ix j = upTo m ix j := by
  unfold upTo; rw [if_pos (by omega), if_pos (by omega)]

end Cert.Hist
-- ==== Proof.TileBody.lean ====
/-
  A tile's whole program: it stages its columns of the words, clears its counts meanwhile, counts the first half, sends it
  out, counts the second half while that copy is under way, sends that out, and waits for both.  The words come back as they
  were, and the tile's columns of the counts hold the tallies.
-/
module

public import proofs.«01_k».proof.Proof.Columns
public import Idealize.ShloMosaic.Lib.Transfers

@[expose] public section

noncomputable section

namespace Cert.Hist

open Idealize.ShloMosaic
open Idealize.ShloMosaic.SparseCore (S V T)
open Cert.KernelIdeal Cert.KernelIdeal.Gen
open Idealize.SL
open Idealize.SL.BI (sProp)
open scoped Idealize.SL.BI
open Idealize.SL.BI.BIBase Idealize.SL.BI.Laws Idealize.SL.Sem Idealize.SL.ProofMode
open Idealize.SL.RA
open Idealize.ShloMosaic.Transfers (Flight wp_dmaLocal wp_waitLocalO MayWaits)

variable {F : FTy → Type} [FloatOps F]
variable {Ix : Type} [DecidableEq Ix] {Name : Type} [DecidableEq Name] [Infinite Name] {U : Type} [URA U] {Lvl : Type} [Preorder Lvl]

local notation "𝕄" => MT nD τ sig Ix (Elt F) Name U Lvl

section tile

variable (defs : Defs nD τ sig (Elt F) Λ₀) (𝒱 : Variants) (d : Dev nD) (i : grid0.Coords) (bd : Option 𝒱.V)
variable (EC : UEmb Counters (MT nD τ sig Ix (Elt F) Name U Lvl)) [EC.LandsIn (upEmb : UEmb _ (MT nD τ sig Ix (Elt F) Name U Lvl))] (ι : Ix)

/-- The tile's thread. -/
abbrev thr : Thread nD τ := V d ((i 0).castLE hcore0) ((i 1).castLE hsub0)

/-- The tile's columns of the words, and its two pieces of the counts, in the chip's memory. -/
def srcPts (I : Vec F S60x16384 .i32) : sProp 𝕄 := (idxS i).view.loc (thr d i) ↦[(idxS i).view.set]{fullShare} I
def outPtsA (f : Vec F S80x16384 .f32) : sProp 𝕄 := (outA i).view.loc (thr d i) ↦[(outA i).view.set]{fullShare} f
def outPtsB (f : Vec F S80x16384 .f32) : sProp 𝕄 := (outB i).view.loc (thr d i) ↦[(outB i).view.set]{fullShare} f

/-- The halves of the tile's counts. -/
def halfA (q : PosShare TreeShare) (f : Vec F S80x512 .f32) : sProp 𝕄 := cntA.view.loc (thr d i) ↦[cntA.view.set]{q} f
def halfB (f : Vec F S80x512 .f32) : sProp 𝕄 := cntB.view.loc (thr d i) ↦[cntB.view.set]{fullShare} f

theorem srcPts_def (I : Vec F S60x16384 .i32) : (srcPts d i I : sProp 𝕄) = ((idxS i).view.loc (thr d i) ↦[(idxS i).view.set]{fullShare} I) := rfl

abbrev cnt (f : Vec F S80x512 .f32) : sProp 𝕄 := cntPts d ((i 0).castLE hcore0) ((i 1).castLE hsub0) f
abbrev idx (ix : Vec F S60x512 .i32) : sProp 𝕄 := idxPts d ((i 0).castLE hcore0) ((i 1).castLE hsub0) fullShare ix
abbrev halves (f : Vec F S80x512 .f32) : sProp 𝕄 := halfPts d ((i 0).castLE hcore0) ((i 1).castLE hsub0) f

variable {d i EC ι}

theorem wp_stage (I : Vec F S60x16384 .i32) (f : Vec F S60x512 .i32)
    (k : PUnit → Prog (TpuEff nD τ sig (Elt F) Λ₀ (.scVector ((i 0).castLE hcore0) ((i 1).castLE hsub0))) PUnit) (Q : PUnit → sProp 𝕄) :
    iprop(srcPts d i I ∗ idx d i f ∗ semVal (thr d i, SemLoc.dma cc0_scratch2.sem) 0)
      ⊢ iprop((Flight EC (thr d i) (.dma cc0_scratch2.sem) ι (idxM.view.amount (.dma cc0_scratch2.sem)) iprop(idx d i (staged i I) ∗ srcPts d i I)
            -∗ wp frame (wpE defs 𝒱 (thr d i) bd) Set.univ (k ⟨⟩) Q)
          -∗ wp frame (wpE defs 𝒱 (thr d i) bd) Set.univ
            (Prog.lift (.enqueueDma (idxS i) (.here idxM) (.dma cc0_scratch2.sem) (View.wordExact_bits rfl) (Memref.isWhole_whole cc0_scratch0).wordExact ⟨Or.inl rfl, trivial⟩) >>= k) Q) := by
  have h := wp_dmaLocal (defs := defs) (Q := Q) EC 𝒱 (thr d i) bd (src := idxS i) (via := .same) (dst := idxM) (sm := .dma cc0_scratch2.sem)
    (hsrc := View.wordExact_bits rfl) (hdst := (Memref.isWhole_whole cc0_scratch0).wordExact) (hsem := ⟨Or.inl rfl, trivial⟩) (k := k)
    (q := fullShare) (fs := I) (Sd := Finset.univ) (fd := f) ι _ rfl (View.amount_pos _ _ (show 0 < S60x512.numel by decide)) (Finset.subset_univ _)
  have e : idxM.view.write (Elt F) f (ReadAs.same.apply ((idxS i).view.read (Elt F) I)) Finset.univ = staged i I := idx_lands f i I
  rw [e] at h
  exact h

theorem wp_sendA (g : Vec F S80x512 .f32) (f : Vec F S80x16384 .f32)
    (k : PUnit → Prog (TpuEff nD τ sig (Elt F) Λ₀ (.scVector ((i 0).castLE hcore0) ((i 1).castLE hsub0))) PUnit) (Q : PUnit → sProp 𝕄) :
    iprop(halfA d i fullShare.right g ∗ outPtsA d i f ∗ semVal (thr d i, SemLoc.dma cc0_scratch3.sem) 0)
      ⊢ iprop((Flight EC (thr d i) (.dma cc0_scratch3.sem) ι ((outA i).view.amount (.dma cc0_scratch3.sem))
              iprop(outPtsA d i ((outA i).view.write (Elt F) f (cntA.view.read (Elt F) g) Finset.univ) ∗ halfA d i fullShare.right g)
            -∗ wp frame (wpE defs 𝒱 (thr d i) bd) Set.univ (k ⟨⟩) Q)
          -∗ wp frame (wpE defs 𝒱 (thr d i) bd) Set.univ
            (Prog.lift (.enqueueDma cntA (.here (outA i)) (.dma cc0_scratch3.sem) (View.wordExact_bits rfl) (View.wordExact_bits rfl) ⟨Or.inl rfl, trivial⟩) >>= k) Q) :=
  wp_dmaLocal (defs := defs) (Q := Q) EC 𝒱 (thr d i) bd (src := cntA) (via := .same) (dst := outA i) (sm := .dma cc0_scratch3.sem)
    (hsrc := View.wordExact_bits rfl) (hdst := View.wordExact_bits rfl) (hsem := ⟨Or.inl rfl, trivial⟩) (k := k)
    (q := fullShare.right) (fs := g) (Sd := (outA i).view.set) (fd := f) ι _ rfl (View.amount_pos _ _ (show 0 < S80x256.numel by decide)) (Finset.Subset.refl _)

theorem wp_sendB (g : Vec F S80x512 .f32) (f : Vec F S80x16384 .f32)
    (k : PUnit → Prog (TpuEff nD τ sig (Elt F) Λ₀ (.scVector ((i 0).castLE hcore0) ((i 1).castLE hsub0))) PUnit) (Q : PUnit → sProp 𝕄) :
    iprop(halfB d i g ∗ outPtsB d i f ∗ semVal (thr d i, SemLoc.dma cc0_scratch4.sem) 0)
      ⊢ iprop((Flight EC (thr d i) (.dma cc0_scratch4.sem) ι ((outB i).view.amount (.dma cc0_scratch4.sem))
              iprop(outPtsB d i ((outB i).view.write (Elt F) f (cntB.view.read (Elt F) g) Finset.univ) ∗ halfB d i g)
            -∗ wp frame (wpE defs 𝒱 (thr d i) bd) Set.univ (k ⟨⟩) Q)
          -∗ wp frame (wpE defs 𝒱 (thr d i) bd) Set.univ
            (Prog.lift (.enqueueDma cntB (.here (outB i)) (.dma cc0_scratch4.sem) (View.wordExact_bits rfl) (View.wordExact_bits rfl) ⟨Or.inl rfl, trivial⟩) >>= k) Q) :=
  wp_dmaLocal (defs := defs) (Q := Q) EC 𝒱 (thr d i) bd (src := cntB) (via := .same) (dst := outB i) (sm := .dma cc0_scratch4.sem)
    (hsrc := View.wordExact_bits rfl) (hdst := View.wordExact_bits rfl) (hsem := ⟨Or.inl rfl, trivial⟩) (k := k)
    (q := fullShare) (fs := g) (Sd := (outB i).view.set) (fd := f) ι _ rfl (View.amount_pos _ _ (show 0 < S80x256.numel by decide)) (Finset.Subset.refl _)

theorem outA_done (I : Vec F S60x16384 .i32) (n : ℕ) (hn : 16 ≤ n) (f : Vec F S80x16384 .f32) :
    (outPtsA d i ((outA i).view.write (Elt F) f (cntA.view.read (Elt F) (upTo n (staged i I))) Finset.univ) : sProp 𝕄) = outPtsA d i (histOf I) :=
  pointsTo_congr fun j hj => outA_holds i I n hn f j hj
theorem outB_done (I : Vec F S60x16384 .i32) (n : ℕ) (hn : 32 ≤ n) (f : Vec F S80x16384 .f32) :
    (outPtsB d i ((outB i).view.write (Elt F) f (cntB.view.read (Elt F) (upTo n (staged i I))) Finset.univ) : sProp 𝕄) = outPtsB d i (histOf I) :=
  pointsTo_congr fun j hj => outB_holds i I n hn f j hj

/-- The counts are their two halves, the first one's share in two. -/
theorem cnt_split (f : Vec F S80x512 .f32) : (cnt d i f : sProp 𝕄) ⊢ iprop(halves d i f ∗ halfA d i fullShare.right f) := by
  unfold cnt halves cntPts halfPts halfA
  rw [show (Finset.univ : Finset S80x512.Idx) = cntA.view.set ∪ cntB.view.set from half_union.symm]
  iintro H
  ihave H := (pointsTo_union half_disjoint).1 $$ H
  icases H with ⟨HA, HB⟩
  ihave HA := (pointsTo_share (PosShare.mem_left_op_right fullShare)).1 $$ HA
  icases HA with ⟨HL, HR⟩
  isplitl [HL HB]
  · isplitl [HL]
    · iexact HL
    · iexact HB
  · iexact HR

theorem cnt_join (f : Vec F S80x512 .f32) :
    iprop(halfA d i fullShare.left f ∗ halfA d i fullShare.right f ∗ halfB d i f) ⊢ (cnt d i f : sProp 𝕄) := by
  unfold cnt cntPts halfA halfB
  rw [show (Finset.univ : Finset S80x512.Idx) = cntA.view.set ∪ cntB.view.set from half_union.symm]
  iintro ⟨HL, HR, HB⟩
  iapply (pointsTo_union half_disjoint).2
  isplitl [HL HR]
  · iapply (pointsTo_share (PosShare.mem_left_op_right fullShare)).2
    isplitl [HL]
    · iexact HL
    · iexact HR
  · iexact HB

theorem halfA_low (q : PosShare TreeShare) (ix : Vec F S60x512 .i32) (n m : ℕ) (hn : 16 ≤ n) (hm : 16 ≤ m) :
    (halfA d i q (upTo n ix) : sProp 𝕄) = halfA d i q (upTo m ix) :=
  pointsTo_congr fun j hj => upTo_low ix n m hn hm j ((mem_cntA j).mp hj)

/-- What the first copy out will deliver. -/
abbrev sentA (I : Vec F S60x16384 .i32) : sProp 𝕄 := iprop(outPtsA d i (histOf I) ∗ halfA d i fullShare.right (upTo 16 (staged i I)))
abbrev sentB (I : Vec F S60x16384 .i32) : sProp 𝕄 := iprop(outPtsB d i (histOf I) ∗ halfB d i (upTo 32 (staged i I)))

theorem trips_clear : Scf.trips k0_t1_loop.lb k0_t1_loop.ub k0_t1_loop.st = 80 := by decide
theorem trips_first : Scf.trips k0_t2_loop.lb k0_t2_loop.ub k0_t2_loop.st = 16 := by decide
theorem trips_second : Scf.trips k0_t3_loop.lb k0_t3_loop.ub k0_t3_loop.st = 16 := by decide

/-- Staging, clearing and counting: at the end the second half is counted, and the first is on its way. -/
theorem wp_narrow27 (I : Vec F S60x16384 .i32) (hI : ∀ j, (I j : BitVec 32).toNat < 80) (O : CellTallies nD τ sig Ix) (W : Waits sig Ix) :
    iprop(MayWaits (thr d i) ι O ∗ srcPts d i I ∗ (∃ f, outPtsA d i f) ∗ (∃ f, idx d i f) ∗ (∃ f, cnt d i f)
        ∗ semVal (thr d i, SemLoc.dma cc0_scratch2.sem) 0 ∗ semVal (thr d i, SemLoc.dma cc0_scratch3.sem) 0 ∗ owes (thr d i) O W)
      ⊢ wp frame (wpE defs 𝒱 (thr d i) bd) Set.univ (narrow27 (F := F) i) fun _ =>
        iprop(srcPts d i I ∗ idx d i (staged i I) ∗ halves d i (upTo 32 (staged i I))
          ∗ Flight EC (thr d i) (.dma cc0_scratch3.sem) ι ((outA i).view.amount (.dma cc0_scratch3.sem)) (sentA (d := d) (i := i) I)
          ∗ semVal (thr d i, SemLoc.dma cc0_scratch2.sem) 0 ∗ owes (thr d i) O (insert (SemLoc.dma cc0_scratch2.sem, ι) W)) := by
  have hix := staged_lt i I hI
  unfold narrow27
  iintro ⟨#Hmw, Hsrc, ⟨%fo, Ho⟩, ⟨%fi, Hi⟩, ⟨%fc, Hc⟩, Hs2, Hs3, HO⟩
  iapply (wp_stage (EC := EC) (ι := ι) defs 𝒱 bd I fi) $$ [Hsrc Hi Hs2]
  · isplitl [Hsrc]; · iexact Hsrc
    isplitl [Hi]; · iexact Hi
    iexact Hs2
  iintro Hfl
  iapply (Scf.wp_for_bind _ _ _ _ _ _ _ _ _ (fun n _ => clearedPts d ((i 0).castLE hcore0) ((i 1).castLE hsub0) n)
    (fun t u => wp_trip1 defs 𝒱 d _ _ bd Set.univ t u)) $$ [Hc]
  · unfold clearedPts
    iexists fc
    isplitr
    · ipureintro; intro j hj; exact absurd hj (Nat.not_lt_zero _)
    · iexact Hc
  iintro %_ Hc
  rw [trips_clear]
  ihave Hc := (cleared_all d _ _ (staged i I)) $$ Hc
  ihave Hmw2 := (MayWaits.elim (.dma cc0_scratch2.sem)) $$ Hmw
  iapply (wp_waitLocalO (defs := defs) EC 𝒱 (thr d i) bd (sem := cc0_scratch2.sem) (srcw := idxS i) (dstw := idxM) ι rfl) $$ [Hfl HO Hmw2]
  · isplitl [Hfl]; · iexact Hfl
    isplitl [HO]; · iexact HO
    iexact Hmw2
  iintro ⟨⟨Hi, Hsrc⟩, Hs2, HO⟩
  iapply (Scf.wp_for_bind _ _ _ _ _ _ _ _ _ (fun n _ => iprop(idx d i (staged i I) ∗ cnt d i (upTo n (staged i I))))
    (fun t u => wp_trip2 defs 𝒱 d _ _ bd Set.univ hix t u)) $$ [Hi Hc]
  · isplitl [Hi]; · iexact Hi
    iexact Hc
  iintro %_ ⟨Hi, Hc⟩
  rw [trips_first]
  ihave Hc := (cnt_split (upTo 16 (staged i I))) $$ Hc
  icases Hc with ⟨Hh, Hr⟩
  iapply (wp_sendA (EC := EC) (ι := ι) defs 𝒱 bd (upTo 16 (staged i I)) fo) $$ [Hr Ho Hs3]
  · isplitl [Hr]; · iexact Hr
    isplitl [Ho]; · iexact Ho
    iexact Hs3
  iintro Hfl
  iapply (Scf.wp_for_bind _ _ _ _ _ _ _ _ _ (fun n _ => iprop(idx d i (staged i I) ∗ halves d i (upTo (16 + n) (staged i I))))
    (fun t u => wp_trip3 defs 𝒱 d _ _ bd Set.univ hix t u (16 + t.val) (16 + (t.val + 1)) rfl (by omega))) $$ [Hi Hh]
  · isplitl [Hi]; · iexact Hi
    iexact Hh
  iintro %_ ⟨Hi, Hh⟩
  rw [trips_second, Prog.pure_eq_ret, wp_ret, outA_done I 16 le_rfl]
  imodintro
  isplitl [Hsrc]; · iexact Hsrc
  isplitl [Hi]; · iexact Hi
  isplitl [Hh]; · iexact Hh
  isplitl [Hfl]; · iexact Hfl
  isplitl [Hs2]; · iexact Hs2
  iexact HO

theorem halves_eq (f : Vec F S80x512 .f32) : (halves d i f : sProp 𝕄) = iprop(halfA d i fullShare.left f ∗ halfB d i f) := rfl

theorem wp_done (Q : PUnit → sProp 𝕄) : Q ⟨⟩ ⊢ wp (M := 𝕄) frame (wpE defs 𝒱 (thr d i) bd) Set.univ ((Prog.ret PUnit.unit).bind fun _ => Prog.ret PUnit.unit) Q := by
  show _ ⊢ wp (M := 𝕄) frame (wpE defs 𝒱 (thr d i) bd) Set.univ (Prog.ret PUnit.unit) Q
  rw [wp_ret]
  iintro H; imodintro; iexact H

variable (EC ι)

include EC in
/-- The tile's whole program. -/
theorem wp_narrowBody (I : Vec F S60x16384 .i32) (hI : ∀ j, (I j : BitVec 32).toNat < 80) (O : CellTallies nD τ sig Ix) (W : Waits sig Ix) :
    iprop(MayWaits (thr d i) ι O ∗ (srcPts d i I ∗ (∃ f, outPtsA d i f) ∗ (∃ f, outPtsB d i f)) ∗ ((∃ f, idx d i f) ∗ (∃ f, cnt d i f))
        ∗ (semVal (thr d i, SemLoc.dma cc0_scratch2.sem) 0 ∗ semVal (thr d i, SemLoc.dma cc0_scratch3.sem) 0 ∗ semVal (thr d i, SemLoc.dma cc0_scratch4.sem) 0)
        ∗ owes (thr d i) O W)
      ⊢ wp (M := 𝕄) frame (wpE defs 𝒱 (thr d i) bd) Set.univ (narrowBody (F := F) i) fun _ =>
        iprop((srcPts d i I ∗ outPtsA d i (histOf I) ∗ outPtsB d i (histOf I)) ∗ ((∃ f, idx d i f) ∗ (∃ f, cnt d i f))
          ∗ (semVal (thr d i, SemLoc.dma cc0_scratch2.sem) 0 ∗ semVal (thr d i, SemLoc.dma cc0_scratch3.sem) 0 ∗ semVal (thr d i, SemLoc.dma cc0_scratch4.sem) 0)
          ∗ ∃ W', ⌜∀ p ∈ W', p ∈ W ∨ p.2 = ι⌝ ∗ owes (thr d i) O W') := by
  unfold narrowBody
  rw [wp_bind]
  iintro ⟨#Hmw, ⟨Hsrc, Ho, ⟨%fb, Hob⟩⟩, ⟨Hi, Hc⟩, ⟨Hs2, Hs3, Hs4⟩, HO⟩
  iapply (wp_wand_r (M := 𝕄) frame (wpE defs 𝒱 (thr d i) bd) Set.univ)
  isplitl [Hsrc Ho Hi Hc Hs2 Hs3 HO]
  · iapply (wp_narrow27 (EC := EC) (ι := ι) defs 𝒱 bd I hI O W)
    isplitr; · iexact Hmw
    isplitl [Hsrc]; · iexact Hsrc
    isplitl [Ho]; · iexact Ho
    isplitl [Hi]; · iexact Hi
    isplitl [Hc]; · iexact Hc
    isplitl [Hs2]; · iexact Hs2
    isplitl [Hs3]; · iexact Hs3
    iexact HO
  iintro %_ ⟨Hsrc, Hi, Hh, HflA, Hs2, HO⟩
  ihave Hh := (Entails.of_eq (halves_eq (d := d) (i := i) (upTo 32 (staged i I)))) $$ Hh
  icases Hh with ⟨HA, HB⟩
  iapply (wp_sendB (EC := EC) (ι := ι) defs 𝒱 bd (upTo 32 (staged i I)) fb) $$ [HB Hob Hs4]
  · isplitl [HB]; · iexact HB
    isplitl [Hob]; · iexact Hob
    iexact Hs4
  rw [outB_done I 32 le_rfl]
  iintro HflB
  ihave Hmw3 := (MayWaits.elim (.dma cc0_scratch3.sem)) $$ Hmw
  iapply (wp_waitLocalO (defs := defs) EC 𝒱 (thr d i) bd (sem := cc0_scratch3.sem) (srcw := cntA) (dstw := outA i) ι rfl) $$ [HflA HO Hmw3]
  · isplitl [HflA]; · iexact HflA
    isplitl [HO]; · iexact HO
    iexact Hmw3
  iintro ⟨⟨Ho, HR⟩, Hs3, HO⟩
  ihave Hmw4 := (MayWaits.elim (.dma cc0_scratch4.sem)) $$ Hmw
  iapply (wp_waitLocalO (defs := defs) EC 𝒱 (thr d i) bd (sem := cc0_scratch4.sem) (srcw := cntB) (dstw := outB i) ι rfl) $$ [HflB HO Hmw4]
  · isplitl [HflB]; · iexact HflB
    isplitl [HO]; · iexact HO
    iexact Hmw4
  iintro ⟨⟨Hob, HB⟩, Hs4, HO⟩
  ihave HR := (Entails.of_eq (halfA_low (d := d) (i := i) fullShare.right (staged i I) 16 32 le_rfl (by omega))) $$ HR
  iapply (wp_done (d := d) (i := i) defs 𝒱 bd _)
  isplitl [Hsrc Ho Hob]
  · isplitl [Hsrc]; · iexact Hsrc
    isplitl [Ho]; · iexact Ho
    iexact Hob
  isplitl [Hi HA HR HB]
  · isplitl [Hi]
    · iexists _; iexact Hi
    · iexists (upTo 32 (staged i I))
      iapply (cnt_join (upTo 32 (staged i I)))
      isplitl [HA]; · iexact HA
      isplitl [HR]; · iexact HR
      iexact HB
  isplitl [Hs2 Hs3 Hs4]
  · isplitl [Hs2]; · iexact Hs2
    isplitl [Hs3]; · iexact Hs3
    iexact Hs4
  iexists (insert (SemLoc.dma cc0_scratch4.sem, ι) (insert (SemLoc.dma cc0_scratch3.sem, ι) (insert (SemLoc.dma cc0_scratch2.sem, ι) W)))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end tile

end Cert.Hist
-- ==== Proof.Tiles.lean ====
/-
  The tiles as the launch sees them: the resource algebra (the handshakes, the pipeline's rounds, the copies' counters), what
  a tile is handed and yields back, and each tile's obligation from its program.
-/
module

public import proofs.«01_k».proof.Proof.TileBody
public import Idealize.ShloMosaic.Lib.SparseCore.Quiescent
public import Idealize.ShloMosaic.Lib.SparseCore.Ops
public import Idealize.ShloMosaic.Lib.StableHlo.Run
public import Idealize.ShloMosaic.Lib.Tactic

@[expose] public section

noncomputable section

namespace Cert.Hist

open Idealize.ShloMosaic
open Idealize.ShloMosaic.SparseCore (S V T)
open Idealize.ShloMosaic.SparseCore.Cfg (HIx Pay ownBufs ownSems0 ownCells ownRefs mem_ownCells mem_ownRefs)
open Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀'
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, and the pipeline's. -/
def EH : Emb UH (MT nD τ sig (HIx 1) (Elt F) ℕ UU ℕ) := embL
def EP : Emb UP (MT nD τ sig (HIx 1) (Elt F) ℕ UU ℕ) := (Emb.inl : Emb UP (UP × Counters)).trans embR
/-- The copies' counters. -/
abbrev EC : UEmb Counters (MT nD τ sig (HIx 1) (Elt F) ℕ UU ℕ) := countersEmb (U := UU)

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## What the tiles are handed -/

variable (I : Dev nD → Vec F S60x16384 .i32)

/-- A tile takes its columns of the words and its columns of the counts, whatever they hold; it gives back the words as
    they were and the counts' columns at the tallies. -/
def takes (d : Dev nD) (i : grid0.Coords) : sProp 𝕄 := iprop(srcPts d i (I d) ∗ (∃ f, outPtsA d i f) ∗ (∃ f, outPtsB d i f))
def yields (d : Dev nD) (i : grid0.Coords) : sProp 𝕄 := iprop(srcPts d i (I d) ∗ outPtsA d i (histOf (I d)) ∗ outPtsB d i (histOf (I d)))

instance takes_storable (d : Dev nD) (i : grid0.Coords) : BI.Storable (upEmb : UEmb _ 𝕄) (takes I d i) := by
  unfold takes srcPts outPtsA outPtsB; infer_instance
instance yields_storable (d : Dev nD) (i : grid0.Coords) : BI.Storable (upEmb : UEmb _ 𝕄) (yields I d i) := by
  unfold yields srcPts outPtsA outPtsB; infer_instance

abbrev nC : ℕ := grid0.bound 0
abbrev nT : ℕ := grid0.bound 1

def P : (K (F := F)).Pay (nD := nD) (Val := Elt F) (Name := ℕ) (U := UU) where
  st q d c := match q, c with | 0, c => bigSep Finset.univ fun s : Fin nT => takes I d (tileC c s)
  dn q d c := match q, c with | 0, c => bigSep Finset.univ fun s : Fin nT => yields I d (tileC c s)
  go q d c s := match q, c, s with | 0, c, s => takes I d (tileC c s)
  td q d c s := match q, c, s with | 0, c, s => yields I d (tileC c s)
  x _ _ := iprop(emp)

instance P_storable : (P (F := F) I).IsStorable where
  st q d c := match q, c with
    | 0, c => (inferInstance : BI.Storable (upEmb : UEmb _ 𝕄) (bigSep Finset.univ fun s : Fin nT => takes I d (tileC c s)))
  dn q d c := match q, c with
    | 0, c => (inferInstance : BI.Storable (upEmb : UEmb _ 𝕄) (bigSep Finset.univ fun s : Fin nT => yields I d (tileC c s)))
  go q d c s := match q, c, s with | 0, c, s => takes_storable I d (tileC c s)
  td q d c s := match q, c, s with | 0, c, s => yields_storable I d (tileC c s)

theorem vecSplit : (K (F := F)).VecSplit' (P I) 0 := by
  intro d c
  show (bigSep Finset.univ fun s : Fin nT => takes I d (tileC c s)) ⊢ |={Set.univ}=> iprop(
      (bigSep Finset.univ fun s : Fin nT => takes I d (tileC c s))
      ∗ ((bigSep Finset.univ fun s : Fin nT => yields I d (tileC c s)) -∗ bigSep Finset.univ fun s : Fin nT => yields I d (tileC c s)))
  iintro H; imodintro
  isplitl [H]; · iexact H
  iintro H; iexact H

/-! ## A tile's own semaphores and memory -/

section own

variable (d : Dev nD) (i : grid0.Coords)

/-- The semaphores of the tile's three copies. -/
abbrev cell2 : GSem nD τ sig := (thr d i, SemLoc.dma cc0_scratch2.sem)
abbrev cell3 : GSem nD τ sig := (thr d i, SemLoc.dma cc0_scratch3.sem)
abbrev cell4 : GSem nD τ sig := (thr d i, SemLoc.dma cc0_scratch4.sem)
abbrev restCells : Finset (GSem nD τ sig) := ((((ownCells (thr d i)).erase (cell2 d i)).erase (cell3 d i)).erase (cell4 d i))
abbrev p' : Proc τ := Proc.scVector ((i 0).castLE hcore0) ((i 1).castLE hsub0)
abbrev restRefs : Finset (DevRef τ sig) :=
  ((ownRefs (τ := τ) (p' i)).erase ((p' i).devRef cc0_scratch0)).erase ((p' i).devRef cc0_scratch1)

theorem sems_split :
    (ownSems0 (thr d i) : sProp 𝕄) = iprop(semVal (cell2 d i) 0 ∗ semVal (cell3 d i) 0 ∗ semVal (cell4 d i) 0 ∗ bigSep (restCells d i) fun g => semVal g 0) := by
  have own : ∀ s : DmaSem sig, (SemLoc.dma s : SemLoc sig).isScoped .scVector = true → ((thr d i, SemLoc.dma s) : GSem nD τ sig) ∈ ownCells (thr d i) :=
    fun s h => mem_ownCells.mpr ⟨rfl, h⟩
  have ne : ∀ s s' : DmaSem sig, s ≠ s' → ((thr d i, SemLoc.dma s) : GSem nD τ sig) ≠ (thr d i, SemLoc.dma s') :=
    fun s s' h e => h (SemLoc.dma.inj (Prod.mk.inj e).2)
  unfold SparseCore.Cfg.ownSems0
  rw [SparseCore.bigSep_erase' (own cc0_scratch2.sem (by decide)),
    SparseCore.bigSep_erase' (Finset.mem_erase.mpr ⟨ne cc0_scratch3.sem cc0_scratch2.sem (by decide), own cc0_scratch3.sem (by decide)⟩),
    SparseCore.bigSep_erase' (Finset.mem_erase.mpr ⟨ne cc0_scratch4.sem cc0_scratch3.sem (by decide),
      Finset.mem_erase.mpr ⟨ne cc0_scratch4.sem cc0_scratch2.sem (by decide), own cc0_scratch4.sem (by decide)⟩⟩)]

theorem bufs_split :
    (ownBufs (thr d i) : sProp 𝕄) = iprop((∃ f, idx d i f) ∗ (∃ f, cnt d i f) ∗ bigSep (restRefs i) fun b => iprop(∃ f, ((d, b) : Loc nD τ sig) ↦{fullShare} f)) := by
  have own0 : (p' i).devRef cc0_scratch0 ∈ ownRefs (τ := τ) (sig := sig) (p' i) := SparseCore.Cfg.mem_ownRefs_of_owner rfl
  have own1 : (p' i).devRef cc0_scratch1 ∈ ownRefs (τ := τ) (sig := sig) (p' i) := SparseCore.Cfg.mem_ownRefs_of_owner rfl
  unfold SparseCore.Cfg.ownBufs
  refine (SparseCore.bigSep_erase' own0).trans ?_
  rw [SparseCore.bigSep_erase' (Finset.mem_erase.mpr ⟨fun e => absurd (Proc.devRef_injective _ e) (show (cc0_scratch1 : Ref sig .scVector) ≠ cc0_scratch0 by decide), own1⟩)]
  rfl

/-- The tile's task: its program between what it takes and what it gives. -/
theorem tile_task (hI : ∀ j, (I d j : BitVec 32).toNat < 80) (O : CellTallies nD τ sig (HIx 1)) (W : Waits sig (HIx 1)) (hO : ∀ g, O g none = 0) :
    iprop(levAts (K (F := F)).L (K (F := F)).lev ∗ emp ∗ takes I d i ∗ scopedBufs (thr d i) ∗ scopedSems0 (thr d i) ∗ owes (thr d i) O W)
      ⊢ wp (M := 𝕄) frame (wpE (defs₀' (F := F)) 𝒱₀ (thr d i) none) Set.univ (narrowBody (F := F) i) fun _ =>
        iprop(yields I d i ∗ scopedBufs (thr d i) ∗ scopedSems0 (thr d i)
          ∗ ∃ W', ⌜∀ p ∈ W', p ∈ W ∨ p.2 = none ∨ p.2 = some 0⌝ ∗ owes (thr d i) O W') := by
  rw [(K (F := F)).scopedBufs_V facts d _ _, SparseCore.Cfg.scopedSems0_V (Val := Elt F) d _ _, sems_split, bufs_split]
  unfold takes yields
  iintro ⟨#Hlv, -, Ht, ⟨Hi, Hc, Hbufs⟩, ⟨Hs2, Hs3, Hs4, Hsems⟩, HO⟩
  iapply (wp_wand_r (M := 𝕄) frame (wpE (defs₀' (F := F)) 𝒱₀ (thr d i) none) Set.univ)
  isplitl [Ht Hi Hc Hs2 Hs3 Hs4 HO]
  · iapply (wp_narrowBody (d := d) (i := i) (defs₀' (F := F)) 𝒱₀ none EC none (I d) hI O W)
    isplitr; · iapply ((K (F := F)).mayWaits_none (thr := thr d i) hO); iexact Hlv
    isplitl [Ht]; · iexact Ht
    isplitl [Hi Hc]
    · isplitl [Hi]; · iexact Hi
      iexact Hc
    isplitl [Hs2 Hs3 Hs4]
    · isplitl [Hs2]; · iexact Hs2
      isplitl [Hs3]; · iexact Hs3
      iexact Hs4
    iexact HO
  iintro %_ ⟨Ht, ⟨Hi, Hc⟩, ⟨Hs2, Hs3, Hs4⟩, %W', %hW', HO⟩
  isplitl [Ht]; · iexact Ht
  isplitl [Hi Hc Hbufs]
  · isplitl [Hi]; · iexact Hi
    isplitl [Hc]; · iexact Hc
    iexact Hbufs
  isplitl [Hs2 Hs3 Hs4 Hsems]
  · isplitl [Hs2]; · iexact Hs2
    isplitl [Hs3]; · iexact Hs3
    isplitl [Hs4]; · iexact Hs4
    iexact Hsems
  iexists W'
  isplitr
  · ipureintro; exact fun p hp => (hW' p hp).imp_right Or.inl
  iexact HO

end own

theorem defs₀'_tile (c : Fin τ.nSC) (s : Fin τ.nSub) :
    defs₀' (F := F) (.scVector c s) 0 () = SparseCore.onTile hcore0 hsub0 (fun c s => narrowBody (tileC c s)) ⟨⟩ c s := rfl

set_option maxRecDepth 1024 in
theorem tileObl (hI : ∀ d j, (I d j : BitVec 32).toNat < 80) : (K (F := F)).TileObl (D (F := F)) 𝒱 (P I) v₀ 0 := by
  intro d c s O W hO _ _
  simp only [show (P I).ox = fun _ _ => 0 from rfl, add_zero]
  change _ ⊢ wp _ _ _ (Pipeline.liftProg (defs₀' (F := F) (.scVector ((K (F := F)).core 0 c) ((K (F := F)).sub 0 s)) 0 ())) _
  refine BI.Entails.trans ?_ (Pipeline.wp_liftProg (D (F := F)) (Pipeline.defs_kernel pcfgs defs₀') 𝒱₀ _ Set.univ none _ _)
  have hc : ((K (F := F)).core 0 c).val < grid0.bound 0 ∧ ((K (F := F)).sub 0 s).val < grid0.bound 1 := ⟨c.isLt, s.isLt⟩
  rw [defs₀'_tile]; simp only [SparseCore.onTile, hc, _root_.and_self, ↓reduceDIte]
  exact tile_task I d (tileC ⟨_, hc.1⟩ ⟨_, hc.2⟩) (hI d) O W hO

end Cert.Hist

end
-- ==== Proof.Split.lean ====
/-
  The words and the counts as the tiles' columns: each array held whole is its tiles' columns held one by one.
-/
module

public import proofs.«01_k».proof.Proof.Tiles

@[expose] public section

noncomputable section

namespace Cert.Hist

open Idealize.ShloMosaic
open Idealize.ShloMosaic.SparseCore (S V T)
open Idealize.ShloMosaic.SparseCore.Cfg (HIx)
open Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F]

local notation "𝕄" => MT nD τ sig (HIx 1) (Elt F) ℕ UU ℕ

/-- A tile's coordinates from its pair. -/
abbrev at' (p : Fin nC × Fin nT) : grid0.Coords := tileC p.1 p.2

theorem base_at (p : Fin nC × Fin nT) : base (at' p) = (p.2.val * 2 + p.1.val) * 512 := rfl

/-- Two tiles' first columns are a whole tile apart. -/
theorem base_apart {p q : Fin nC × Fin nT} (h : p ≠ q) : base (at' p) + 512 ≤ base (at' q) ∨ base (at' q) + 512 ≤ base (at' p) := by
  rw [base_at, base_at]
  have hp : p.1.val < 2 := p.1.isLt
  have hq : q.1.val < 2 := q.1.isLt
  by_contra hc
  refine h (Prod.ext (Fin.ext ?_) (Fin.ext ?_)) <;> omega

/-- Every column is in some tile's. -/
theorem base_cover (n : ℕ) (hn : n < 16384) : ∃ p : Fin nC × Fin nT, base (at' p) ≤ n ∧ n < base (at' p) + 512 := by
  refine ⟨(⟨n / 512 % 2, Nat.mod_lt _ (by decide)⟩, ⟨n / 512 / 2, ?_⟩), ?_⟩
  · show n / 512 / 2 < 16
    omega
  · rw [base_at]
    show (n / 512 / 2 * 2 + n / 512 % 2) * 512 ≤ n ∧ n < (n / 512 / 2 * 2 + n / 512 % 2) * 512 + 512
    omega

def setI (p : Fin nC × Fin nT) : Finset S60x16384.Idx := (idxS (at' p)).view.set
def setA (p : Fin nC × Fin nT) : Finset S80x16384.Idx := (outA (at' p)).view.set
def setB (p : Fin nC × Fin nT) : Finset S80x16384.Idx := (outB (at' p)).view.set
def setO (p : Fin nC × Fin nT) : Finset S80x16384.Idx := setA p ∪ setB p

theorem mem_setI (p : Fin nC × Fin nT) (j : S60x16384.Idx) : j ∈ setI p ↔ base (at' p) ≤ (j 1).val ∧ (j 1).val < base (at' p) + 512 := mem_idxS (at' p) j
theorem mem_setA (p : Fin nC × Fin nT) (j : S80x16384.Idx) : j ∈ setA p ↔ base (at' p) ≤ (j 1).val ∧ (j 1).val < base (at' p) + 256 := mem_outA (at' p) j
theorem mem_setB (p : Fin nC × Fin nT) (j : S80x16384.Idx) : j ∈ setB p ↔ base (at' p) + 256 ≤ (j 1).val ∧ (j 1).val < base (at' p) + 256 + 256 := mem_outB (at' p) j
theorem mem_setO (p : Fin nC × Fin nT) (j : S80x16384.Idx) : j ∈ setO p ↔ base (at' p) ≤ (j 1).val ∧ (j 1).val < base (at' p) + 512 := by
  unfold setO
  rw [Finset.mem_union, mem_setA, mem_setB]; omega

theorem setA_setB (p : Fin nC × Fin nT) : Disjoint (setA p) (setB p) :=
  Finset.disjoint_left.mpr fun j ha hb => by rw [mem_setA] at ha; rw [mem_setB] at hb; omega

theorem setI_disjoint : ∀ p ∈ (Finset.univ : Finset (Fin nC × Fin nT)), ∀ q ∈ (Finset.univ : Finset (Fin nC × Fin nT)), p ≠ q → Disjoint (setI p) (setI q) :=
  fun p _ q _ h => Finset.disjoint_left.mpr fun j hp hq => by
    rw [mem_setI] at hp hq; have := base_apart h; omega
theorem setO_disjoint : ∀ p ∈ (Finset.univ : Finset (Fin nC × Fin nT)), ∀ q ∈ (Finset.univ : Finset (Fin nC × Fin nT)), p ≠ q → Disjoint (setO p) (setO q) :=
  fun p _ q _ h => Finset.disjoint_left.mpr fun j hp hq => by
    rw [mem_setO] at hp hq; have := base_apart h; omega

theorem setI_cover : (Finset.univ : Finset (Fin nC × Fin nT)).biUnion setI = Finset.univ :=
  Finset.eq_univ_iff_forall.mpr fun j => by
    obtain ⟨p, hp⟩ := base_cover (j 1).val (j 1).isLt
    exact Finset.mem_biUnion.mpr ⟨p, Finset.mem_univ _, (mem_setI p j).mpr hp⟩
theorem setO_cover : (Finset.univ : Finset (Fin nC × Fin nT)).biUnion setO = Finset.univ :=
  Finset.eq_univ_iff_forall.mpr fun j => by
    obtain ⟨p, hp⟩ := base_cover (j 1).val (j 1).isLt
    exact Finset.mem_biUnion.mpr ⟨p, Finset.mem_univ _, (mem_setO p j).mpr hp⟩

abbrev wordsLoc (d : Dev nD) : Loc nD τ sig := (SparseCore.T d).loc main_v7
abbrev countsLoc (d : Dev nD) : Loc nD τ sig := (SparseCore.T d).loc main_v8

/-- A separating product over the tiles, core by core. -/
theorem bigSep_tiles (Φ : Fin nC × Fin nT → sProp 𝕄) :
    bigSep Finset.univ Φ = bigSep Finset.univ fun c : Fin nC => bigSep Finset.univ fun s : Fin nT => Φ (c, s) := by
  rw [← Finset.univ_product_univ]
  exact SparseCore.bigSep_product _ _ _

theorem words_tiles (d : Dev nD) (I : Vec F S60x16384 .i32) :
    (wordsLoc d ↦{fullShare} I : sProp 𝕄) = bigSep Finset.univ fun c : Fin nC => bigSep Finset.univ fun s : Fin nT => srcPts d (tileC c s) I := by
  have h := pointsTo_biUnion (Ix := HIx 1) (Val := Elt F) (Name := ℕ) (U := UU) (Lvl := ℕ) Finset.univ (ℓ := wordsLoc d) (q := fullShare) (f := I) setI setI_disjoint
  rw [setI_cover] at h
  exact h.trans (bigSep_tiles (F := F) fun p => srcPts d (at' p) I)

theorem counts_tiles (d : Dev nD) (f : Vec F S80x16384 .f32) :
    (countsLoc d ↦{fullShare} f : sProp 𝕄)
      = bigSep Finset.univ fun c : Fin nC => bigSep Finset.univ fun s : Fin nT => iprop(outPtsA d (tileC c s) f ∗ outPtsB d (tileC c s) f) := by
  have h := pointsTo_biUnion (Ix := HIx 1) (Val := Elt F) (Name := ℕ) (U := UU) (Lvl := ℕ) Finset.univ (ℓ := countsLoc d) (q := fullShare) (f := f) setO setO_disjoint
  rw [setO_cover] at h
  refine h.trans ((BI.bigSep_congr fun p _ => ?_).trans (bigSep_tiles (F := F) fun p => iprop(outPtsA d (at' p) f ∗ outPtsB d (at' p) f)))
  show (countsLoc d ↦[setA p ∪ setB p]{fullShare} f : sProp 𝕄) = iprop((countsLoc d ↦[setA p]{fullShare} f) ∗ countsLoc d ↦[setB p]{fullShare} f)
  have e := pointsTo_union (Ix := HIx 1) (Val := Elt F) (Name := ℕ) (U := UU) (Lvl := ℕ) (ℓ := countsLoc d) (q := fullShare) (f := f) (setA_setB p)
  exact BI.Entails.antisymm e.1 e.2

variable (I : Dev nD → Vec F S60x16384 .i32)

/-- What the call takes for its tiles: the words and the counts, whole. -/
theorem call_takes (d : Dev nD) (f : Vec F S80x16384 .f32) :
    iprop((wordsLoc d ↦{fullShare} I d) ∗ countsLoc d ↦{fullShare} f) ⊢ bigSep Finset.univ fun c : Fin ((K (F := F)).nCore 0) => (P I).st 0 d c := by
  show _ ⊢ (bigSep Finset.univ fun c : Fin nC => bigSep Finset.univ fun s : Fin nT => takes I d (tileC c s) : sProp 𝕄)
  rw [words_tiles, counts_tiles, ← BI.bigSep_sep']
  refine BI.bigSep_mono fun c _ => ?_
  rw [← BI.bigSep_sep']
  refine BI.bigSep_mono fun s _ => ?_
  show iprop(srcPts d (tileC c s) (I d) ∗ outPtsA d (tileC c s) f ∗ outPtsB d (tileC c s) f)
    ⊢ iprop(srcPts d (tileC c s) (I d) ∗ (∃ f, outPtsA d (tileC c s) f) ∗ (∃ f, outPtsB d (tileC c s) f))
  iintro ⟨Hi, Ha, Hb⟩
  isplitl [Hi]; · iexact Hi
  isplitl [Ha]
  · iexists f; iexact Ha
  iexists f; iexact Hb

/-- What it gives back: the words as they were, the counts at the tallies. -/
theorem call_yields (d : Dev nD) :
    (bigSep Finset.univ fun c : Fin ((K (F := F)).nCore 0) => (P I).dn 0 d c) ⊢ iprop((wordsLoc d ↦{fullShare} I d) ∗ countsLoc d ↦{fullShare} histOf (I d)) := by
  show (bigSep Finset.univ fun c : Fin nC => bigSep Finset.univ fun s : Fin nT => yields I d (tileC c s) : sProp 𝕄) ⊢ _
  rw [words_tiles, counts_tiles, ← BI.bigSep_sep']
  refine BI.bigSep_mono fun c _ => ?_
  rw [← BI.bigSep_sep']
  exact BI.bigSep_mono fun s _ => BI.Entails.refl _

end Cert.Hist

end
-- ==== Proof.Host.lean ====
/-
  The host operations before the SparseCore's call: the one line they make, and what it leaves alone.
-/
module

public import proofs.«01_k».proof.Proof.Split

@[expose] public section

noncomputable section

namespace Cert.Hist

open Idealize.ShloMosaic Idealize.ShloMosaic.TcCoe
open Idealize.ShloMosaic.SparseCore.Cfg (HIx)
open Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F]

local notation "𝕄" => MT nD τ sig (HIx 1) (Elt F) ℕ UU ℕ

abbrev words : Type := (⟨S16384x20, .i32⟩ : BufTy).Contents (Elt F) → (⟨S20x16384, .i32⟩ : BufTy).Contents (Elt F)

/-- The host operations: the three transposes, the two offsets added, the concatenation. -/
abbrev hostOps : List (HloOp τ sig (Elt F)) :=
  [ StableHlo.unary main_arg0 main_v0 ((transpose S20x16384 [1, 0] · transposes_S16384x20_S20x16384_1_0) : words (F := F)),
    StableHlo.unary main_arg1 main_v1 ((transpose S20x16384 [1, 0] · transposes_S16384x20_S20x16384_1_0) : words (F := F)),
    StableHlo.nullary main_c (constantI S_ 32 16#32),
    StableHlo.unary main_c main_v2 (broadcastInDim S20x16384 ![] bcast_S_S20x16384 : (⟨S_, .i32⟩ : BufTy).Contents (Elt F) → (⟨S20x16384, .i32⟩ : BufTy).Contents (Elt F)),
    StableHlo.binary main_v1 main_v2 main_v3 (addi : (⟨S20x16384, .i32⟩ : BufTy).Contents (Elt F) → (⟨S20x16384, .i32⟩ : BufTy).Contents (Elt F) → (⟨S20x16384, .i32⟩ : BufTy).Contents (Elt F)),
    StableHlo.unary main_arg2 main_v4 ((transpose S20x16384 [1, 0] · transposes_S16384x20_S20x16384_1_0) : words (F := F)),
    StableHlo.nullary main_c_0 (constantI S_ 32 24#32),
    StableHlo.unary main_c_0 main_v5 (broadcastInDim S20x16384 ![] bcast_S_S20x16384 : (⟨S_, .i32⟩ : BufTy).Contents (Elt F) → (⟨S20x16384, .i32⟩ : BufTy).Contents (Elt F)),
    StableHlo.binary main_v4 main_v5 main_v6 (addi : (⟨S20x16384, .i32⟩ : BufTy).Contents (Elt F) → (⟨S20x16384, .i32⟩ : BufTy).Contents (Elt F) → (⟨S20x16384, .i32⟩ : BufTy).Contents (Elt F)),
    StableHlo.nary ![main_v0, main_v3, main_v6] main_v7 (fun u => (concatenate S60x16384 0 [⟨S20x16384, (u 0 : (⟨S20x16384, .i32⟩ : BufTy).Contents (Elt F))⟩, ⟨S20x16384, (u 1 : (⟨S20x16384, .i32⟩ : BufTy).Contents (Elt F))⟩, ⟨S20x16384, (u 2 : (⟨S20x16384, .i32⟩ : BufTy).Contents (Elt F))⟩] concatenates_S20x16384_S20x16384_S20x16384_S60x16384_d0 : (⟨S60x16384, .i32⟩ : BufTy).Contents (Elt F))) ]

/-- @main: the host operations, the SparseCore's call, the TensorCore's. -/
theorem main_eq (d : Dev nD) :
    main (F := F) d = StableHlo.seq hostOps >>= fun _ => (sc (F := F)).run d 0 >>= fun _ =>
      Prog.lift (.customCall (SparseCore.inner (Pipeline.entry 0)) ()) >>= fun _ => pure ⟨⟩ := by
  rw [StableHlo.seq_bind_seqK]; rfl

/-- The TensorCore's arrays. -/
def arrays : Finset (DevRef τ sig) := (StableHlo.tcRefs τ sig).filter fun b => ¬ b.isScoped

theorem unscopedBufs_arrays (d : Dev nD) (W : Valuation τ sig (Elt F)) :
    (unscopedBufs d (fun b => W b) : sProp 𝕄) = StableHlo.held (d : Thread nD τ) arrays W := by
  unfold unscopedBufs StableHlo.held arrays StableHlo.tcRefs
  rw [Finset.filter_map, BI.bigSep_map]; rfl

theorem hostOps_sub : ∀ op ∈ hostOps (F := F), op.bufs ⊆ arrays := fun op hop b hb => by
  have h : (hostOps (F := F)).Forall fun op => op.bufs ⊆ StableHlo.tcRefs τ sig :=
    ⟨StableHlo.unary_bufs_sub .., StableHlo.unary_bufs_sub .., StableHlo.nullary_bufs_sub .., StableHlo.unary_bufs_sub .., StableHlo.binary_bufs_sub ..,
      StableHlo.unary_bufs_sub .., StableHlo.nullary_bufs_sub .., StableHlo.unary_bufs_sub .., StableHlo.binary_bufs_sub .., StableHlo.nary_bufs_sub ..⟩
  exact Finset.mem_filter.mpr ⟨List.forall_iff_forall_mem.mp h op hop hb, fun h' => Bool.false_ne_true ((op.no_scoped b hb).symm.trans h')⟩

theorem hostOps_fresh : ∀ op ∈ hostOps (F := F), op.fresh = ∅ := by intro op h; fin_cases h <;> rfl

variable (m : (ℓ : Loc nD τ sig) → Buf (Elt F) ℓ)

/-- The device's arrays as launched, and after the host operations. -/
def atLaunch (d : Dev nD) : Valuation τ sig (Elt F) := fun b => m (d, b)
def staged7 (d : Dev nD) : Valuation τ sig (Elt F) := StableHlo.after hostOps (atLaunch m d)

theorem staged7_arg (d : Dev nD) (r : Ref sig .tc) (h : r ∉ [main_v0, main_v1, main_c, main_v2, main_v3, main_v4, main_c_0, main_v5, main_v6, main_v7]) :
    staged7 m d (Proc.devRef .tc r) = m ((d : Thread nD τ).loc r) := by
  refine StableHlo.after_of_writes_sub (W := [main_v0, main_v1, main_c, main_v2, main_v3, main_v4, main_c_0, main_v5, main_v6, main_v7]) hostOps _ ?_ h
  have mem : ∀ x : Ref sig .tc, x ∈ [main_v0, main_v1, main_c, main_v2, main_v3, main_v4, main_c_0, main_v5, main_v6, main_v7] →
      ({Proc.devRef .tc x} : Finset (DevRef τ sig)) ⊆ (([main_v0, main_v1, main_c, main_v2, main_v3, main_v4, main_c_0, main_v5, main_v6, main_v7] : List (Ref sig .tc)).map (Proc.devRef (τ := τ) .tc)).toFinset :=
    fun x hx => Finset.singleton_subset_iff.mpr (List.mem_toFinset.mpr (List.mem_map_of_mem hx))
  exact ⟨mem main_v0 (by decide), mem main_v1 (by decide), mem main_c (by decide), mem main_v2 (by decide), mem main_v3 (by decide), mem main_v4 (by decide),
    mem main_c_0 (by decide), mem main_v5 (by decide), mem main_v6 (by decide), mem main_v7 (by decide)⟩

end Cert.Hist

end
-- ==== Proof.Matmul.lean ====
/-
  The TensorCore's kernel: its body run once, at the first grid point (where it lays the three tables out in the 80-row
  scratch) and at the others (where it finds the scratch as the first left it).
-/
module

public import proofs.«01_k».proof.Proof.Tiles
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions
public import Idealize.ShloMosaic.Lib.WritesUnit
public import Idealize.ShloMosaic.Lib.VecWindow
public import Idealize.ShloMosaic.Lib.Tactic

@[expose] public section

noncomputable section

namespace Cert.Hist

open Idealize.ShloMosaic Idealize.ShloMosaic.TcCoe Idealize.ShloMosaic.Tactic
open Idealize.ShloMosaic.SparseCore (S V T)
open Idealize.ShloMosaic.SparseCore.Cfg (HIx)
open Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Pipeline (Dat BodyObligation)
open Idealize.ShloMosaic.ValueIdx (ix2)

variable {F : FTy → Type} [FloatOps F]

local notation "𝕄" => MT nD τ sig (HIx 1) (Elt F) ℕ UU ℕ

/-- A memref's buffer on the TensorCore of device `c`, held whole at `f`. -/
abbrev Bf (c : Dev nD) {sp : Space} {sh : Shape} {e : EltTy} (M : Memref sig .tc sp sh e) : Type := Buf (Elt F) (M.view.loc (c : Thread nD τ))
abbrev pt (c : Dev nD) {sp : Space} {sh : Shape} {e : EltTy} (M : Memref sig .tc sp sh e) (f : Bf (F := F) c M) : sProp 𝕄 :=
  M.view.loc (c : Thread nD τ) ↦{fullShare} f

/-- The 80-row scratch. -/
abbrev tabM : Memref sig .tc .vmem S80x128 .f32 := Memref.whole cc1_scratch0

/-- The three tables laid out in the 80 rows: 0 to 12 the first, 16 to 19 the second, 24 to 75 the third, zero elsewhere. -/
def tab (x2 : Vec F S13x128 .f32) (x3 : Vec F S4x128 .f32) (x4 : Vec F S52x128 .f32) : Vec F S80x128 .f32 := fun j =>
  if h : (j 0).val < 13 then x2 (ix2 (⟨(j 0).val, h⟩ : Fin 13) (j 1 : Fin 128))
  else if h : 16 ≤ (j 0).val ∧ (j 0).val < 20 then x3 (ix2 (⟨(j 0).val - 16, by omega⟩ : Fin 4) (j 1 : Fin 128))
  else if h : 24 ≤ (j 0).val ∧ (j 0).val < 76 then x4 (ix2 (⟨(j 0).val - 24, by omega⟩ : Fin 52) (j 1 : Fin 128))
  else Scalar.ofBits .f32 0x00000000#32

/-- The zeros and the three tables, stored in that order, leave the layout. -/
theorem read_tab (v : View sig .tc .vmem S80x128 .f32) (f : v.ty.Contents (Elt F))
    (x2 : Vec F S13x128 .f32) (x3 : Vec F S4x128 .f32) (x4 : Vec F S52x128 .f32) :
    v.read (Elt F) (v.writes (Elt F) f
      [⟨Rect.unit (s := S80x128) ![24, 0] S52x128.size inb_S80x128_S52x128_24_0, k1_pay4 x4⟩,
       ⟨Rect.unit (s := S80x128) ![16, 0] S4x128.size inb_S80x128_S4x128_16_0, k1_pay3 x3⟩,
       ⟨Rect.unit (s := S80x128) ![0, 0] S13x128.size inb_S80x128_S13x128_0_0, k1_pay2 x2⟩,
       ⟨Rect.unit (s := S80x128) ![0, 0] S80x128.size inb_S80x128_S80x128_0_0, k1_pay1 (F := F)⟩]) = tab x2 x3 x4 := by
  funext j
  have hj : (j 0).val < 80 := (j 0).isLt
  unfold tab
  by_cases h4 : 24 ≤ (j 0).val ∧ (j 0).val < 76
  · rw [dif_neg (by omega), dif_neg (by omega), dif_pos h4]
    refine (View.read_writes_cons_rows_of_mem v f inb_S80x128_S52x128_24_0 _ _ j (ix2 (⟨(j 0).val - 24, by omega⟩ : Fin 52) (j 1 : Fin 128)) rfl ?_ rfl).trans ?_
    · show (j 0).val = 24 + ((j 0).val - 24); omega
    · unfold k1_pay4; rw [shapeCast_self]
  refine (View.read_writes_cons_rows_of_not_mem (W := 52) v f inb_S80x128_S52x128_24_0 _ _ j rfl rfl (by omega)).trans ?_
  by_cases h3 : 16 ≤ (j 0).val ∧ (j 0).val < 20
  · rw [dif_neg (by omega), dif_pos h3]
    refine (View.read_writes_cons_rows_of_mem v f inb_S80x128_S4x128_16_0 _ _ j (ix2 (⟨(j 0).val - 16, by omega⟩ : Fin 4) (j 1 : Fin 128)) rfl ?_ rfl).trans ?_
    · show (j 0).val = 16 + ((j 0).val - 16); omega
    · unfold k1_pay3; rw [shapeCast_self]
  refine (View.read_writes_cons_rows_of_not_mem (W := 4) v f inb_S80x128_S4x128_16_0 _ _ j rfl rfl (by omega)).trans ?_
  by_cases h2 : (j 0).val < 13
  · rw [dif_pos h2]
    refine (View.read_writes_cons_rows_of_mem v f inb_S80x128_S13x128_0_0 _ _ j (ix2 (⟨(j 0).val, h2⟩ : Fin 13) (j 1 : Fin 128)) rfl ?_ rfl).trans ?_
    · show (j 0).val = 0 + (j 0).val; omega
    · unfold k1_pay2; rw [shapeCast_self]
  refine (View.read_writes_cons_rows_of_not_mem (W := 13) v f inb_S80x128_S13x128_0_0 _ _ j rfl rfl (by omega)).trans ?_
  rw [dif_neg h2, dif_neg h3, dif_neg h4]
  refine (View.read_writes_cons_rows_of_mem v f inb_S80x128_S80x128_0_0 _ _ j j rfl ?_ rfl).trans ?_
  · show (j 0).val = 0 + (j 0).val; omega
  · unfold k1_pay1; rw [shapeCast_self]; rfl

section body

variable (c : Dev nD) (i : grid1.Coords)
  (M1 : Memref sig .tc .vmem S80x2048 .f32) (h1 : M1.IsWhole) (M2 : Memref sig .tc .vmem S13x128 .f32) (h2 : M2.IsWhole)
  (M3 : Memref sig .tc .vmem S4x128 .f32) (h3 : M3.IsWhole) (M4 : Memref sig .tc .vmem S52x128 .f32) (h4 : M4.IsWhole)
  (M5 : Memref sig .tc .vmem S2048x128 .f32) (h5 : M5.IsWhole)
  (f1 : Bf (F := F) c M1) (f2 : Bf (F := F) c M2) (f3 : Bf (F := F) c M3) (f4 : Bf (F := F) c M4) (f5 : Bf (F := F) c M5) (fs : Bf (F := F) c tabM)

/-- The body's test for the first grid point. -/
theorem first_true (hi : (i 0).val = 0) :
    Scalar.cmpi .ne (Scalar.extui (Scalar.cmpi .eq (BitVec.ofNat 32 (i 0).val) 0#32) : BitVec 32) 0#32 = 1#1 := by
  rw [hi]; decide

theorem first_false (hi : (i 0).val ≠ 0) :
    ¬ Scalar.cmpi .ne (Scalar.extui (Scalar.cmpi .eq (BitVec.ofNat 32 (i 0).val) 0#32) : BitVec 32) 0#32 = 1#1 := by
  have hb : (i 0).val < 8 := (i 0).isLt
  generalize (i 0).val = n at hi hb
  interval_cases n <;> first | exact absurd rfl hi | decide

/-- At a later point the scratch is read, and the block's product stored. -/
theorem body_later (hi : (i 0).val ≠ 0) (Q : PUnit → sProp 𝕄) :
    iprop(pt c M1 f1 ∗ pt c M5 f5 ∗ pt c tabM fs
        ∗ (iprop(pt c M1 f1 ∗ (∃ g, ⌜M5.view.read (Elt F) g = k1_pay5 (M1.view.read (Elt F) f1) fs⌝ ∗ pt c M5 g) ∗ pt c tabM fs) -∗ Q ⟨⟩))
      ⊢ wp frame (wpE (defs₀' (F := F)) 𝒱₀ (c : Thread nD τ) none) Set.univ
          (cc1__matmul_body i M1 h1 M2 h2 M3 h3 M4 h4 M5 h5 tabM (Memref.isWhole_whole _)) Q := by
  have hv := first_false i hi
  rw [cc1__matmul_body_eq_skeleton]; unfold cc1__matmul_body_skel
  iintro ⟨H1, H5, Hs, Hk⟩
  sl_exec!
  sl_step
  iapply Hk
  isplitl [H1]; · iexact H1
  isplitl [H5]
  · iexists _; isplitr; swap; · iexact H5
    ipureintro
    unfold body_later.sl.H5_1
    rw [View.read_writes_full, View.readAt_full, View.readAt_full]
    rfl
  iexact Hs

/-- At the first point the scratch is laid out, then read, and the block's product stored. -/
theorem body_first (hi : (i 0).val = 0) (Q : PUnit → sProp 𝕄) :
    iprop(pt c M1 f1 ∗ pt c M2 f2 ∗ pt c M3 f3 ∗ pt c M4 f4 ∗ pt c M5 f5 ∗ pt c tabM fs
        ∗ (iprop(pt c M1 f1 ∗ pt c M2 f2 ∗ pt c M3 f3 ∗ pt c M4 f4
            ∗ (∃ g, ⌜M5.view.read (Elt F) g = k1_pay5 (M1.view.read (Elt F) f1)
                (tab (M2.view.read (Elt F) f2) (M3.view.read (Elt F) f3) (M4.view.read (Elt F) f4))⌝ ∗ pt c M5 g)
            ∗ pt c tabM (tab (M2.view.read (Elt F) f2) (M3.view.read (Elt F) f3) (M4.view.read (Elt F) f4))) -∗ Q ⟨⟩))
      ⊢ wp frame (wpE (defs₀' (F := F)) 𝒱₀ (c : Thread nD τ) none) Set.univ
          (cc1__matmul_body i M1 h1 M2 h2 M3 h3 M4 h4 M5 h5 tabM (Memref.isWhole_whole _)) Q := by
  have hv := first_true i hi
  rw [cc1__matmul_body_eq_skeleton]; unfold cc1__matmul_body_skel
  iintro ⟨H1, H2, H3, H4, H5, Hs, Hk⟩
  sl_exec!
  unfold body_first.sl.Hs_4
  sl_step
  iapply Hk
  isplitl [H1]; · iexact H1
  isplitl [H2]; · iexact H2
  isplitl [H3]; · iexact H3
  isplitl [H4]; · iexact H4
  isplitl [H5]
  · iexists _; isplitr; swap; · iexact H5
    ipureintro
    unfold body_first.sl.H5_1 body_first.sl.v4 View.readCov body_first.sl.Hs_4
    rw [View.read_writes_full, View.readAt_full, View.readAt_full, View.readAt_full, View.readAt_full, View.readAt_full, read_tab]
  rw [View.readAt_full, View.readAt_full, View.readAt_full]
  have hL := read_tab tabM.view tabM.view.junk (M2.view.read (Elt F) f2) (M3.view.read (Elt F) f3) (M4.view.read (Elt F) f4)
  change tabM.view.writes (Elt F) tabM.view.junk _ = _ at hL
  rw [hL]
  iexact Hs

end body

end Cert.Hist

end
-- ==== Proof.Region.lean ====
/-
  The TensorCore's kernel as one region of @main: its windows' contents at each grid point, the scratch's contents between
  the points, and what the region leaves in its result.
-/
module

public import proofs.«01_k».proof.Proof.Matmul
public import Idealize.ShloMosaic.Lib.Pipeline.RegionsLoop

@[expose] public section

noncomputable section

namespace Cert.Hist

open Idealize.ShloMosaic Idealize.ShloMosaic.TcCoe Idealize.ShloMosaic.Tactic
open Idealize.ShloMosaic.SparseCore (S V T)
open Idealize.ShloMosaic.SparseCore.Cfg (HIx)
open Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Pipeline (Dat BodyObligation)
open Idealize.ShloMosaic.ValueIdx (ix2)

variable {F : FTy → Type} [FloatOps F]

local notation "𝕄" => MT nD τ sig (HIx 1) (Elt F) ℕ UU ℕ

/-- A whole memref owned at a value is its buffer held at contents that read as the value. -/
theorem owns_pt (c : Dev nD) {sp : Space} {sh : Shape} {e : EltTy} {M : Memref sig .tc sp sh e} (h : M.IsWhole) (X : sh.Idx → Elt F e) :
    (owns (c : Thread nD τ) M fullShare X : sProp 𝕄) = iprop(∃ f : Bf (F := F) c M, ⌜M.view.read (Elt F) f = X⌝ ∗ pt c M f) := by
  obtain ⟨b, hsp, hsh, he, h⟩ := h
  subst hsp hsh he
  cases h
  exact owns_whole_eq (c : Thread nD τ) b fullShare X

variable (V : (c : Dev nD) → (b : Ref sig .tc) → Buf (Elt F) ((c : Thread nD τ).loc b))

/-- A window's block at a point, read off the arrays as the region finds them. -/
abbrev blkV (c : Dev nD) (w : Fin 5) (t : Fin cfg1.N) : ((cfg1.win w).xblock (cfg1.grid.coords t)).Idx → Elt F (cfg1.win w).elt :=
  ((cfg1.win w).blk t).view.read (Elt F) (V c (Pipeline.arrRef spec1 w))

/-- The scratch from the first point on. -/
def tbl (c : Dev nD) : Vec F S80x128 .f32 := tab (blkV V c 1 t1_0) (blkV V c 2 t1_0) (blkV V c 3 t1_0)

/-- What the body leaves in the result's block. -/
def prod (c : Dev nD) (t : Fin cfg1.N) : Vec F S2048x128 .f32 := k1_pay5 (blkV V c 0 t) (tbl V c)

/-- The scratch before point `n`: anything at first, then the tables' layout. -/
def Φn (c : Dev nD) (n : ℕ) : sProp 𝕄 := if n = 0 then iprop(∃ f, pt c tabM f) else pt c tabM (tbl V c)

theorem Φn_zero (c : Dev nD) {n : ℕ} (h : n = 0) : Φn V c n = iprop(∃ f, pt c tabM f) := if_pos h
theorem Φn_pos (c : Dev nD) {n : ℕ} (h : n ≠ 0) : Φn V c n = pt c tabM (tbl V c) := if_neg h

/-- The pairs the core's waits may have recorded before the region: those below the next call's levels. -/
def below (c : Dev nD) : Set (SemLoc sig × HIx 1) := {p | (K (F := F)).lev (T c, p.1) p.2 ≤ 8 * 1}

def dat (c : Dev nD) : Dat τ (Elt F) (HIx 1) ℕ UU ℕ cfg1 c where
  A w := V c (Pipeline.arrRef spec1 w)
  after w t := match w with
    | ⟨0, _⟩ => blkV V c 0 t
    | ⟨1, _⟩ => blkV V c 1 t
    | ⟨2, _⟩ => blkV V c 2 t
    | ⟨3, _⟩ => blkV V c 3 t
    | ⟨4, _⟩ => prod V c t
  Φ t := Φn V c t.val
  q _ := fullShare
  owed _ := 0
  recorded _ := below (F := F) c

theorem before0 (c : Dev nD) (t : Fin cfg1.N) (d) : (dat V c).before 0 t d = blkV V c 0 t :=
  (dat V c).before_in_eq_fetched 0 rfl (fun _ => rfl) (fun _ _ _ => rfl) (fun _ => rfl) t d
theorem before1 (c : Dev nD) (t : Fin cfg1.N) (d) : (dat V c).before 1 t d = blkV V c 1 t :=
  (dat V c).before_in_eq_fetched 1 rfl (fun _ => rfl) (fun _ _ _ => rfl) (fun _ => rfl) t d
theorem before2 (c : Dev nD) (t : Fin cfg1.N) (d) : (dat V c).before 2 t d = blkV V c 2 t :=
  (dat V c).before_in_eq_fetched 2 rfl (fun _ => rfl) (fun _ _ _ => rfl) (fun _ => rfl) t d
theorem before3 (c : Dev nD) (t : Fin cfg1.N) (d) : (dat V c).before 3 t d = blkV V c 3 t :=
  (dat V c).before_in_eq_fetched 3 rfl (fun _ => rfl) (fun _ _ _ => rfl) (fun _ => rfl) t d

theorem defs₀'_tc (t : Fin cfg1.N) : defs₀' (F := F) .tc cfg1.body (cfg1.bodyArgs t (cfg1.slots t)) = bodyAt1 t := rfl

theorem coords_val (t : Fin cfg1.N) : (grid1.coords t 0).val = t.val := by
  have h := Pipeline.Grid.coords_val (G := grid1) t 0 (S := 1) (B := 8) (by decide) (by decide)
  have ht : t.val < 8 := N_1 ▸ t.isLt
  omega

theorem body_obligation (c : Dev nD) : BodyObligation (dat V c) (defs₀' (F := F)) 𝒱₀ none Set.univ := fun t => by
  rw [defs₀'_tc, bigSep_W1, bigSep_W1]
  rw [show (dat V c).owesAt none t.succ = (dat V c).owesAt none t.castSucc from rfl,
    show (dat V c).Φ t.castSucc = Φn V c t.val from rfl, show (dat V c).Φ t.succ = pt c tabM (tbl V c) from Φn_pos V c (n := t.val + 1) (Nat.succ_ne_zero _)]
  have o0 := fun X => owns_pt (F := F) (M := st1_0 t) c (hstage1_0 ((cfg1.slots t 0).cast nbuf1_0)) X
  have o1 := fun X => owns_pt (F := F) (M := st1_1 t) c (hstage1_1 ((cfg1.slots t 1).cast nbuf1_1)) X
  have o2 := fun X => owns_pt (F := F) (M := st1_2 t) c (hstage1_2 ((cfg1.slots t 2).cast nbuf1_2)) X
  have o3 := fun X => owns_pt (F := F) (M := st1_3 t) c (hstage1_3 ((cfg1.slots t 3).cast nbuf1_3)) X
  have o4 := fun X => owns_pt (F := F) (M := st1_4 t) c (hstage1_4 ((cfg1.slots t 4).cast nbuf1_4)) X
  iintro ⟨HΦ, Howes, ⟨%d0, H0⟩, ⟨%d1, H1⟩, ⟨%d2, H2⟩, ⟨%d3, H3⟩, ⟨%d4, H4⟩⟩
  ihave H0 := (Entails.of_eq ((congrArg _ (before0 V c t d0)).trans (o0 _))) $$ H0
  ihave H4 := (Entails.of_eq (o4 _)) $$ H4
  icases H0 with ⟨%f0, %hf0, H0⟩
  icases H4 with ⟨%f4, -, H4⟩
  by_cases h0 : t.val = 0
  · ihave H1 := (Entails.of_eq ((congrArg _ (before1 V c t d1)).trans (o1 _))) $$ H1
    ihave H2 := (Entails.of_eq ((congrArg _ (before2 V c t d2)).trans (o2 _))) $$ H2
    ihave H3 := (Entails.of_eq ((congrArg _ (before3 V c t d3)).trans (o3 _))) $$ H3
    icases H1 with ⟨%f1, %hf1, H1⟩
    icases H2 with ⟨%f2, %hf2, H2⟩
    icases H3 with ⟨%f3, %hf3, H3⟩
    ihave HΦ := (Entails.of_eq (Φn_zero V c h0)) $$ HΦ
    icases HΦ with ⟨%fs, HΦ⟩
    have htt : t = t1_0 := Fin.ext h0
    iapply (body_first c (grid1.coords t) _ _ _ _ _ _ _ _ _ _ f0 f1 f2 f3 f4 fs ((coords_val t).trans h0))
    isplitl [H0]; · iexact H0
    isplitl [H1]; · iexact H1
    isplitl [H2]; · iexact H2
    isplitl [H3]; · iexact H3
    isplitl [H4]; · iexact H4
    isplitl [HΦ]; · iexact HΦ
    iintro ⟨H0, H1, H2, H3, ⟨%g, %hg, H4⟩, HΦ⟩
    have ht : tab (F := F) (blkV V c 1 t) (blkV V c 2 t) (blkV V c 3 t) = tbl V c := by subst htt; rfl
    rw [hf0, hf1, hf2, hf3] at hg
    isplitl [HΦ]
    · have e : tab (F := F) _ _ _ = tbl V c := (congr (congrArg₂ tab hf1 hf2) hf3).trans ht
      ihave HΦ := (Entails.of_eq (congrArg (pt (F := F) c tabM) e)) $$ HΦ
      iexact HΦ
    isplitl [Howes]; · iexact Howes
    isplitl [H0]
    · iapply (Entails.of_eq (o0 _).symm); iexists f0; isplitr; · ipureintro; exact hf0
      iexact H0
    isplitl [H1]
    · iapply (Entails.of_eq (o1 _).symm); iexists f1; isplitr; · ipureintro; exact hf1
      iexact H1
    isplitl [H2]
    · iapply (Entails.of_eq (o2 _).symm); iexists f2; isplitr; · ipureintro; exact hf2
      iexact H2
    isplitl [H3]
    · iapply (Entails.of_eq (o3 _).symm); iexists f3; isplitr; · ipureintro; exact hf3
      iexact H3
    iapply (Entails.of_eq (o4 _).symm); iexists g; isplitr; swap; · iexact H4
    ipureintro; exact hg.trans (congrArg _ ht)
  · ihave HΦ := (Entails.of_eq (Φn_pos V c h0)) $$ HΦ
    iapply (body_later c (grid1.coords t) _ _ _ _ _ _ _ _ _ _ f0 f4 (tbl V c) (fun h => h0 ((coords_val t).symm.trans h)))
    isplitl [H0]; · iexact H0
    isplitl [H4]; · iexact H4
    isplitl [HΦ]; · iexact HΦ
    iintro ⟨H0, ⟨%g, %hg, H4⟩, HΦ⟩
    rw [hf0] at hg
    isplitl [HΦ]; · iexact HΦ
    isplitl [Howes]; · iexact Howes
    isplitl [H0]
    · iapply (Entails.of_eq (o0 _).symm); iexists f0; isplitr; · ipureintro; exact hf0
      iexact H0
    isplitl [H1]; · ihave H1 := (Entails.of_eq (congrArg (fun X => (owns (c : Thread nD τ) (st1_1 t) fullShare X : sProp 𝕄)) (before1 V c t d1))) $$ H1; iexact H1
    isplitl [H2]; · ihave H2 := (Entails.of_eq (congrArg (fun X => (owns (c : Thread nD τ) (st1_2 t) fullShare X : sProp 𝕄)) (before2 V c t d2))) $$ H2; iexact H2
    isplitl [H3]; · ihave H3 := (Entails.of_eq (congrArg (fun X => (owns (c : Thread nD τ) (st1_3 t) fullShare X : sProp 𝕄)) (before3 V c t d3))) $$ H3; iexact H3
    iapply (Entails.of_eq (o4 _).symm); iexists g; isplitr; swap; · iexact H4
    ipureintro; exact hg

/-! ## The region over the thread's state -/

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- The result's array after the region. -/
def result (c : Dev nD) : Buf (Elt F) ((c : Thread nD τ).loc main_v9) := (dat V c).arrAt 4 cfg1.N

/-- What the core owes around the region: nothing, its recorded pairs below the next call's levels. -/
def owesBelow (c : Dev nD) : sProp 𝕄 := iprop(∃ W, ⌜(K (F := F)).WBelow (T c) W (8 * 1)⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
def reg (hVp_out : ∀ c, Vp c main_v9 = result V c) (hVp_ne : ∀ c (b : Ref sig .tc), b ≠ main_v9 → Vp c b = V c b) :
    Pipeline.RegionSeg (pcfgs (F := F)) adm (pdats V) (none : HIx 1) defs₀' 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesBelow c)
  post c := iprop(unscopedBufs c (Vp c) ∗ owesBelow c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesBelow
      icases HO with ⟨%W, %hW, HO⟩; iexists W; isplitr; · ipureintro; exact fun p hp => Or.inl (hW p hp)
      iexact HO
    isplitr; · iempintro
    iexact Hrest
  hin c := by
    rw [show (pdats V 0 c).Φ 0 = Φn V c 0 from rfl, Φn_zero V c rfl]
    iintro ⟨-, -, Hr⟩
    ihave Hr := (Entails.of_eq (scopedRest1_eq c)) $$ Hr
    iexact Hr
  hout c := by
    rw [Pipeline.ownSems0_none, show (pdats V 0 c).Φ (Fin.last _) = Φn V c cfg1.N from rfl, Φn_pos V c (by rw [show cfg1.N = 8 from N_1]; decide)]
    iintro Hr
    isplitr; · iempintro
    isplitr; · iempintro
    iapply (Entails.of_eq (scopedRest1_eq c).symm)
    iexists _; iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v8 (by decide)).symm
        · exact ((pdats V 0 c).arrAt_in 1 rfl _).trans (hVp_ne c main_arg3 (by decide)).symm
        · exact ((pdats V 0 c).arrAt_in 2 rfl _).trans (hVp_ne c main_arg4 (by decide)).symm
        · exact ((pdats V 0 c).arrAt_in 3 rfl _).trans (hVp_ne c main_arg5 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin owesBelow
    icases HO with ⟨%W, %hW, HO⟩; iexists W
    isplitr; swap; · iexact HO
    ipureintro
    intro p hp
    rcases hW hp with h | ⟨w, s, rfl⟩
    · exact h
    · exact Nat.zero_le _

end Cert.Hist

end
-- ==== Proof.Launch.lean ====
/-
  The launch: @main on the TensorCore around the two calls, the ghost state it starts from, and the run's conclusion: the
  arguments as they were, the result at the region's value, every semaphore at zero.
-/
module

public import proofs.«01_k».proof.Proof.Host
public import proofs.«01_k».proof.Proof.Region
public import proofs.«01_k».proof.Proof.NarrowTable

@[expose] public section

noncomputable section

namespace Cert.Hist

open Idealize.ShloMosaic Idealize.ShloMosaic.TcCoe
open Idealize.ShloMosaic.SparseCore.Cfg (HIx)
open Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open Idealize.ShloMosaic.StableHlo (held)

variable {F : FTy → Type} [FloatOps F]

local notation "𝕄" => MT nD τ sig (HIx 1) (Elt F) ℕ UU ℕ

/-! ## The ghost state -/

/-- The pipeline's rounds on a device's TensorCore: its cells' positions and its tokens. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj), 1))

theorem bigSep_emps {α : Type} (s : Finset α) : (bigSep s fun _ => iprop(emp)) = (iprop(emp) : sProp 𝕄) := BI.bigSep_emp_const s

variable (I : Dev nD → Vec F S60x16384 .i32)

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P I).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  have hEP : (BI.own (((Emb.inl : Emb UP (UP × Counters)).trans (embR : Emb (UP × Counters) 𝕄)) (initOf (Pipeline.cells (nD := nD) (τ := τ) (Pipeline.pin (pcfgs (F := F)) adm) cellOf_inj)
        (Pipeline.launchToks (nD := nD) (τ := τ) (Pipeline.pin (pcfgs (F := F)) adm) cellOf_inj))) : sProp 𝕄)
      = BI.own (EP (initOf (Pipeline.cells (nD := nD) (τ := τ) (Pipeline.pin (pcfgs (F := F)) adm) cellOf_inj)
        (Pipeline.launchToks (nD := nD) (τ := τ) (Pipeline.pin (pcfgs (F := F)) adm) cellOf_inj))) := rfl
  ihave HP := (Entails.of_eq hEP) $$ HP
  imod (Pipeline.fund_ghost (Pipeline.pin (pcfgs (F := F)) adm) EP cellOf_inj) $$ HP with ⟨Hc, Ht⟩
  imodintro
  isplitl [HH]; · iexact HH
  isplitl [Hc Ht]
  · rw [BI.bigSep_sep']
    isplitl [Hc]
    · rw [show (fun c : Dev nD => bigSep Finset.univ fun p : Fin 1 => (Pipeline.cellsGhost (Pipeline.pin (pcfgs (F := F)) adm) EP p c : sProp 𝕄))
          = fun c : Dev nD => Pipeline.cellsGhost (Pipeline.pin (pcfgs (F := F)) adm) EP 0 c from funext fun c => BI.bigSep_univ_of_subsingleton (0 : Fin 1)]
      iexact Hc
    · rw [show (fun c : Dev nD => bigSep Finset.univ fun p : Fin 1 => (Pipeline.toksInit (Pipeline.pin (pcfgs (F := F)) adm) EP p c : sProp 𝕄))
          = fun c : Dev nD => Pipeline.toksInit (Pipeline.pin (pcfgs (F := F)) adm) EP 0 c from funext fun c => BI.bigSep_univ_of_subsingleton (0 : Fin 1)]
      iexact Ht
  unfold P; dsimp only
  rw [show (bigSep Finset.univ fun _ : Thread nD τ => bigSep Finset.univ fun _ : Fin 1 => (iprop(emp) : sProp 𝕄)) = iprop(emp) from by
    rw [BI.bigSep_congr fun _ _ => bigSep_emps _, bigSep_emps]]
  iempintro

/-! ## The arrays around the calls -/

section arrays

variable (d : Dev nD) (W : (b : Ref sig .tc) → Buf (Elt F) ((d : Thread nD τ).loc b))

abbrev others : Finset (Ref sig .tc) := ((Finset.univ.filter fun b : Ref sig .tc => ¬ b.isScoped).erase main_v7).erase main_v8

theorem unscoped_split :
    (unscopedBufs d W : sProp 𝕄) = iprop((wordsLoc d ↦{fullShare} W main_v7) ∗ (countsLoc d ↦{fullShare} W main_v8)
      ∗ bigSep others fun b => ((d : Thread nD τ).loc b) ↦{fullShare} W b) := by
  have h7 : (main_v7 : Ref sig .tc) ∈ (Finset.univ.filter fun b : Ref sig .tc => ¬ b.isScoped) := by decide
  have h8 : (main_v8 : Ref sig .tc) ∈ (Finset.univ.filter fun b : Ref sig .tc => ¬ b.isScoped).erase main_v7 := by decide
  unfold unscopedBufs
  rw [SparseCore.bigSep_erase' h7, SparseCore.bigSep_erase' h8]

/-- The arrays with the counts replaced, and with the result replaced. -/
def setCounts (f : Vec F S80x16384 .f32) : (b : Ref sig .tc) → Buf (Elt F) ((d : Thread nD τ).loc b) := Function.update W main_v8 f

theorem setCounts_self (f : Vec F S80x16384 .f32) : setCounts d W f main_v8 = f := Function.update_self _ _ _
theorem setCounts_ne (f : Vec F S80x16384 .f32) (b : Ref sig .tc) (h : b ≠ main_v8) : setCounts d W f b = W b := Function.update_of_ne h _ _

theorem unscoped_setCounts (f : Vec F S80x16384 .f32) :
    (unscopedBufs d (setCounts d W f) : sProp 𝕄) = iprop((wordsLoc d ↦{fullShare} W main_v7) ∗ (countsLoc d ↦{fullShare} f)
      ∗ bigSep others fun b => ((d : Thread nD τ).loc b) ↦{fullShare} W b) := by
  rw [unscoped_split, setCounts_self, setCounts_ne d W f main_v7 (by decide)]
  rw [BI.bigSep_congr (s := others) (Ψ := fun b => (((d : Thread nD τ).loc b) ↦{fullShare} W b : sProp 𝕄))
    fun b hb => by rw [setCounts_ne d W f b (Finset.ne_of_mem_erase hb)]]

end arrays

variable (m : (ℓ : Loc nD τ sig) → Buf (Elt F) ℓ) (ρ : Dev nD → PrngReg)

/-- The arrays as the SparseCore's call finds them, as the TensorCore's call finds them, and at the end. -/
def W₁ (d : Dev nD) (b : Ref sig .tc) : Buf (Elt F) ((d : Thread nD τ).loc b) := staged7 m d (Proc.devRef .tc b)
/-- The words the tiles count. -/
def words7 (d : Dev nD) : Vec F S60x16384 .i32 := W₁ m d main_v7
def W₂ (d : Dev nD) : (b : Ref sig .tc) → Buf (Elt F) ((d : Thread nD τ).loc b) := setCounts d (W₁ m d) (histOf (words7 m d))
def W₃ (d : Dev nD) : (b : Ref sig .tc) → Buf (Elt F) ((d : Thread nD τ).loc b) := Function.update (W₂ m d) main_v9 (result (W₂ m) d)

theorem W₃_out (d : Dev nD) : W₃ m d main_v9 = result (W₂ m) d := Function.update_self _ _ _
theorem W₃_ne (d : Dev nD) (b : Ref sig .tc) (h : b ≠ main_v9) : W₃ m d b = W₂ m d b := Function.update_of_ne h _ _

theorem W₃_arg (d : Dev nD) (r : Ref sig .tc) (h : r ∉ [main_v0, main_v1, main_c, main_v2, main_v3, main_v4, main_c_0, main_v5, main_v6, main_v7]) (h8 : r ≠ main_v8)
    (h9 : r ≠ main_v9) : W₃ m d r = m ((d : Thread nD τ).loc r) := by
  rw [W₃_ne m d r h9]
  unfold W₂
  rw [setCounts_ne _ _ _ _ h8]
  exact staged7_arg m d r h

/-! ## @main -/

abbrev region : Pipeline.RegionSeg (pcfgs (F := F)) adm (pdats (W₂ m)) (none : HIx 1) defs₀' 𝒱₀ (K (F := F)).L (K (F := F)).lev 0 :=
  reg (W₂ m) (W₃ m) (W₃_out m) (W₃_ne m)

/-- The TensorCore's call, from the arrays as it finds them. -/
theorem wp_matmul (d : Dev nD) (Q : PUnit → sProp 𝕄) :
    iprop((iprop(boundary (d : Thread nD τ) ∗ unscopedBufs d (W₃ m d) ∗ owesBelow (F := F) d) -∗ Q ⟨⟩)
        ∗ boundary (d : Thread nD τ) ∗ (unscopedBufs d (W₂ m d) ∗ owesBelow (F := F) d) ∗ levAts (K (F := F)).L (K (F := F)).lev ∗ ghost (F := F) d)
      ⊢ wp (M := 𝕄) frame (wpE ((K (F := F)).defs (D (F := F))) 𝒱 (d : Thread nD τ) none) Set.univ
          (Prog.lift (.customCall (SparseCore.inner (Pipeline.entry 0)) ())) Q := by
  have h := Pipeline.RegionSeg.wp (pcfgs (F := F)) adm (pdats (W₂ m)) (none : HIx 1) cellOf_inj EP defs₀' 𝒱₀ (K (F := F)).L (K (F := F)).lev (region m) d none
    (fun u hu => nomatch hu) (fun _ => Prog.ret (⟨⟩ : PUnit)) Q
  have h' := (K (F := F)).wp_liftProg (D (F := F)) 𝒱 (d : Thread nD τ) Set.univ none
    (.op (.customCall (Pipeline.entry (0 : Fin 1)) ()) fun _ => Prog.ret (⟨⟩ : PUnit)) Q
  have hpre : (region m).pre d = iprop(unscopedBufs d (W₂ m d) ∗ owesBelow (F := F) d) := rfl
  have hpost : (region m).post d = iprop(unscopedBufs d (W₃ m d) ∗ owesBelow (F := F) d) := rfl
  rw [hpre, hpost] at h
  iintro ⟨Hk, Hb, Hpre, Hlv, Hc, Ht⟩
  iapply (h.trans h')
  isplitl [Hk]
  · iintro H
    rw [wp_ret]; imodintro
    iapply Hk; iexact H
  isplitl [Hb]; · iexact Hb
  isplitl [Hpre]; · iexact Hpre
  isplitl [Hlv]; · iexact Hlv
  isplitl [Hc]; · iexact Hc
  iexact Ht

/-- After the one call the TensorCore owes nothing, its recorded pairs below the next call's levels. -/
abbrev waits (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d ((0 : Fin 1).val + 1) : sProp 𝕄) = iprop(owesBelow (F := F) d ∗ waits (F := F) d) := by
  unfold owesBelow
  show ((K (F := F)).tcSt EH d 1 : sProp 𝕄) = _
  rw [← (K (F := F)).Otc_end (N := 1) d (n := 1) (le_refl 1)]
  rfl

theorem hmain (κ : GSem nD τ sig → ℕ) (d : Dev nD) :
    iprop((K (F := F)).ctx EH (P (words7 m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ unscopedBufs d (W₃ m d) ∗ (K (F := F)).tcEnd d) := by
  unfold SparseCore.Cfg.tcRes SparseCore.Cfg.tcEnd
  have hheld : (unscopedBufs d (fun b => m ((SparseCore.T d).loc b)) : sProp 𝕄) = held (d : Thread nD τ) arrays (atLaunch m d) := unscopedBufs_arrays d (atLaunch m d)
  have hW₁ : (held (d : Thread nD τ) arrays (StableHlo.after hostOps (atLaunch m d)) : sProp 𝕄) = unscopedBufs d (W₁ m d) := (unscopedBufs_arrays d (staged7 m d)).symm
  rw [main_eq, hheld]
  iintro ⟨#Hctx, Hst, ⟨Hb, Hheld, Hts, -⟩, Hg⟩
  iapply (StableHlo.wp_seq 𝒱 none Set.univ d arrays _ hostOps hostOps_sub hostOps_fresh (atLaunch m d)) $$ [Hb Hheld]
  · isplitl [Hb] <;> iassumption
  iintro ⟨Hb, Hheld⟩
  ihave Hu := (Entails.of_eq hW₁) $$ Hheld
  ihave Hu := (Entails.of_eq (unscoped_split d (W₁ m d))) $$ Hu
  icases Hu with ⟨Hw, Hc, Hrest⟩
  rw [wp_bind]
  iapply ((K (F := F)).wp_run (D (F := F)) 𝒱 (EH := EH) (P := P (words7 m)) κ d 0) $$ [Hst Hw Hc Hb Hrest Hts Hg]
  isplitr; · iexact Hctx
  isplitl [Hst]; · iexact Hst
  isplitl [Hw Hc]
  · iapply (call_takes (words7 m) d (W₁ m d main_v8))
    isplitl [Hw]; · iexact Hw
    iexact Hc
  iintro ⟨Hst, Hdn⟩
  ihave Hdn := (call_yields (words7 m) d) $$ Hdn
  icases Hdn with ⟨Hw, Hc⟩
  ihave Hst := (Entails.of_eq (tcSt_one d)) $$ Hst
  icases Hst with ⟨HO, Hwt⟩
  ihave Hlv := (SparseCore.Cfg.ctx_levAts κ) $$ Hctx
  rw [wp_bind]
  iapply (wp_matmul m d)
  isplitl [Hwt Hts]
  · iintro ⟨Hb, Hu, HO⟩
    rw [wp_pure]; imodintro
    isplitl [HO Hwt]
    · iapply (Entails.of_eq (tcSt_one d).symm)
      isplitl [HO]; · iexact HO
      iexact Hwt
    isplitl [Hu]; · iexact Hu
    isplitl [Hb]; · iexact Hb
    iexact Hts
  isplitl [Hb]; · iexact Hb
  isplitl [Hw Hc Hrest HO]
  · isplitr [HO]
    · iapply (Entails.of_eq (unscoped_setCounts d (W₁ m d) (histOf (words7 m d))).symm)
      isplitl [Hw]; · iexact Hw
      isplitl [Hc]; · iexact Hc
      iexact Hrest
    iexact HO
  isplitl [Hlv]; · iexact Hlv
  iexact Hg

/-! ## The run -/

/-- What the claims read of a device's last state: the six arguments as launched, the result at the region's value. -/
def fq (d : Dev nD) (s' : Phys nD τ sig (Elt F)) : Prop := ∀ b : Ref sig .tc, ¬ b.isScoped → s'.mem.mem ((d : Thread nD τ).loc b) = W₃ m d b

theorem hfin (d : Dev nD) (s' : Phys nD τ sig (Elt F)) : iprop(unscopedBufs d (W₃ m d) ∗ SI s') ⊢ (⌜fq m d s'⌝ : sProp 𝕄) := by
  have key : ∀ b : Ref sig .tc, ¬ b.isScoped → iprop(unscopedBufs d (W₃ m d) ∗ SI s') ⊢ (⌜s'.mem.mem ((d : Thread nD τ).loc b) = W₃ m d b⌝ : sProp 𝕄) := by
    intro b hb
    unfold unscopedBufs
    rw [SparseCore.bigSep_erase' (Finset.mem_filter.mpr ⟨Finset.mem_univ b, hb⟩)]
    iintro ⟨⟨Hb, -⟩, HSI⟩
    ihave H := (SI_pointsTo_agree (st := s') (ℓ := (d : Thread nD τ).loc b) (I := Finset.univ) (q := fullShare) (f := W₃ m d b)) $$ [HSI Hb]
    · isplitl [HSI] <;> iassumption
    icases H with %h
    ipureintro; exact funext fun i => h i (Finset.mem_univ i)
  have key' : ∀ b : {b : Ref sig .tc // ¬ b.isScoped}, iprop(unscopedBufs d (W₃ m d) ∗ SI s') ⊢ (⌜s'.mem.mem ((d : Thread nD τ).loc b.1) = W₃ m d b.1⌝ : sProp 𝕄) :=
    fun b => key b.1 b.2
  exact ((forall_intro key').trans pure_forall.2).trans (pure_mono fun h b hb => h ⟨b, hb⟩)

def QC : PUnit × MemSt nD τ sig (Elt F) → Prop := fun r => (∀ d : Dev nD, ∀ b : Ref sig .tc, ¬ b.isScoped → r.2.mem ((d : Thread nD τ).loc b) = W₃ m d b) ∧ r.2.sem = fun _ => 0

theorem run_narrowed [∀ e, Nonempty (Elt F e)] (hI : ∀ d j, (words7 m d j : BitVec 32).toNat < 80) :
    θ_run (defs' (F := F)) (threads (F := F)) ⟨m, fun _ => 0, ρ⟩ (QC m) :=
  SparseCore.Cfg.θ_run_sc_quiescent (K := K (F := F)) (D := D (F := F)) (𝒱 := 𝒱) (EH := EH) (P := P (words7 m)) (A := ∅) facts v₀
    (fun q hq => match q with | 0 => nomatch hq)
    (fun q _ => match q with | 0 => tileObl (words7 m) hI)
    (fun q _ => match q with | 0 => SparseCore.Cfg.VecSplit.of_plain (vecSplit (words7 m)))
    m ρ main (fun d => ghost (F := F) d) (fun d => unscopedBufs d (W₃ m d)) (u₀ (F := F)) (sep_elim_left.trans (hu₀ (words7 m))) (hmain m ρ) (fq m) (hfin m)
    (QC m) (fun _ h hz => ⟨h, hz⟩)

/-- The run of the printed program. -/
theorem run_main [∀ e, Nonempty (Elt F e)] (hI : ∀ d j, (words7 m d j : BitVec 32).toNat < 80) :
    θ_run (defs (F := F)) (threads (F := F)) ⟨m, fun _ => 0, ρ⟩ (QC m) :=
  θ_run_of_narrowed _ (run_narrowed m ρ hI)

end Cert.Hist

end
-- ==== Proof.Words.lean ====
/-
  The words the tiles count, read at an index: a rank as it is, a suit sixteen on, a card twenty-four on.
-/
module

public import proofs.«01_k».proof.Proof.Launch
public import Idealize.ShloMosaic.Lib.StableHlo.ReadAt

@[expose] public section

noncomputable section

namespace Cert.Hist

open Idealize.ShloMosaic Idealize.ShloMosaic.TcCoe
open Cert.KernelIdeal Cert.KernelIdeal.Gen

variable {F : FTy → Type} [FloatOps F]
variable (m : (ℓ : Loc nD τ sig) → Buf (Elt F) ℓ)

abbrev ranks (d : Dev nD) : Vec F S16384x20 .i32 := m ((d : Thread nD τ).loc main_arg0)
abbrev suits (d : Dev nD) : Vec F S16384x20 .i32 := m ((d : Thread nD τ).loc main_arg1)
abbrev cards (d : Dev nD) : Vec F S16384x20 .i32 := m ((d : Thread nD τ).loc main_arg2)

/-- The arrays before the concatenation. -/
def before7 (d : Dev nD) : Valuation τ sig (Elt F) := StableHlo.after (hostOps.take 9) (atLaunch m d)

abbrev part0 (d : Dev nD) : Vec F S20x16384 .i32 := before7 m d (Proc.devRef .tc main_v0)
abbrev part1 (d : Dev nD) : Vec F S20x16384 .i32 := before7 m d (Proc.devRef .tc main_v3)
abbrev part2 (d : Dev nD) : Vec F S20x16384 .i32 := before7 m d (Proc.devRef .tc main_v6)

theorem words7_eq (d : Dev nD) :
    words7 m d = concatenate S60x16384 0 [⟨S20x16384, part0 m d⟩, ⟨S20x16384, part1 m d⟩, ⟨S20x16384, part2 m d⟩]
      concatenates_S20x16384_S20x16384_S20x16384_S60x16384_d0 := by
  unfold words7 W₁ staged7
  have e : (hostOps (F := F)) = hostOps.take 9 ++
      [StableHlo.nary ![main_v0, main_v3, main_v6] main_v7 (fun u => (concatenate S60x16384 0 [⟨S20x16384, (u 0 : (⟨S20x16384, .i32⟩ : BufTy).Contents (Elt F))⟩, ⟨S20x16384, (u 1 : (⟨S20x16384, .i32⟩ : BufTy).Contents (Elt F))⟩, ⟨S20x16384, (u 2 : (⟨S20x16384, .i32⟩ : BufTy).Contents (Elt F))⟩] concatenates_S20x16384_S20x16384_S20x16384_S60x16384_d0 : (⟨S60x16384, .i32⟩ : BufTy).Contents (Elt F)))] := rfl
  rw [e, StableHlo.after_append, StableHlo.after_cons, StableHlo.after_nil]
  exact (StableHlo.nary_result' _ _ _ _ _).trans rfl

theorem part0_at (d : Dev nD) (k : Fin 20) (n : Fin 16384) : part0 m d (ix2 k n) = ranks m d (ix2 n k) := by
  unfold part0 before7
  simp only [List.take]
  after_reads_at
  rfl

theorem part1_at (d : Dev nD) (k : Fin 20) (n : Fin 16384) : part1 m d (ix2 k n) = (suits m d (ix2 n k) : BitVec 32) + 16#32 := by
  unfold part1 before7
  simp only [List.take]
  after_reads_at
  rfl

theorem part2_at (d : Dev nD) (k : Fin 20) (n : Fin 16384) : part2 m d (ix2 k n) = (cards m d (ix2 n k) : BitVec 32) + 24#32 := by
  unfold part2 before7
  simp only [List.take]
  after_reads_at
  rfl

theorem words7_rank (d : Dev nD) (r : Fin 60) (k : Fin 20) (n : Fin 16384) (h : r.val = k.val) :
    words7 m d (ix2 r n) = ranks m d (ix2 n k) := by
  rw [words7_eq, ← part0_at]
  generalize part0 m d = A; generalize part1 m d = B; generalize part2 m d = C
  pointwise
  rw [dif_pos (show r.val < 20 by omega)]
  exact congrArg (fun x => A (ix2 x n)) (Fin.ext h)

theorem words7_suit (d : Dev nD) (r : Fin 60) (k : Fin 20) (n : Fin 16384) (h : r.val = 20 + k.val) :
    words7 m d (ix2 r n) = (suits m d (ix2 n k) : BitVec 32) + 16#32 := by
  rw [words7_eq, ← part1_at]
  generalize part0 m d = A; generalize part1 m d = B; generalize part2 m d = C
  pointwise
  rw [dif_neg (show ¬ r.val < 20 by omega), dif_pos (show r.val - 20 < 20 by omega)]
  exact congrArg (fun x => B (ix2 x n)) (Fin.ext (show r.val - 20 = k.val by omega))

theorem words7_card (d : Dev nD) (r : Fin 60) (k : Fin 20) (n : Fin 16384) (h : r.val = 40 + k.val) :
    words7 m d (ix2 r n) = (cards m d (ix2 n k) : BitVec 32) + 24#32 := by
  rw [words7_eq, ← part2_at]
  generalize part0 m d = A; generalize part1 m d = B; generalize part2 m d = C
  pointwise
  rw [dif_neg (show ¬ r.val < 20 by omega), dif_neg (show ¬ r.val - 20 < 20 by omega)]
  exact congrArg (fun x => C (ix2 x n)) (Fin.ext (show r.val - 20 - 20 = k.val by omega))

/-- The indices as the launch's memory holds them: each within its own table, or none. -/
structure InTables (d : Dev nD) : Prop where
  rank : ∀ n k, 0 ≤ (ranks m d (ix2 n k) : BitVec 32).toInt ∧ (ranks m d (ix2 n k) : BitVec 32).toInt < 13
  suit : ∀ n k, -16 ≤ (suits m d (ix2 n k) : BitVec 32).toInt ∧ (suits m d (ix2 n k) : BitVec 32).toInt < 4
  card : ∀ n k, -24 ≤ (cards m d (ix2 n k) : BitVec 32).toInt ∧ (cards m d (ix2 n k) : BitVec 32).toInt < 52

/-- A word past an offset no less than its negative range is the sum itself. -/
theorem toNat_add_of (w o : BitVec 32) (lo hi : ℤ) (h : lo ≤ w.toInt ∧ w.toInt < hi) (ho : o.toNat < 2 ^ 16) (hlo : 0 ≤ lo + o.toNat) (hhi : hi ≤ 2 ^ 16) :
    ((w + o).toNat : ℤ) = w.toInt + o.toNat := by
  rw [BitVec.toNat_add]
  have hw := w.isLt
  rw [BitVec.toInt_eq_toNat_cond] at h ⊢
  split at h <;> split <;> omega

theorem words7_lt (h : ∀ d, InTables m d) (d : Dev nD) (j : S60x16384.Idx) : (words7 m d j : BitVec 32).toNat < 80 := by
  obtain ⟨r, n, rfl⟩ : ∃ (r : Fin 60) (n : Fin 16384), j = ix2 r n := ⟨j 0, j 1, funext fun a => by fin_cases a <;> rfl⟩
  have h0 := r.isLt
  by_cases h1 : r.val < 20
  · rw [words7_rank m d r ⟨r.val, h1⟩ n rfl]
    have := (h d).rank n ⟨r.val, h1⟩
    rw [BitVec.toInt_eq_toNat_cond] at this
    split at this <;> omega
  by_cases h2 : r.val < 40
  · rw [words7_suit m d r ⟨r.val - 20, by omega⟩ n (show r.val = 20 + (r.val - 20) by omega)]
    have hs := (h d).suit n ⟨r.val - 20, by omega⟩
    have := toNat_add_of _ 16#32 (-16) 4 hs (by decide) (by decide) (by decide)
    have e : (16#32 : BitVec 32).toNat = 16 := rfl
    omega
  · rw [words7_card m d r ⟨r.val - 40, by omega⟩ n (show r.val = 40 + (r.val - 40) by omega)]
    have hs := (h d).card n ⟨r.val - 40, by omega⟩
    have := toNat_add_of _ 24#32 (-24) 52 hs (by decide) (by decide) (by decide)
    have e : (24#32 : BitVec 32).toNat = 24 := rfl
    omega

end Cert.Hist

end
-- ==== Proof.Ranges.lean ====
/-
  What the precondition says of the launch memory: every rank, suit and card word lies in the range given.
-/
module

public import proofs.«01_k».proof.Proof.Words
public import proofs.«01_k».proof.Proof.Gen.Pre_in_tables
public import proofs.«01_k».proof.Defs
public import Idealize.ShloMosaic.Lib.ReduceAll
public import Idealize.ShloMosaic.Lib.Affine

@[expose] public section

noncomputable section

namespace Cert.Hist

open Idealize.ShloMosaic Idealize.ShloMosaic.TcCoe
open Cert.KernelIdeal Cert.KernelIdeal.Gen

/-- Two comparisons that hold of a word, as its signed value's bounds. -/
theorem bounds_of {v lo hi : BitVec 32} (h : IntOp.andi (IntOp.cmpi .sge v lo) (IntOp.cmpi .slt v hi) = 1#1) : lo.toInt ≤ v.toInt ∧ v.toInt < hi.toInt := by
  obtain ⟨h1, h2⟩ := IntOp.andi_eq_one.mp h
  exact ⟨IntOp.cmpi_sge.mp h1, IntOp.cmpi_slt.mp h2⟩

theorem in_tables_of [Cert.Pre_in_tables.Facts] {F : FTy → Type} [FloatOps F] (m : (ℓ : Loc nD τ sig) → Buf (Elt F) ℓ)
    (h : ∀ d : Dev nD, Cert.Pre_in_tables.fn (F := F) (ranks m d) (suits m d) (cards m d) (m ((d : Thread nD τ).loc main_arg3))
      (m ((d : Thread nD τ).loc main_arg4)) (m ((d : Thread nD τ).loc main_arg5)) = fun _ => 1#1) (d : Dev nD) : InTables m d := by
  have e := congrFun (h d) (fun a => a.elim0)
  dsimp only [Cert.Pre_in_tables.fn, Cert.Pre_in_tables.fn_part1] at e
  obtain ⟨e01, e2⟩ := IntOp.andi_eq_one.mp e
  obtain ⟨e0, e1⟩ := IntOp.andi_eq_one.mp e01
  have r (n k) := bounds_of (Host.reduce_andi_all _ _ _ _ _ e0 (ix2 n k))
  have s (n k) := bounds_of (Host.reduce_andi_all _ _ _ _ _ e1 (ix2 n k))
  have c (n k) := bounds_of (Host.reduce_andi_all _ _ _ _ _ e2 (ix2 n k))
  exact ⟨fun n k => r n k, fun n k => s n k, fun n k => c n k⟩

theorem inTables_kernel [Cert.Pre_in_tables.Facts] (m : (ℓ : Loc nD τ sig) → Buf (Elt Bits) ℓ) (h : Cert.Pre_Kernel m) : ∀ d, InTables m d := in_tables_of m h
theorem inTables_kernelIdeal [Cert.Pre_in_tables.Facts] (m : (ℓ : Loc nD τ sig) → Buf (Elt Ideal) ℓ) (h : Cert.Pre_KernelIdeal m) : ∀ d, InTables m d := in_tables_of m h

end Cert.Hist

end
-- ==== Proof.Frames.lean ====
/-
  The frames of the kernel, at both readings of its floats: one run, its values dropped.
-/
module

public import proofs.«01_k».proof.Proof.Ranges
public import proofs.«01_k».proof.Proof.Gen.Kernel

@[expose] public section

noncomputable section

namespace Cert.Hist

open Idealize.ShloMosaic Idealize.ShloMosaic.TcCoe Idealize.SL.Sem
open Cert.KernelIdeal Cert.KernelIdeal.Gen

/-- The arguments of a device, at the last state of the run: as launched. -/
theorem args_of_run {F : FTy → Type} [FloatOps F] (m : (ℓ : Loc nD τ sig) → Buf (Elt F) ℓ) (r : PUnit × MemSt nD τ sig (Elt F)) (h : QC m r) (d : Dev nD) :
    r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)
    ∧ r.2.mem ((d : Thread nD τ).loc main_arg4) = m ((d : Thread nD τ).loc main_arg4)
    ∧ r.2.mem ((d : Thread nD τ).loc main_arg5) = m ((d : Thread nD τ).loc main_arg5) :=
  ⟨(h.1 d main_arg0 (by decide)).trans (W₃_arg m d main_arg0 (by decide) (by decide) (by decide)),
    (h.1 d main_arg1 (by decide)).trans (W₃_arg m d main_arg1 (by decide) (by decide) (by decide)),
    (h.1 d main_arg2 (by decide)).trans (W₃_arg m d main_arg2 (by decide) (by decide) (by decide)),
    (h.1 d main_arg3 (by decide)).trans (W₃_arg m d main_arg3 (by decide) (by decide) (by decide)),
    (h.1 d main_arg4 (by decide)).trans (W₃_arg m d main_arg4 (by decide) (by decide) (by decide)),
    (h.1 d main_arg5 (by decide)).trans (W₃_arg m d main_arg5 (by decide) (by decide) (by decide))⟩

section Tables
variable {F : FTy → Type} [FloatOps F]

/-- The two readings are of one program: their tables of bodies agree. -/
theorem defs₀_eq : ∀ (pr : Proc τ) (ℓ : Λ₀.Label) (a : Λ₀.Args ℓ), Cert.Kernel.defs₀ (F := F) pr ℓ a = defs₀ (F := F) pr ℓ a
  | .tc, 0, _ => rfl
  | .tc, 1, _ => rfl
  | .scScalar _, 0, _ => rfl
  | .scScalar _, 1, _ => rfl
  | .scVector _ _, 0, _ => rfl
  | .scVector _ _, 1, _ => rfl

theorem defs_eq : Cert.Kernel.defs (F := F) = defs (F := F) :=
  congrArg (fun D : Defs nD τ sig (Elt F) Λ₀ => sc.defs (Pipeline.defs pcfgs D)) (show Cert.Kernel.defs₀ (F := F) = defs₀ from funext fun pr => funext fun ℓ => funext fun a => defs₀_eq pr ℓ a)

end Tables

variable [Cert.Pre_in_tables.Facts]

theorem frame_kernelIdeal : Cert.quiescent_KernelIdeal := fun m ρ hp =>
  (θ_run (defs (F := Ideal)) _ _).mono (fun r h => ⟨fun d => args_of_run m r h d, h.2⟩)
    (run_main (F := Ideal) m ρ (words7_lt m (inTables_kernelIdeal m hp)))

theorem frame_kernel : Cert.quiescent_Kernel := fun m ρ hp => by
  rw [defs_eq]
  exact (θ_run (defs (F := Bits)) (threads (F := Bits)) _).mono (fun r h => ⟨fun d => args_of_run m r h d, h.2⟩)
    (run_main (F := Bits) m ρ (words7_lt m (inTables_kernel m hp)))

end Cert.Hist

end
-- ==== Proof.Reference.lean ====
/-
  The reference's frame: host operations alone, and no semaphore.
-/
module

public import proofs.«01_k».proof.Proof.Gen.ReferenceIdeal.Run
public import proofs.«01_k».proof.Proof.Gen.Pre_in_tables
public import proofs.«01_k».proof.Defs
public import Idealize.ShloMosaic.Lib.Quiescent

@[expose] public section

noncomputable section

namespace Cert.Hist

open Idealize.ShloMosaic Idealize.ShloMosaic.TcCoe Idealize.SL.Sem
open Cert.ReferenceIdeal Cert.ReferenceIdeal.Gen

theorem frame_reference : Cert.quiescent_ReferenceIdeal := fun m ρ _ =>
  (θ_run (defs (F := Ideal)) _ _).mono (fun r h => ⟨fun d => (h d).2, sem_eq_zero_of_no_sems (by decide) r.2⟩)
    (Cert.ReferenceIdeal.Value.run (F := Ideal) m ρ)

end Cert.Hist

end
-- ==== Proof.Product.lean ====
/-
  The TensorCore kernel's result at the extended reals: at every row and column, the sum over the 80 bins of the row's
  count times the table's entry.
-/
module

public import proofs.«01_k».proof.Proof.Launch
public import Idealize.ShloMosaic.Lib.StableHlo.ReadAt
public import Idealize.ShloMosaic.Lib.Pipeline.Value
public import Idealize.ShloMosaic.Lib.Pipeline.ValueKit

@[expose] public section

noncomputable section

namespace Cert.Hist

open Idealize.ShloMosaic Idealize.ShloMosaic.TcCoe
open Cert.KernelIdeal Cert.KernelIdeal.Gen
open Idealize.ShloMosaic.Pipeline (Dat)

/-- The block's product at an index. -/
theorem pay5_at (v3 : Vec Ideal S80x2048 .f32) (v4 : Vec Ideal S80x128 .f32) (n : Fin 2048) (x : Fin 128) :
    k1_pay5 (F := Ideal) v3 v4 (ix2 n x) = ∑ b : Fin 80, (v3 (ix2 b n) : EReal) * v4 (ix2 b x) := by
  unfold k1_pay5
  pointwise

/-- The whole product. -/
def product (C : Vec Ideal S80x16384 .f32) (t : Vec Ideal S80x128 .f32) : Vec Ideal S16384x128 .f32 :=
  fun j => ∑ b : Fin 80, (C (ix2 b (j 0 : Fin 16384)) : EReal) * t (ix2 b (j 1 : Fin 128))

theorem index0 (t : Fin cfg1.N) : win1_0.index t (0 : Fin 2) = 0 ∧ win1_0.index t (1 : Fin 2) = t.val := by
  revert t; decide +kernel
theorem index1 (t : Fin cfg1.N) : win1_1.index t (0 : Fin 2) = 0 ∧ win1_1.index t (1 : Fin 2) = 0 := by
  revert t; decide +kernel
theorem index2 (t : Fin cfg1.N) : win1_2.index t (0 : Fin 2) = 0 ∧ win1_2.index t (1 : Fin 2) = 0 := by
  revert t; decide +kernel
theorem index3 (t : Fin cfg1.N) : win1_3.index t (0 : Fin 2) = 0 ∧ win1_3.index t (1 : Fin 2) = 0 := by
  revert t; decide +kernel
theorem index4 (t : Fin cfg1.N) : win1_4.index t (0 : Fin 2) = t.val ∧ win1_4.index t (1 : Fin 2) = 0 := by
  revert t; decide +kernel

theorem lt8 (t : Fin cfg1.N) : t.val < 8 := N_1 ▸ t.isLt

/-- The counts' block at a point: 2048 columns of the whole. -/
theorem emb0 (t : Fin cfg1.N) (b : Fin 80) (n : Fin 2048) :
    ((cfg1.win 0).blk t).view.emb (ix2 b n : S80x2048.Idx) = (ix2 b (⟨2048 * t.val + n.val, by have := lt8 t; have := n.isLt; omega⟩ : Fin 16384) : S80x16384.Idx) := by
  obtain ⟨e0, e1⟩ := index0 t
  funext a; apply Fin.ext
  match a with
  | ⟨0, _⟩ => show win1_0.index t (0 : Fin 2) * 80 + 1 * b.val = b.val; omega
  | ⟨1, _⟩ => show win1_0.index t (1 : Fin 2) * 2048 + 1 * n.val = 2048 * t.val + n.val; omega

theorem emb1 (t : Fin cfg1.N) (j : S13x128.Idx) : ((cfg1.win 1).blk t).view.emb j = j := by
  obtain ⟨e0, e1⟩ := index1 t
  funext a; apply Fin.ext
  match a with
  | ⟨0, _⟩ => show win1_1.index t (0 : Fin 2) * 13 + 1 * (j 0).val = (j 0).val; omega
  | ⟨1, _⟩ => show win1_1.index t (1 : Fin 2) * 128 + 1 * (j 1).val = (j 1).val; omega
theorem emb2 (t : Fin cfg1.N) (j : S4x128.Idx) : ((cfg1.win 2).blk t).view.emb j = j := by
  obtain ⟨e0, e1⟩ := index2 t
  funext a; apply Fin.ext
  match a with
  | ⟨0, _⟩ => show win1_2.index t (0 : Fin 2) * 4 + 1 * (j 0).val = (j 0).val; omega
  | ⟨1, _⟩ => show win1_2.index t (1 : Fin 2) * 128 + 1 * (j 1).val = (j 1).val; omega
theorem emb3 (t : Fin cfg1.N) (j : S52x128.Idx) : ((cfg1.win 3).blk t).view.emb j = j := by
  obtain ⟨e0, e1⟩ := index3 t
  funext a; apply Fin.ext
  match a with
  | ⟨0, _⟩ => show win1_3.index t (0 : Fin 2) * 52 + 1 * (j 0).val = (j 0).val; omega
  | ⟨1, _⟩ => show win1_3.index t (1 : Fin 2) * 128 + 1 * (j 1).val = (j 1).val; omega

/-- The result's block at a point: 2048 rows of the whole. -/
theorem emb4 (t : Fin cfg1.N) (n : Fin 2048) (x : Fin 128) :
    ((cfg1.win 4).blk t).view.emb (ix2 n x : S2048x128.Idx) = (ix2 (⟨2048 * t.val + n.val, by have := lt8 t; have := n.isLt; omega⟩ : Fin 16384) x : S16384x128.Idx) := by
  obtain ⟨e0, e1⟩ := index4 t
  funext a; apply Fin.ext
  match a with
  | ⟨0, _⟩ => show win1_4.index t (0 : Fin 2) * 2048 + 1 * n.val = 2048 * t.val + n.val; omega
  | ⟨1, _⟩ => show win1_4.index t (1 : Fin 2) * 128 + 1 * x.val = x.val; omega

variable (V : (c : Dev nD) → (b : Ref sig .tc) → Buf (Elt Ideal) ((c : Thread nD τ).loc b))

theorem blk1_eq (c : Dev nD) : blkV V c 1 t1_0 = V c main_arg3 := by
  funext j; show V c main_arg3 (((cfg1.win 1).blk t1_0).view.emb j) = V c main_arg3 j; rw [emb1]
theorem blk2_eq (c : Dev nD) : blkV V c 2 t1_0 = V c main_arg4 := by
  funext j; show V c main_arg4 (((cfg1.win 2).blk t1_0).view.emb j) = V c main_arg4 j; rw [emb2]
theorem blk3_eq (c : Dev nD) : blkV V c 3 t1_0 = V c main_arg5 := by
  funext j; show V c main_arg5 (((cfg1.win 3).blk t1_0).view.emb j) = V c main_arg5 j; rw [emb3]

/-- The tables' layout, from the arrays. -/
theorem tbl_eq (c : Dev nD) : tbl V c = tab (F := Ideal) (V c main_arg3) (V c main_arg4) (V c main_arg5) := by
  unfold tbl; rw [blk1_eq, blk2_eq, blk3_eq]

/-- What a point writes back is its block of the whole product. -/
theorem flushed4_eq (c : Dev nD) (t : Fin cfg1.N) :
    (dat V c).flushed 4 t = ((cfg1.win 4).blk t).view.read (Elt Ideal) (product (V c main_v8) (tbl V c)) := by
  funext j
  obtain ⟨n, x, rfl⟩ : ∃ (n : Fin 2048) (x : Fin 128), j = (ix2 n x : S2048x128.Idx) := ⟨j 0, j 1, funext fun a => by match a with | ⟨0, _⟩ => rfl | ⟨1, _⟩ => rfl⟩
  show prod V c t (ix2 n x) = product (V c main_v8) (tbl V c) (((cfg1.win 4).blk t).view.emb (ix2 n x : S2048x128.Idx))
  rw [emb4]
  unfold prod
  rw [pay5_at]
  refine Finset.sum_congr rfl fun b _ => ?_
  refine congrArg (fun z : EReal => z * tbl V c (ix2 b x)) ?_
  exact congrArg (V c main_v8) (emb0 t b n)

/-- Every row is in some point's block. -/
theorem covered4 (i : S16384x128.Idx) : ∃ t : Fin cfg1.N, (cfg1.win 4).flush t = true ∧ i ∈ ((cfg1.win 4).blk t).view.set := by
  have hi : (i 0).val < 16384 := (i 0).isLt
  let t : Fin cfg1.N := ⟨(i 0).val / 2048, (show _ < grid1.N by rw [N_1]; omega)⟩
  have h := ((cfg1.win 4).blk t).view.emb_mem_set (ix2 (⟨(i 0).val % 2048, by omega⟩ : Fin 2048) (i 1 : Fin 128) : S2048x128.Idx)
  have e : ((cfg1.win 4).blk t).view.emb (ix2 (⟨(i 0).val % 2048, by omega⟩ : Fin 2048) (i 1 : Fin 128) : S2048x128.Idx) = i := by
    refine (emb4 t _ _).trans ?_
    funext a; apply Fin.ext
    match a with
    | ⟨0, _⟩ => show 2048 * ((i 0).val / 2048) + (i 0).val % 2048 = (i 0).val; omega
    | ⟨1, _⟩ => rfl
  exact ⟨t, flush1_4 t, (congrArg (· ∈ ((cfg1.win 4).blk t).view.set) e).mp h⟩

/-- The result after the run. -/
theorem result_eq (c : Dev nD) : result V c = product (V c main_v8) (tab (F := Ideal) (V c main_arg3) (V c main_arg4) (V c main_arg5)) := by
  rw [← tbl_eq]
  exact (dat V c).arrAt_eq_of_cover 4 (product (V c main_v8) (tbl V c)) (fun t _ => flushed4_eq V c t) covered4

end Cert.Hist

end
-- ==== Proof.Count.lean ====
/-
  The tally at the extended reals, and its product with a table.

  A column's count of a bin is a number of ones. So the counts times a table's rows, summed over the bins, are the rows
  that the column's words name, summed over the words that are counted. The counts are nonnegative, so the product
  distributes over their sum whatever the table holds.
-/
module

public import proofs.«01_k».proof.Proof.Tally
public import Idealize.ShloMosaic.Lib.IdealHost

@[expose] public section

noncomputable section

namespace Cert.Hist

open Idealize.ShloMosaic

/-- One run's counting, each row's word taken with the section's first bin. -/
def pairs : List (BitVec 32 × Fin 60) := (runs.map fun p => p.2.map fun r => (p.1, r)).flatten

/-- Whether a word is counted. -/
abbrev Counted (bnd w : BitVec 32) : Prop := Scalar.cmpi .sge w bnd = 1#1

/-- What a row adds to a bin's count. -/
def unitAt (w : Fin 60 → BitVec 32) (b : ℕ) (p : BitVec 32 × Fin 60) : EReal := if Counted p.1 (w p.2) ∧ (w p.2).toNat = b then 1 else 0

theorem unitAt_nonneg (w : Fin 60 → BitVec 32) (b : ℕ) (p : BitVec 32 × Fin 60) : 0 ≤ unitAt w b p := by
  unfold unitAt; split
  · exact zero_le_one
  · exact le_refl _

theorem bump_ideal (w : Fin 60 → BitVec 32) (b : ℕ) (p : BitVec 32 × Fin 60) (x : EReal) :
    bump (F := Ideal) p.1 (w p.2) b x = x + unitAt w b p := by
  unfold bump unitAt
  by_cases h : Counted p.1 (w p.2) ∧ (w p.2).toNat = b
  · rw [if_pos h, if_pos h]
    exact congrArg (x + ·) Ideal.ofBits_one_f32
  · rw [if_neg h, if_neg h, add_zero]

theorem foldl_bump (w : Fin 60 → BitVec 32) (b : ℕ) (bnd : BitVec 32) (rows : List (Fin 60)) (x : EReal) :
    rows.foldl (fun x r => bump (F := Ideal) bnd (w r) b x) x = x + ((rows.map fun r => (bnd, r)).map (unitAt w b)).sum := by
  induction rows generalizing x with
  | nil => exact (add_zero x).symm
  | cons r rs ih =>
    rw [List.foldl_cons, ih, List.map_cons, List.map_cons, List.sum_cons, ← add_assoc]
    exact congrArg (· + _) (bump_ideal w b (bnd, r) x)

theorem tallyOn_ideal (ps : List (BitVec 32 × List (Fin 60))) (w : Fin 60 → BitVec 32) (b : ℕ) (x : EReal) :
    tallyOn (F := Ideal) ps w b x = x + ((ps.map fun p => p.2.map fun r => (p.1, r)).flatten.map (unitAt w b)).sum := by
  unfold tallyOn
  induction ps generalizing x with
  | nil => exact (add_zero x).symm
  | cons p ps ih =>
    rw [List.foldl_cons, ih, List.map_cons, List.flatten_cons, List.map_append, List.sum_append, ← add_assoc]
    exact congrArg (· + _) (foldl_bump w b p.1 p.2 x)

theorem tally_ideal (w : Fin 60 → BitVec 32) (b : ℕ) : tally (F := Ideal) w b = (pairs.map (unitAt w b)).sum := by
  unfold tally
  rw [tallyOn_ideal]
  refine (congrArg (· + _) ?_).trans (zero_add _)
  exact Ideal.ofBits_zero_f32

/-- The counts' product with a table: each counted word's row. -/
theorem sum_counts (w : Fin 60 → BitVec 32) (t : Fin 80 → EReal) (l : List (BitVec 32 × Fin 60)) (hw : ∀ r, (w r).toNat < 80) :
    ∑ b : Fin 80, (l.map (unitAt w b.val)).sum * t b = (l.map fun p => if Counted p.1 (w p.2) then t ⟨(w p.2).toNat, hw p.2⟩ else 0).sum := by
  induction l with
  | nil => exact Finset.sum_eq_zero fun b _ => zero_mul _
  | cons p l ih =>
    simp only [List.map_cons, List.sum_cons]
    rw [← ih]
    have hd : ∀ b : Fin 80, (unitAt w b.val p + (l.map (unitAt w b.val)).sum) * t b = unitAt w b.val p * t b + (l.map (unitAt w b.val)).sum * t b := fun b =>
      EReal.right_distrib_of_nonneg (unitAt_nonneg _ _ _) (List.sum_nonneg fun x hx => by
        obtain ⟨q, -, rfl⟩ := List.mem_map.mp hx; exact unitAt_nonneg _ _ _)
    rw [Finset.sum_congr rfl fun b _ => hd b, Finset.sum_add_distrib]
    refine congrArg (· + _) ?_
    by_cases hc : Counted p.1 (w p.2)
    · rw [if_pos hc, Finset.sum_eq_single (⟨(w p.2).toNat, hw p.2⟩ : Fin 80)]
      · unfold unitAt; rw [if_pos ⟨hc, rfl⟩, one_mul]
      · intro b _ hb
        unfold unitAt
        rw [if_neg fun h => hb (Fin.ext h.2.symm), zero_mul]
      · intro h; exact absurd (Finset.mem_univ _) h
    · rw [if_neg hc]
      exact Finset.sum_eq_zero fun b _ => by unfold unitAt; rw [if_neg fun h => hc h.1, zero_mul]

/-- A sum over the sixty rows, a section at a time. -/
theorem sum_pairs (f : BitVec 32 × Fin 60 → EReal) :
    (pairs.map f).sum = (∑ k : Fin 20, f (0#32, ⟨k.val, by omega⟩)) + (∑ k : Fin 20, f (16#32, ⟨20 + k.val, by omega⟩))
      + ∑ k : Fin 20, f (24#32, ⟨40 + k.val, by omega⟩) := by
  have e : pairs = (List.finRange 20).map (fun k => ((0#32 : BitVec 32), (⟨k.val, by omega⟩ : Fin 60)))
      ++ (List.finRange 20).map (fun k => ((16#32 : BitVec 32), (⟨20 + k.val, by omega⟩ : Fin 60)))
      ++ (List.finRange 20).map (fun k => ((24#32 : BitVec 32), (⟨40 + k.val, by omega⟩ : Fin 60))) := by decide +kernel
  have h : ∀ g : Fin 20 → EReal, ∑ k, g k = ((List.finRange 20).map g).sum := fun g => by
    rw [← List.ofFn_eq_map, List.sum_ofFn]
  rw [e, h, h, h]
  simp only [List.map_append, List.sum_append, List.map_map]
  rfl

end Cert.Hist

end
-- ==== Proof.KernelValue.lean ====
/-
  The kernel's result as a sum over the twenty slots of a row: for each slot the rows of the three tables that its rank,
  its suit and its card name, a negative index naming none.
-/
module

public import proofs.«01_k».proof.Proof.Product
public import proofs.«01_k».proof.Proof.Count
public import proofs.«01_k».proof.Proof.Words

@[expose] public section

noncomputable section

namespace Cert.Hist

open Idealize.ShloMosaic Idealize.ShloMosaic.TcCoe
open Cert.KernelIdeal Cert.KernelIdeal.Gen

/-- The row of a table of `N` rows that a word names, read at a column; zero if the word is negative (or too large). -/
def pick {N : ℕ} (t : (⟨2, ![N, 128]⟩ : Shape).Idx → EReal) (w : BitVec 32) (x : Fin 128) : EReal :=
  if h : 0 ≤ w.toInt ∧ w.toInt.toNat < N then t (ix2 (⟨w.toInt.toNat, h.2⟩ : Fin N) x) else 0

theorem pick_pos {N : ℕ} (t : (⟨2, ![N, 128]⟩ : Shape).Idx → EReal) (w : BitVec 32) (x : Fin 128) (b : Fin N) (h : w.toInt = b.val) :
    pick t w x = t (ix2 b x) := by
  have hb := b.isLt
  unfold pick
  rw [dif_pos ⟨by omega, by omega⟩]
  exact congrArg (fun y => t (ix2 y x)) (Fin.ext (show w.toInt.toNat = b.val by omega))

theorem pick_neg {N : ℕ} (t : (⟨2, ![N, 128]⟩ : Shape).Idx → EReal) (w : BitVec 32) (x : Fin 128) (h : w.toInt < 0) : pick t w x = 0 := by
  unfold pick; rw [dif_neg fun h' => absurd h'.1 (by omega)]

/-- What the three tables give a row: summed over its slots, table by table. -/
def gathered (R S C : Vec Ideal S16384x20 .i32) (x2 : Vec Ideal S13x128 .f32) (x3 : Vec Ideal S4x128 .f32) (x4 : Vec Ideal S52x128 .f32) :
    Vec Ideal S16384x128 .f32 := fun j =>
  (∑ k : Fin 20, pick x2 (R (ix2 (j 0 : Fin 16384) k)) (j 1)) + (∑ k : Fin 20, pick x3 (S (ix2 (j 0 : Fin 16384) k)) (j 1))
    + ∑ k : Fin 20, pick x4 (C (ix2 (j 0 : Fin 16384) k)) (j 1)

/-! ## The layout of the tables, read -/

section layout
variable (x2 : Vec Ideal S13x128 .f32) (x3 : Vec Ideal S4x128 .f32) (x4 : Vec Ideal S52x128 .f32)

theorem ix2_same {a b : ℕ} (p : Fin a) (q : Fin b) : ValueIdx.ix2 p q = ix2 p q := by
  funext i; match i with | ⟨0, _⟩ => rfl | ⟨1, _⟩ => rfl

theorem tab_rank (b : Fin 80) (x : Fin 128) (r : Fin 13) (h : b.val = r.val) : tab x2 x3 x4 (ix2 b x) = x2 (ix2 r x) := by
  have hr := r.isLt
  unfold tab
  rw [dif_pos (show ((ix2 b x : S80x128.Idx) 0).val < 13 by show b.val < 13; omega)]
  refine congrArg x2 ((ix2_same _ _).trans ?_)
  exact congrArg (fun y => ix2 y x) (Fin.ext h)
theorem tab_suit (b : Fin 80) (x : Fin 128) (r : Fin 4) (h : b.val = 16 + r.val) : tab x2 x3 x4 (ix2 b x) = x3 (ix2 r x) := by
  have hr := r.isLt
  unfold tab
  rw [dif_neg (show ¬ ((ix2 b x : S80x128.Idx) 0).val < 13 by show ¬ b.val < 13; omega),
    dif_pos (show 16 ≤ ((ix2 b x : S80x128.Idx) 0).val ∧ ((ix2 b x : S80x128.Idx) 0).val < 20 by show 16 ≤ b.val ∧ b.val < 20; omega)]
  refine congrArg x3 ((ix2_same _ _).trans ?_)
  exact congrArg (fun y => ix2 y x) (Fin.ext (show b.val - 16 = r.val by omega))
theorem tab_card (b : Fin 80) (x : Fin 128) (r : Fin 52) (h : b.val = 24 + r.val) : tab x2 x3 x4 (ix2 b x) = x4 (ix2 r x) := by
  have hr := r.isLt
  unfold tab
  rw [dif_neg (show ¬ ((ix2 b x : S80x128.Idx) 0).val < 13 by show ¬ b.val < 13; omega),
    dif_neg (show ¬ (16 ≤ ((ix2 b x : S80x128.Idx) 0).val ∧ ((ix2 b x : S80x128.Idx) 0).val < 20) by show ¬ (16 ≤ b.val ∧ b.val < 20); omega),
    dif_pos (show 24 ≤ ((ix2 b x : S80x128.Idx) 0).val ∧ ((ix2 b x : S80x128.Idx) 0).val < 76 by show 24 ≤ b.val ∧ b.val < 76; omega)]
  refine congrArg x4 ((ix2_same _ _).trans ?_)
  exact congrArg (fun y => ix2 y x) (Fin.ext (show b.val - 24 = r.val by omega))

end layout

/-! ## A word, counted -/

theorem counted_iff (bnd w : BitVec 32) : Counted bnd w ↔ bnd.toInt ≤ w.toInt := IntOp.cmpi_sge

/-- A word moved up by its section's first bin: what it adds is the row that it names, or nothing. -/
theorem counted_pick {N : ℕ} (t : (⟨2, ![N, 128]⟩ : Shape).Idx → EReal) (T : Fin 80 → EReal) (w bnd u : BitVec 32) (x : Fin 128) (hu : u.toNat < 80)
    (hbnd : bnd.toNat < 2 ^ 16) (hb : w.toInt + bnd.toNat = (u.toNat : ℤ)) (hN : w.toInt < N) (hT : ∀ (b : Fin 80) (r : Fin N), b.val = bnd.toNat + r.val → T b = t (ix2 r x)) :
    (if Counted bnd u then T ⟨u.toNat, hu⟩ else 0) = pick t w x := by
  have e1 : u.toInt = u.toNat := BitVec.toInt_eq_toNat_of_lt (by omega)
  have e2 : bnd.toInt = bnd.toNat := BitVec.toInt_eq_toNat_of_lt (by omega)
  by_cases h : 0 ≤ w.toInt
  · rw [if_pos ((counted_iff _ _).mpr (by omega))]
    have hw : w.toInt.toNat < N := by omega
    rw [pick_pos t w x ⟨w.toInt.toNat, hw⟩ (show w.toInt = (w.toInt.toNat : ℤ) by omega)]
    exact hT _ _ (show u.toNat = bnd.toNat + w.toInt.toNat by omega)
  · rw [if_neg fun h' => h (by have := (counted_iff _ _).mp h'; omega), pick_neg t w x (by omega)]

theorem toNat_of_nonneg (w : BitVec 32) (h : 0 ≤ w.toInt) : w.toInt = (w.toNat : ℤ) := by
  rw [BitVec.toInt_eq_toNat_cond] at h ⊢
  have := w.isLt
  split at h <;> split <;> omega

/-- A column's counts times a layout of three tables, from the column's words. -/
theorem column_eq (w : Fin 60 → BitVec 32) (hw : ∀ r, (w r).toNat < 80) (ρ σ κ : Fin 20 → BitVec 32)
    (hρ : ∀ k : Fin 20, w ⟨k.val, by omega⟩ = ρ k) (hσ : ∀ k : Fin 20, w ⟨20 + k.val, by omega⟩ = σ k + 16#32)
    (hκ : ∀ k : Fin 20, w ⟨40 + k.val, by omega⟩ = κ k + 24#32)
    (bρ : ∀ k, 0 ≤ (ρ k).toInt ∧ (ρ k).toInt < 13) (bσ : ∀ k, -16 ≤ (σ k).toInt ∧ (σ k).toInt < 4) (bκ : ∀ k, -24 ≤ (κ k).toInt ∧ (κ k).toInt < 52)
    (T : Fin 80 → EReal) (x : Fin 128)
    (x2 : (⟨2, ![13, 128]⟩ : Shape).Idx → EReal) (x3 : (⟨2, ![4, 128]⟩ : Shape).Idx → EReal) (x4 : (⟨2, ![52, 128]⟩ : Shape).Idx → EReal)
    (h2 : ∀ (b : Fin 80) (r : Fin 13), b.val = r.val → T b = x2 (ix2 r x)) (h3 : ∀ (b : Fin 80) (r : Fin 4), b.val = 16 + r.val → T b = x3 (ix2 r x))
    (h4 : ∀ (b : Fin 80) (r : Fin 52), b.val = 24 + r.val → T b = x4 (ix2 r x)) :
    ∑ b : Fin 80, (pairs.map (unitAt w b.val)).sum * T b = (∑ k, pick x2 (ρ k) x) + (∑ k, pick x3 (σ k) x) + ∑ k, pick x4 (κ k) x := by
  rw [sum_counts w T pairs hw, sum_pairs]
  refine congrArg₂ (fun a b : EReal => a + b) (congrArg₂ (fun a b : EReal => a + b) ?_ ?_) ?_
  · refine Finset.sum_congr rfl fun k _ => ?_
    refine counted_pick x2 T (ρ k) 0#32 _ x (hw _) (by decide) ?_ (bρ k).2 fun b r e => h2 b r (e.trans (Nat.zero_add _))
    rw [hρ k]
    exact (add_zero _).trans (toNat_of_nonneg _ (bρ k).1)
  · refine Finset.sum_congr rfl fun k _ => ?_
    refine counted_pick x3 T (σ k) 16#32 _ x (hw _) (by decide) ?_ (bσ k).2 h3
    rw [hσ k]
    exact (toNat_add_of _ 16#32 (-16) 4 (bσ k) (by decide) (by decide) (by decide)).symm
  · refine Finset.sum_congr rfl fun k _ => ?_
    refine counted_pick x4 T (κ k) 24#32 _ x (hw _) (by decide) ?_ (bκ k).2 h4
    rw [hκ k]
    exact (toNat_add_of _ 24#32 (-24) 52 (bκ k) (by decide) (by decide) (by decide)).symm

/-- The product at an index, from the column of words. -/
theorem product_at (W : Vec Ideal S60x16384 .i32) (t : Vec Ideal S80x128 .f32) (n : Fin 16384) (x : Fin 128) :
    product (histOf W) t (ix2 n x) = ∑ b : Fin 80, (pairs.map (unitAt (fun r => W (ix2 r n)) b.val)).sum * t (ix2 b x) := by
  refine Finset.sum_congr rfl fun b _ => congrArg (fun z : EReal => z * t (ix2 b x)) ?_
  refine (tally_ideal _ _).trans ?_
  refine congrArg (fun w : Fin 60 → BitVec 32 => (pairs.map (unitAt w b.val)).sum) (funext fun r => ?_)
  exact congrArg W (ix2_same r n)

/-! ## The result -/

variable (m : (ℓ : Loc nD τ sig) → Buf (Elt Ideal) ℓ)

theorem product_eq (h : ∀ d, InTables m d) (d : Dev nD) (x2 : Vec Ideal S13x128 .f32) (x3 : Vec Ideal S4x128 .f32) (x4 : Vec Ideal S52x128 .f32) :
    product (histOf (words7 m d)) (tab (F := Ideal) x2 x3 x4) = gathered (ranks m d) (suits m d) (cards m d) x2 x3 x4 := by
  funext j
  obtain ⟨n, x, rfl⟩ : ∃ (n : Fin 16384) (x : Fin 128), j = (ix2 n x : S16384x128.Idx) := ⟨j 0, j 1, funext fun a => by match a with | ⟨0, _⟩ => rfl | ⟨1, _⟩ => rfl⟩
  refine (product_at (words7 m d) (tab (F := Ideal) x2 x3 x4) n x).trans ?_
  exact column_eq (fun r => words7 m d (ix2 r n)) (fun r => words7_lt m h d _) (fun k => ranks m d (ix2 n k)) (fun k => suits m d (ix2 n k))
    (fun k => cards m d (ix2 n k)) (fun k => words7_rank m d _ k n rfl) (fun k => words7_suit m d _ k n rfl) (fun k => words7_card m d _ k n rfl)
    ((h d).rank n) ((h d).suit n) ((h d).card n) (fun b => tab (F := Ideal) x2 x3 x4 (ix2 b x)) x x2 x3 x4
    (fun b r e => tab_rank x2 x3 x4 b x r e) (fun b r e => tab_suit x2 x3 x4 b x r e) (fun b r e => tab_card x2 x3 x4 b x r e)

/-- The result array at the end of the run. -/
theorem W₃_result (h : ∀ d, InTables m d) (d : Dev nD) : W₃ m d main_v9 = gathered (ranks m d) (suits m d) (cards m d)
    (m ((d : Thread nD τ).loc main_arg3)) (m ((d : Thread nD τ).loc main_arg4)) (m ((d : Thread nD τ).loc main_arg5)) := by
  have arg : ∀ (r : Ref sig .tc) (_ : r ∉ [main_v0, main_v1, main_c, main_v2, main_v3, main_v4, main_c_0, main_v5, main_v6, main_v7]) (_ : r ≠ main_v8)
      (_ : r ≠ main_v9), W₂ m d r = m ((d : Thread nD τ).loc r) := fun r hr h8 h9 => (W₃_ne m d r h9).symm.trans (W₃_arg m d r hr h8 h9)
  rw [W₃_out, result_eq, arg main_arg3 (by decide) (by decide) (by decide), arg main_arg4 (by decide) (by decide) (by decide),
    arg main_arg5 (by decide) (by decide) (by decide), show W₂ m d main_v8 = histOf (words7 m d) from setCounts_self d (W₁ m d) (histOf (words7 m d))]
  exact product_eq m h d _ _ _

end Cert.Hist

end
-- ==== Proof.Slots.lean ====
/-
  The reference's value, from its printed operations: the twenty slots' rows of the three tables, summed.
-/
module

public import proofs.«01_k».proof.Proof.Gen.ReferenceIdeal.Run
public import proofs.«01_k».proof.Proof.KernelValue
public import Idealize.ShloMosaic.Lib.ReduceAll
public import Idealize.ShloMosaic.Lib.Routing.Ops
public import Idealize.ShloMosaic.Lib.WordArith

@[expose] public section

noncomputable section

namespace Cert.Hist.Slots

open Idealize.ShloMosaic Idealize.ShloMosaic.TcCoe
open Cert.ReferenceIdeal Cert.ReferenceIdeal.Gen
open Cert.Hist (pick pick_pos pick_neg ix2_same)

/-! ## The printed operations, named -/

def flat (a : IVec S16384x20 32) : IVec S327680 32 := shapeCast S327680 a shapeCasts_S16384x20_S327680
def clip (w : IVec S327680 32) : IVec S327680 32 := maxsi (broadcastInDim S327680 ![] bcast_S_S327680 (id (constantI S_ 32 0#32))) w
def wrap (N : BitVec 32) (w : IVec S327680 32) : IVec S327680 32 :=
  select (cmpi .slt (clip w) (broadcastInDim S327680 ![] bcast_S_S327680 (constantI S_ 32 0#32)))
    (addi (clip w) (broadcastInDim S327680 ![] bcast_S_S327680 (constantI S_ 32 N))) (clip w)
def start (N : BitVec 32) (w : IVec S327680 32) : IVec S327680x1 32 := broadcastInDim S327680x1 ![0] bcast_S327680_S327680x1_0 (wrap N w)
def within (N N1 : BitVec 32) (w : IVec S327680 32) : IVec S327680x1 1 :=
  andi (cmpi .sge (start N w) (broadcastInDim S327680x1 ![] bcast_S_S327680x1 (constantI S_ 32 0#32)))
    (cmpi .sle (start N w) (broadcastInDim S327680x1 ![0, 1] bcast_S1x1_S327680x1_0_1 (broadcastInDim S1x1 ![1] bcast_S1_S1x1_1 (constantI S1 32 N1))))
def inside (N N1 : BitVec 32) (w : IVec S327680 32) : IVec S327680 1 :=
  Host.reduce IntOp.andi (within N N1 w) (constantI S_ 1 1#1) reducesTo_S327680x1_S327680_d1 h_S_
def taken {s : Shape} (d : GatherDims s S327680x1 S327680x128) (N N1 : BitVec 32) (t : FVec Ideal s .f32) (w : IVec S327680 32) : FVec Ideal S327680x128 .f32 :=
  select (broadcastInDim S327680x128 ![0] bcast_S327680_S327680x128_0 (inside N N1 w)) (Host.gather d t (start N w))
    (broadcastInDim S327680x128 ![] bcast_S_S327680x128 (constant S_ .f32 0x7FC00000#32))
def valid (w : IVec S327680 32) : FVec Ideal S327680x128 .f32 :=
  broadcastInDim S327680x128 ![0, 1] bcast_S327680x1_S327680x128_0_1 (broadcastInDim S327680x1 ![0] bcast_S327680_S327680x1_0
    (uitofp .f32 (cmpi .sge w (broadcastInDim S327680 ![] bcast_S_S327680 (constantI S_ 32 0#32)))))
def slots {s : Shape} (d : GatherDims s S327680x1 S327680x128) (N N1 : BitVec 32) (t : FVec Ideal s .f32) (w : IVec S327680 32) : FVec Ideal S327680x128 .f32 :=
  mulf (taken d N N1 t w) (valid w)
def summed (v : FVec Ideal S327680x128 .f32) : FVec Ideal S16384x128 .f32 :=
  Host.reduceAdd (shapeCast S16384x20x128 v shapeCasts_S327680x128_S16384x20x128) (constant S_ .f32 0x00000000#32) reducesTo_S16384x20x128_S16384x128_d1 h_S_
def total (R S C : IVec S16384x20 32) (x2 : FVec Ideal S13x128 .f32) (x3 : FVec Ideal S4x128 .f32) (x4 : FVec Ideal S52x128 .f32) : FVec Ideal S16384x128 .f32 :=
  summed (addf (addf (slots gather_S13x128_S327680x1_S327680x128_1_0_n_n_0_1_1128 13#32 12#32 x2 (flat R))
    (slots gather_S52x128_S327680x1_S327680x128_1_0_n_n_0_1_1128 52#32 51#32 x4 (flat C)))
    (slots gather_S4x128_S327680x1_S327680x128_1_0_n_n_0_1_1128 4#32 3#32 x3 (flat S)))

set_option maxRecDepth 8192 in
theorem res_eq (m : (ℓ : Loc nD τ sig) → Buf (Elt Ideal) ℓ) (c : Dev nD) :
    Cert.ReferenceIdeal.Value.res_main_v30 (F := Ideal) m c = total (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-! ## Read at an index -/

theorem flat_at (a : IVec S16384x20 32) (n : Fin 16384) (k : Fin 20) (q : Fin 327680) (hq : q.val = n.val * 20 + k.val) : flat a (ix1 q) = a (ix2 n k) := by
  have hk := k.isLt
  unfold flat
  pointwise
  refine congrArg a ?_
  funext i
  match i with
  | ⟨0, _⟩ => exact Fin.ext (show q.val / 20 = n.val by omega)
  | ⟨1, _⟩ => exact Fin.ext (show q.val % 20 = k.val by omega)

theorem wrap_at (N : BitVec 32) (w : IVec S327680 32) (q : Fin 327680) : wrap N w (ix1 q) = IntOp.maxsi 0#32 (w (ix1 q)) := by
  unfold wrap clip
  pointwise
  show Scalar.select (IntOp.cmpi .slt (IntOp.maxsi 0#32 (w (ix1 q))) 0#32) _ (IntOp.maxsi 0#32 (w (ix1 q))) = _
  refine Scalar.select_of_ne_one (fun h => ?_) _ _
  have h' := IntOp.cmpi_slt.mp h
  rw [WordArith.toInt_maxsi_zero, show (0#32 : BitVec 32).toInt = 0 from rfl] at h'
  omega

theorem start_at (N : BitVec 32) (w : IVec S327680 32) (q : Fin 327680) : start N w (ix2 q (0 : Fin 1)) = IntOp.maxsi 0#32 (w (ix1 q)) := by
  rw [← wrap_at N]
  unfold start
  generalize wrap N w = v
  pointwise

/-- With every word below the table's size, the check that each index is in the table passes. -/
theorem inside_at (N N1 : BitVec 32) (w : IVec S327680 32) (hw : ∀ q, (w (ix1 q)).toInt ≤ N1.toInt) (hN1 : 0 ≤ N1.toInt) (q : Fin 327680) : inside N N1 w (ix1 q) = 1#1 := by
  refine Host.reduce_andi_one _ _ _ _ _ rfl fun i => ?_
  obtain ⟨p, rfl⟩ : ∃ p : Fin 327680, i = (ix2 p (0 : Fin 1) : S327680x1.Idx) := ⟨i 0, funext fun a => by
    match a with
    | ⟨0, _⟩ => rfl
    | ⟨1, _⟩ => exact Fin.ext (show (i 1).val = 0 by have : (i 1).val < 1 := (i 1).isLt; omega)⟩
  have hs := start_at N w p
  unfold within
  generalize start N w = v at hs ⊢
  pointwise
  rw [hs]
  refine IntOp.andi_eq_one.mpr ⟨IntOp.cmpi_sge.mpr ?_, IntOp.cmpi_sle.mpr ?_⟩
  · rw [WordArith.toInt_maxsi_zero, show (0#32 : BitVec 32).toInt = 0 from rfl]; omega
  · rw [WordArith.toInt_maxsi_zero]; have := hw p; omega

theorem taken_at {M : ℕ} (d : GatherDims (⟨2, ![M, 128]⟩ : Shape) S327680x1 S327680x128) (hoff : d.offsetDims = [1])
    (hcoll : d.collapsedSliceDims = [0]) (hob : d.operandBatchingDims = []) (hsim : d.startIndexMap = [0]) (hivd : d.indexVectorDim = 1)
    (N N1 : BitVec 32) (t : FVec Ideal (⟨2, ![M, 128]⟩ : Shape) .f32) (w : IVec S327680 32)
    (hw : ∀ q, (w (ix1 q)).toInt ≤ N1.toInt) (hN1 : 0 ≤ N1.toInt) (hM : N1.toInt + 1 = M) (hM' : M < 2 ^ 31) (q : Fin 327680) (x : Fin 128) (b : Fin M)
    (hb : max 0 (w (ix1 q)).toInt = b.val) : taken d N N1 t w (ix2 q x) = t (ix2 b x) := by
  have hi := inside_at N N1 w hw hN1 q
  have hg : Host.gather d t (start N w) (ix2 q x) = t (ix2 b x) := by
    refine (congrArg (Host.gather d t (start N w)) (ix2_same q x).symm).trans ?_
    refine (Routing.gather_row d hoff hcoll hob hsim hivd t (start N w) q x b ?_ hM').trans (congrArg t (ix2_same b x))
    refine (congrArg (start N w) (ix2_same q (0 : Fin 1))).trans ((start_at N w q).trans ?_)
    refine BitVec.eq_of_toInt_eq ?_
    have hbl := b.isLt
    rw [WordArith.toInt_maxsi_zero, hb, BitVec.toInt_ofNat', Int.bmod_eq_of_le (by omega) (by omega)]
  rw [← hg]
  unfold taken
  generalize Host.gather d t (start N w) = g
  generalize inside N N1 w = v at hi ⊢
  pointwise
  rw [hi]
  rfl

theorem valid_at (w : IVec S327680 32) (q : Fin 327680) (x : Fin 128) : valid w (ix2 q x) = if 0 ≤ (w (ix1 q)).toInt then (1 : EReal) else 0 := by
  unfold valid
  pointwise
  show (((IntOp.cmpi .sge (w (ix1 q)) 0#32).toNat : ℝ) : EReal) = _
  by_cases h : 0 ≤ (w (ix1 q)).toInt
  · rw [if_pos h, IntOp.cmpi_sge.mpr (show (0#32 : BitVec 32).toInt ≤ _ from h)]
    simp
  · rw [if_neg h, (BitVec.eq_zero_or_eq_one (IntOp.cmpi .sge (w (ix1 q)) 0#32)).resolve_right fun e => h (IntOp.cmpi_sge.mp e)]
    simp

/-- A slot's term: the row its word names, or nothing. -/
theorem slots_at {M : ℕ} (d : GatherDims (⟨2, ![M, 128]⟩ : Shape) S327680x1 S327680x128) (hoff : d.offsetDims = [1])
    (hcoll : d.collapsedSliceDims = [0]) (hob : d.operandBatchingDims = []) (hsim : d.startIndexMap = [0]) (hivd : d.indexVectorDim = 1)
    (N N1 : BitVec 32) (t : FVec Ideal (⟨2, ![M, 128]⟩ : Shape) .f32) (w : IVec S327680 32)
    (hw : ∀ q, (w (ix1 q)).toInt ≤ N1.toInt) (hN1 : 0 ≤ N1.toInt) (hM : N1.toInt + 1 = M) (hM' : M < 2 ^ 31) (q : Fin 327680) (x : Fin 128) :
    slots d N N1 t w (ix2 q x) = pick t (w (ix1 q)) x := by
  have hq := hw q
  have e := taken_at d hoff hcoll hob hsim hivd N N1 t w hw hN1 hM hM' q x ⟨(w (ix1 q)).toInt.toNat, by omega⟩
    (show max 0 (w (ix1 q)).toInt = (((w (ix1 q)).toInt.toNat : ℕ) : ℤ) by omega)
  show (taken d N N1 t w (ix2 q x) : EReal) * valid w (ix2 q x) = _
  rw [e, valid_at]
  by_cases h : 0 ≤ (w (ix1 q)).toInt
  · rw [if_pos h, mul_one]
    exact (pick_pos t _ x _ (show (w (ix1 q)).toInt = (((w (ix1 q)).toInt.toNat : ℕ) : ℤ) by omega)).symm
  · rw [if_neg h, mul_zero, pick_neg t _ x (by omega)]

theorem summed_at (v : FVec Ideal S327680x128 .f32) (n : Fin 16384) (x : Fin 128) :
    summed v (ix2 n x) = ∑ k : Fin 20, (v (ix2 (⟨n.val * 20 + k.val, by have := n.isLt; have := k.isLt; omega⟩ : Fin 327680) x) : EReal) := by
  unfold summed
  pointwise

/-! ## The total -/

/-- The flat position of a slot. -/
def posn (n : Fin 16384) (k : Fin 20) : Fin 327680 := ⟨n.val * 20 + k.val, by have := n.isLt; have := k.isLt; omega⟩

theorem flat_le (a : IVec S16384x20 32) (b : ℤ) (h : ∀ n k, (a (ix2 n k)).toInt ≤ b) (q : Fin 327680) : (flat a (ix1 q)).toInt ≤ b := by
  have hq := q.isLt
  rw [flat_at a (⟨q.val / 20, by omega⟩ : Fin 16384) (⟨q.val % 20, by omega⟩ : Fin 20) q (show q.val = q.val / 20 * 20 + q.val % 20 by omega)]
  exact h _ _

theorem total_eq (R S C : IVec S16384x20 32) (x2 : FVec Ideal S13x128 .f32) (x3 : FVec Ideal S4x128 .f32) (x4 : FVec Ideal S52x128 .f32)
    (hR : ∀ n k, (R (ix2 n k)).toInt < 13) (hS : ∀ n k, (S (ix2 n k)).toInt < 4) (hC : ∀ n k, (C (ix2 n k)).toInt < 52) :
    total R S C x2 x3 x4 = Cert.Hist.gathered R S C x2 x3 x4 := by
  funext j
  obtain ⟨n, x, rfl⟩ : ∃ (n : Fin 16384) (x : Fin 128), j = (ix2 n x : S16384x128.Idx) := ⟨j 0, j 1, funext fun a => by match a with | ⟨0, _⟩ => rfl | ⟨1, _⟩ => rfl⟩
  have e2 : ∀ k : Fin 20, slots gather_S13x128_S327680x1_S327680x128_1_0_n_n_0_1_1128 13#32 12#32 x2 (flat R) (ix2 (posn n k) x) = pick x2 (R (ix2 n k)) x := fun k =>
    (slots_at (M := 13) _ rfl rfl rfl rfl rfl 13#32 12#32 x2 (flat R) (flat_le R _ fun n k => by have := hR n k; rw [show (12#32 : BitVec 32).toInt = 12 from rfl]; omega)
      (by decide) (by decide) (by decide) (posn n k) x).trans (congrArg (fun w => pick x2 w x) (flat_at R n k (posn n k) rfl))
  have e4 : ∀ k : Fin 20, slots gather_S52x128_S327680x1_S327680x128_1_0_n_n_0_1_1128 52#32 51#32 x4 (flat C) (ix2 (posn n k) x) = pick x4 (C (ix2 n k)) x := fun k =>
    (slots_at (M := 52) _ rfl rfl rfl rfl rfl 52#32 51#32 x4 (flat C) (flat_le C _ fun n k => by have := hC n k; rw [show (51#32 : BitVec 32).toInt = 51 from rfl]; omega)
      (by decide) (by decide) (by decide) (posn n k) x).trans (congrArg (fun w => pick x4 w x) (flat_at C n k (posn n k) rfl))
  have e3 : ∀ k : Fin 20, slots gather_S4x128_S327680x1_S327680x128_1_0_n_n_0_1_1128 4#32 3#32 x3 (flat S) (ix2 (posn n k) x) = pick x3 (S (ix2 n k)) x := fun k =>
    (slots_at (M := 4) _ rfl rfl rfl rfl rfl 4#32 3#32 x3 (flat S) (flat_le S _ fun n k => by have := hS n k; rw [show (3#32 : BitVec 32).toInt = 3 from rfl]; omega)
      (by decide) (by decide) (by decide) (posn n k) x).trans (congrArg (fun w => pick x3 w x) (flat_at S n k (posn n k) rfl))
  unfold total
  rw [summed_at]
  refine (Finset.sum_congr rfl fun k _ => congrArg₂ (fun a b : EReal => a + b) (congrArg₂ (fun a b : EReal => a + b) (e2 k) (e4 k)) (e3 k)).trans ?_
  show _ = (∑ k : Fin 20, pick x2 (R (ix2 n k)) x) + (∑ k : Fin 20, pick x3 (S (ix2 n k)) x) + ∑ k : Fin 20, pick x4 (C (ix2 n k)) x
  rw [Finset.sum_add_distrib, Finset.sum_add_distrib, add_right_comm]

end Cert.Hist.Slots

end
-- ==== Proof.Algebraic.lean ====
/-
  Over the extended reals, the kernel's result and the reference's are one array: for each row and column, the sum over
  the twenty slots of the three tables' rows that the slot's indices name.
-/
module

public import proofs.«01_k».proof.Proof.Frames
public import proofs.«01_k».proof.Proof.Slots
public import proofs.«01_k».proof.Defs

@[expose] public section

noncomputable section

namespace Cert.Hist

open Idealize.ShloMosaic Idealize.ShloMosaic.TcCoe Idealize.SL.Sem
open Cert.KernelIdeal Cert.KernelIdeal.Gen

/-- The array that both leave, from the launch's memory. -/
def both (m : (ℓ : Loc nD τ sig) → Buf (Elt Ideal) ℓ) (d : Dev nD) : Vec Ideal S16384x128 .f32 :=
  gathered (ranks m d) (suits m d) (cards m d) (m ((d : Thread nD τ).loc main_arg3)) (m ((d : Thread nD τ).loc main_arg4)) (m ((d : Thread nD τ).loc main_arg5))

variable [Cert.Pre_in_tables.Facts]

theorem algebraic : Cert.algebraic_KernelIdeal_ReferenceIdeal := fun m g m' g' hp agree => by
  have hI := inTables_kernelIdeal m hp
  refine ⟨both m, ?_, ?_⟩
  · exact (θ_run (defs (F := Ideal)) _ _).mono (fun r h d => ⟨(h.1 d main_v9 (by decide)).trans (W₃_result m hI d), args_of_run m r h d⟩)
      (run_main (F := Ideal) m g (words7_lt m hI))
  · refine (θ_run (Cert.ReferenceIdeal.defs (F := Ideal)) _ _).mono (fun r h d => ⟨(h d).1.trans ?_, (h d).2⟩) (Cert.ReferenceIdeal.Value.run (F := Ideal) m' g')
    obtain ⟨a0, a1, a2, a3, a4, a5⟩ := agree d
    rw [Slots.res_eq, a0, a1, a2, a3, a4, a5]
    exact Slots.total_eq _ _ _ _ _ _ (fun n k => ((hI d).rank n k).2) (fun n k => ((hI d).suit n k).2) (fun n k => ((hI d).card n k).2)

end Cert.Hist

end
-- ==== Proof.lean ====
/-
  The proof of `Cert.Claim`: the frames of the kernel at both readings of its floats, the reference's frame, that the
  ideal kernel is the kernel's own text, and that over the extended reals the kernel's result is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_tables
public import proofs.«01_k».proof.Proof.Frames
public import proofs.«01_k».proof.Proof.Reference
public import proofs.«01_k».proof.Proof.Algebraic

@[expose] public section

noncomputable section

namespace Cert.Proof

open Cert.Hist

theorem claim : Cert.Claim :=
  ⟨Cert.Kernel.Gen.facts, Cert.KernelIdeal.Gen.facts, Cert.ReferenceIdeal.Gen.facts, Cert.Pre_in_tables.Gen.facts,
    frame_kernel, frame_kernelIdeal, frame_reference, fun m ρ _ => frame_reference m ρ trivial, trivial, algebraic⟩

end Cert.Proof

end
